-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x384CCCCD#32 ((1 / 20480 : ℝ) : EReal)

def algebraic_KernelIdeal_ReferenceIdeal_on_ordinary [hKernelIdeal : Cert.KernelIdeal.Facts] [hReferenceIdeal : Cert.ReferenceIdeal.Facts] [hOn_ordinary : Cert.On_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 20480]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v19_0) i = v0 c i)
          ∧ (∀ i : (⟨2, ![1, 20480]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v19_1) i = v1 c i)
          ∧ (∀ i : (⟨2, ![1536, 20480]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v19_2) i = v2 c i)
          ∧ (∀ i : (⟨2, ![1536, 160]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v19_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 20480]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v2_0) i = v0 c i)
          ∧ (∀ i : (⟨2, ![1, 20480]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v2_1) i = v1 c i)
          ∧ (∀ i : (⟨2, ![1536, 20480]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v2_2) i = v2 c i)
          ∧ (∀ i : (⟨2, ![1536, 160]⟩ : Shape).Idx, (Cert.On_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v2_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_ordinary : Cert.On_ordinary.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_ordinary (hKernelIdeal := hKernelIdeal) (hReferenceIdeal := hReferenceIdeal) (hOn_ordinary := hOn_ordinary)
-- ==== On_ordinary.lean ====
abbrev S3x512x20480 : Shape := ⟨3, ![3, 512, 20480]⟩
abbrev S3x512x160 : Shape := ⟨3, ![3, 512, 160]⟩
abbrev S3x512 : Shape := ⟨2, ![3, 512]⟩
abbrev S20480 : Shape := ⟨1, ![20480]⟩
abbrev S_ : Shape := ⟨0, ![]⟩
abbrev S1536x1 : Shape := ⟨2, ![1536, 1]⟩
abbrev S1x20480 : Shape := ⟨2, ![1, 20480]⟩
abbrev S1536x20480 : Shape := ⟨2, ![1536, 20480]⟩
abbrev S1536x160 : Shape := ⟨2, ![1536, 160]⟩

class Facts : Prop where
  natLt_8_32 : 8 < 32
  bcast_S_S3x512x20480 : S_.BroadcastsInDim S3x512x20480 (![] : Fin 0 → Fin S3x512x20480.rank)
  reducesTo_S3x512x20480_S3x512_d2 : S3x512x20480.ReducesTo [2] S3x512
  h_S_ : 0 < S_.numel
  bcast_S_S3x512x160 : S_.BroadcastsInDim S3x512x160 (![] : Fin 0 → Fin S3x512x160.rank)
  reducesTo_S3x512x160_S3x512_d2 : S3x512x160.ReducesTo [2] S3x512
  bcast_S_S3x512 : S_.BroadcastsInDim S3x512 (![] : Fin 0 → Fin S3x512.rank)
  bcast_S_S20480 : S_.BroadcastsInDim S20480 (![] : Fin 0 → Fin S20480.rank)
  reducesTo_S20480_S_d0 : S20480.ReducesTo [0] S_
  shapeCasts_S3x512_S1536x1 : S3x512.ShapeCasts S1536x1
  bcast_S_S1x20480 : S_.BroadcastsInDim S1x20480 (![] : Fin 0 → Fin S1x20480.rank)
  bcast_S1536x1_S1536x20480_0_1 : S1536x1.BroadcastsInDim S1536x20480 (![0, 1] : Fin 2 → Fin S1536x20480.rank)
  bcast_S1536x1_S1536x160_0_1 : S1536x1.BroadcastsInDim S1536x160 (![0, 1] : Fin 2 → Fin S1536x160.rank)

variable [Facts]

def fn_part2 {F : FTy → Type} [FloatOps F] (main_v29 : IVec S3x512 1) (main_v32 : IVec S20480 1) (main_v35 : IVec S20480 1) : IVec S1x20480 1 × IVec S1x20480 1 × IVec S1536x20480 1 × IVec S1536x160 1 :=
  let main_v36 : IVec S20480 1 := andi main_v32 main_v35
  let main_c_10 : IVec S_ 1 := constantI S_ 1 1#1
  let main_v37 : IVec S_ 1 := (fun x v => Host.reduce IntOp.andi x v reducesTo_S20480_S_d0 h_S_) main_v36 main_c_10
  let main_v38 : IVec S3x512 1 := broadcastInDim S3x512 ![] bcast_S_S3x512 main_v37
  let main_v39 : IVec S3x512 1 := andi main_v29 main_v38
  let main_v40 : IVec S1536x1 1 := shapeCast S1536x1 main_v39 shapeCasts_S3x512_S1536x1
  let main_c_11 : IVec S_ 1 := constantI S_ 1 1#1
  let main_v41 : IVec S1x20480 1 := broadcastInDim S1x20480 ![] bcast_S_S1x20480 main_c_11
  let main_c_12 : IVec S_ 1 := constantI S_ 1 1#1
  let main_v42 : IVec S1x20480 1 := broadcastInDim S1x20480 ![] bcast_S_S1x20480 main_c_12
  let main_v43 : IVec S1536x20480 1 := broadcastInDim S1536x20480 ![0, 1] bcast_S1536x1_S1536x20480_0_1 main_v40
  let main_v44 : IVec S1536x160 1 := broadcastInDim S1536x160 ![0, 1] bcast_S1536x1_S1536x160_0_1 main_v40
  (main_v41, main_v42, main_v43, main_v44)

def fn_part1 {F : FTy → Type} [FloatOps F] (main_arg3 : FVec F S3x512 .f32) (main_arg4 : FVec F S3x512 .f32) (main_arg5 : FVec F S20480 .f32) (main_arg6 : FVec F S20480 .f32) (main_v16 : IVec S3x512 1) : IVec S1x20480 1 × IVec S1x20480 1 × IVec S1536x20480 1 × IVec S1536x160 1 :=
  let main_v17 : FVec F S3x512 .f32 := Host.absf main_arg3
  let main_cst_5 : FVec F S_ .f32 := constant S_ .f32 0x49800000#32
  let main_v18 : FVec F S3x512 .f32 := broadcastInDim S3x512 ![] bcast_S_S3x512 main_cst_5
  let main_v19 : IVec S3x512 1 := cmpf .ole main_v17 main_v18
  let main_v20 : IVec S3x512 1 := andi main_v16 main_v19
  let main_v21 : FVec F S3x512 .f32 := Host.absf main_arg4
  let main_cst_6 : FVec F S_ .f32 := constant S_ .f32 0x49800000#32
  let main_v22 : FVec F S3x512 .f32 := broadcastInDim S3x512 ![] bcast_S_S3x512 main_cst_6
  let main_v23 : IVec S3x512 1 := cmpf .ole main_v21 main_v22
  let main_v24 : IVec S3x512 1 := andi main_v20 main_v23
  let main_v25 : FVec F S3x512 .f32 := mulf main_arg3 main_arg4
  let main_v26 : FVec F S3x512 .f32 := Host.absf main_v25
  let main_cst_7 : FVec F S_ .f32 := constant S_ .f32 0x40000000#32
  let main_v27 : FVec F S3x512 .f32 := broadcastInDim S3x512 ![] bcast_S_S3x512 main_cst_7
  let main_v28 : IVec S3x512 1 := cmpf .ole main_v26 main_v27
  let main_v29 : IVec S3x512 1 := andi main_v24 main_v28
  let main_v30 : FVec F S20480 .f32 := Host.absf main_arg5
  let main_cst_8 : FVec F S_ .f32 := constant S_ .f32 0x49800000#32
  let main_v31 : FVec F S20480 .f32 := broadcastInDim S20480 ![] bcast_S_S20480 main_cst_8
  let main_v32 : IVec S20480 1 := cmpf .ole main_v30 main_v31
  let main_v33 : FVec F S20480 .f32 := Host.absf main_arg6
  let main_cst_9 : FVec F S_ .f32 := constant S_ .f32 0x49800000#32
  let main_v34 : FVec F S20480 .f32 := broadcastInDim S20480 ![] bcast_S_S20480 main_cst_9
  let main_v35 : IVec S20480 1 := cmpf .ole main_v33 main_v34
  fn_part2 (F := F) main_v29 main_v32 main_v35

def fn {F : FTy → Type} [FloatOps F] (main_arg0 : IVec S3x512x20480 8) (main_arg1 : FVec F S3x512x160 .f32) (main_arg2 : IVec S3x512x20480 8) (main_arg3 : FVec F S3x512 .f32) (main_arg4 : FVec F S3x512 .f32) (main_arg5 : FVec F S20480 .f32) (main_arg6 : FVec F S20480 .f32) : IVec S1x20480 1 × IVec S1x20480 1 × IVec S1536x20480 1 × IVec S1536x160 1 :=
  let main_v0 : IVec S3x512x20480 32 := (extsi 32 · natLt_8_32) main_arg0
  let main_c : IVec S_ 32 := constantI S_ 32 127#32
  let main_v1 : IVec S3x512x20480 32 := broadcastInDim S3x512x20480 ![] bcast_S_S3x512x20480 main_c
  let main_v2 : IVec S3x512x20480 32 := andi main_v0 main_v1
  let main_c_0 : IVec S_ 32 := constantI S_ 32 126#32
  let main_v3 : IVec S3x512x20480 32 := broadcastInDim S3x512x20480 ![] bcast_S_S3x512x20480 main_c_0
  let main_v4 : IVec S3x512x20480 1 := cmpi .sle main_v2 main_v3
  let main_v5 : IVec S3x512x20480 32 := (extsi 32 · natLt_8_32) main_arg2
  let main_c_1 : IVec S_ 32 := constantI S_ 32 127#32
  let main_v6 : IVec S3x512x20480 32 := broadcastInDim S3x512x20480 ![] bcast_S_S3x512x20480 main_c_1
  let main_v7 : IVec S3x512x20480 32 := andi main_v5 main_v6
  let main_c_2 : IVec S_ 32 := constantI S_ 32 123#32
  let main_v8 : IVec S3x512x20480 32 := broadcastInDim S3x512x20480 ![] bcast_S_S3x512x20480 main_c_2
  let main_v9 : IVec S3x512x20480 1 := cmpi .sle main_v7 main_v8
  let main_v10 : IVec S3x512x20480 1 := andi main_v4 main_v9
  let main_c_3 : IVec S_ 1 := constantI S_ 1 1#1
  let main_v11 : IVec S3x512 1 := (fun x v => Host.reduce IntOp.andi x v reducesTo_S3x512x20480_S3x512_d2 h_S_) main_v10 main_c_3
  let main_v12 : FVec F S3x512x160 .f32 := Host.absf main_arg1
  let main_cst : FVec F S_ .f32 := constant S_ .f32 0x49800000#32
  let main_v13 : FVec F S3x512x160 .f32 := broadcastInDim S3x512x160 ![] bcast_S_S3x512x160 main_cst
  let main_v14 : IVec S3x512x160 1 := cmpf .ole main_v12 main_v13
  let main_c_4 : IVec S_ 1 := constantI S_ 1 1#1
  let main_v15 : IVec S3x512 1 := (fun x v => Host.reduce IntOp.andi x v reducesTo_S3x512x160_S3x512_d2 h_S_) main_v14 main_c_4
  let main_v16 : IVec S3x512 1 := andi main_v11 main_v15
  fn_part1 (F := F) main_arg3 main_arg4 main_arg5 main_arg6 main_v16
-- ==== Kernel.lean ====
abbrev S3x512x20480 : Shape := ⟨3, ![3, 512, 20480]⟩
abbrev S3x512x160 : Shape := ⟨3, ![3, 512, 160]⟩
abbrev S3x512 : Shape := ⟨2, ![3, 512]⟩
abbrev S20480 : Shape := ⟨1, ![20480]⟩
abbrev S_ : Shape := ⟨0, ![]⟩
abbrev S1536x20480 : Shape := ⟨2, ![1536, 20480]⟩
abbrev S1536x160 : Shape := ⟨2, ![1536, 160]⟩
abbrev S1536x1 : Shape := ⟨2, ![1536, 1]⟩
abbrev S1x20480 : Shape := ⟨2, ![1, 20480]⟩
abbrev S32x20480 : Shape := ⟨2, ![32, 20480]⟩
abbrev S32x160 : Shape := ⟨2, ![32, 160]⟩
abbrev S32x1 : Shape := ⟨2, ![32, 1]⟩
abbrev S8x20480 : Shape := ⟨2, ![8, 20480]⟩
abbrev S32x128 : Shape := ⟨2, ![32, 128]⟩
abbrev S1x128 : Shape := ⟨2, ![1, 128]⟩
abbrev S8x128 : Shape := ⟨2, ![8, 128]⟩
abbrev S32 : Shape := ⟨1, ![32]⟩

abbrev nBuf : Space → Nat
  | .hbm => 34
  | .vmem => 23
  | .smem => 0
  | _ => 0

abbrev bufTy : (tb : Table) → Fin (tcTables nBuf tb) → BufTy
  | .hbm, ⟨0, _⟩ => ⟨S3x512x20480, .i8⟩
  | .hbm, ⟨1, _⟩ => ⟨S3x512x160, .f32⟩
  | .hbm, ⟨2, _⟩ => ⟨S3x512x20480, .i8⟩
  | .hbm, ⟨3, _⟩ => ⟨S3x512, .f32⟩
  | .hbm, ⟨4, _⟩ => ⟨S3x512, .f32⟩
  | .hbm, ⟨5, _⟩ => ⟨S20480, .f32⟩
  | .hbm, ⟨6, _⟩ => ⟨S20480, .f32⟩
  | .hbm, ⟨7, _⟩ => ⟨S3x512x20480, .fp8e4m3⟩
  | .hbm, ⟨8, _⟩ => ⟨S3x512x20480, .fp8e5m2⟩
  | .hbm, ⟨9, _⟩ => ⟨S_, .f32⟩
  | .hbm, ⟨10, _⟩ => ⟨S20480, .f32⟩
  | .hbm, ⟨11, _⟩ => ⟨S20480, .i1⟩
  | .hbm, ⟨12, _⟩ => ⟨S_, .f32⟩
  | .hbm, ⟨13, _⟩ => ⟨S20480, .f32⟩
  | .hbm, ⟨14, _⟩ => ⟨S20480, .f32⟩
  | .hbm, ⟨15, _⟩ => ⟨S_, .f32⟩
  | .hbm, ⟨16, _⟩ => ⟨S20480, .f32⟩
  | .hbm, ⟨17, _⟩ => ⟨S20480, .f32⟩
  | .hbm, ⟨18, _⟩ => ⟨S20480, .f32⟩
  | .hbm, ⟨19, _⟩ => ⟨S1536x20480, .fp8e4m3⟩
  | .hbm, ⟨20, _⟩ => ⟨S1536x160, .f32⟩
  | .hbm, ⟨21, _⟩ => ⟨S1536x20480, .fp8e5m2⟩
  | .hbm, ⟨22, _⟩ => ⟨S1536x1, .f32⟩
  | .hbm, ⟨23, _⟩ => ⟨S1536x1, .f32⟩
  | .hbm, ⟨24, _⟩ => ⟨S1x20480, .f32⟩
  | .hbm, ⟨25, _⟩ => ⟨S_, .f32⟩
  | .hbm, ⟨26, _⟩ => ⟨S20480, .f32⟩
  | .hbm, ⟨27, _⟩ => ⟨S20480, .f32⟩
  | .hbm, ⟨28, _⟩ => ⟨S1x20480, .f32⟩
  | .hbm, ⟨29, _⟩ => ⟨S1x20480, .f32⟩
  | .hbm, ⟨30, _⟩ => ⟨S1x20480, .f32⟩
  | .hbm, ⟨31, _⟩ => ⟨S1x20480, .f32⟩
  | .hbm, ⟨32, _⟩ => ⟨S1536x20480, .fp8e5m2⟩
  | .hbm, ⟨33, _⟩ => ⟨S1536x160, .f32⟩
  | .local _ .vmem, ⟨0, _⟩ => ⟨S32x20480, .fp8e4m3⟩
  | .local _ .vmem, ⟨1, _⟩ => ⟨S32x20480, .fp8e4m3⟩
  | .local _ .vmem, ⟨2, _⟩ => ⟨S32x160, .f32⟩
  | .local _ .vmem, ⟨3, _⟩ => ⟨S32x160, .f32⟩
  | .local _ .vmem, ⟨4, _⟩ => ⟨S32x20480, .fp8e5m2⟩
  | .local _ .vmem, ⟨5, _⟩ => ⟨S32x20480, .fp8e5m2⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S1x20480, .f32⟩
  | .local _ .vmem, ⟨11, _⟩ => ⟨S1x20480, .f32⟩
  | .local _ .vmem, ⟨12, _⟩ => ⟨S1x20480, .f32⟩
  | .local _ .vmem, ⟨13, _⟩ => ⟨S1x20480, .f32⟩
  | .local _ .vmem, ⟨14, _⟩ => ⟨S1x20480, .f32⟩
  | .local _ .vmem, ⟨15, _⟩ => ⟨S32x20480, .fp8e5m2⟩
  | .local _ .vmem, ⟨16, _⟩ => ⟨S32x20480, .fp8e5m2⟩
  | .local _ .vmem, ⟨17, _⟩ => ⟨S32x160, .f32⟩
  | .local _ .vmem, ⟨18, _⟩ => ⟨S32x160, .f32⟩
  | .local _ .vmem, ⟨19, _⟩ => ⟨S32x20480, .f32⟩
  | .local _ .vmem, ⟨20, _⟩ => ⟨S32x160, .f32⟩
  | .local _ .vmem, ⟨21, _⟩ => ⟨S8x20480, .f32⟩
  | .local _ .vmem, ⟨22, _⟩ => ⟨S8x20480, .f32⟩
  | _, _ => ⟨S3x512x20480, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v15326 : BitVec 1 := Scalar.cmpi .eq arg0 c47_i32
  let v15327 : BitVec 32 := Scalar.extui v15326
  let c0_i32_5964 : BitVec 32 := 0#32
  let v15328 : BitVec 1 := Scalar.cmpi .ne v15327 c0_i32_5964
  v15328

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x20480 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x20480 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20480 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20480 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x20480 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x20480 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x160 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 20480 : ℝ) : EReal)
  | _ => none
-- ==== ReferenceIdeal.lean ====
abbrev S3x512x20480 : Shape := ⟨3, ![3, 512, 20480]⟩
abbrev S3x512x160 : Shape := ⟨3, ![3, 512, 160]⟩
abbrev S3x512 : Shape := ⟨2, ![3, 512]⟩
abbrev S20480 : Shape := ⟨1, ![20480]⟩
abbrev S1x20480 : Shape := ⟨2, ![1, 20480]⟩
abbrev S1536x20480 : Shape := ⟨2, ![1536, 20480]⟩
abbrev S1536x160 : Shape := ⟨2, ![1536, 160]⟩
abbrev S3x512x160x128 : Shape := ⟨4, ![3, 512, 160, 128]⟩
abbrev S3x512x160x1 : Shape := ⟨4, ![3, 512, 160, 1]⟩
abbrev S3x512x1 : Shape := ⟨3, ![3, 512, 1]⟩
abbrev S1x1x20480 : Shape := ⟨3, ![1, 1, 20480]⟩
abbrev S3x512x160x254 : Shape := ⟨4, ![3, 512, 160, 254]⟩

abbrev nBuf : Space → Nat
  | .hbm => 13
  | .vmem => 11
  | .smem => 0
  | _ => 0

abbrev bufTy : (tb : Table) → Fin (tcTables nBuf tb) → BufTy
  | .hbm, ⟨0, _⟩ => ⟨S3x512x20480, .i8⟩
  | .hbm, ⟨1, _⟩ => ⟨S3x512x160, .f32⟩
  | .hbm, ⟨2, _⟩ => ⟨S3x512x20480, .i8⟩
  | .hbm, ⟨3, _⟩ => ⟨S3x512, .f32⟩
  | .hbm, ⟨4, _⟩ => ⟨S3x512, .f32⟩
  | .hbm, ⟨5, _⟩ => ⟨S20480, .f32⟩
  | .hbm, ⟨6, _⟩ => ⟨S20480, .f32⟩
  | .hbm, ⟨7, _⟩ => ⟨S3x512x20480, .fp8e4m3⟩
  | .hbm, ⟨8, _⟩ => ⟨S3x512x20480, .fp8e5m2⟩
  | .hbm, ⟨9, _⟩ => ⟨S1x20480, .f32⟩
  | .hbm, ⟨10, _⟩ => ⟨S1x20480, .f32⟩
  | .hbm, ⟨11, _⟩ => ⟨S1536x20480, .fp8e5m2⟩
  | .hbm, ⟨12, _⟩ => ⟨S1536x160, .f32⟩
  | .local _ .vmem, ⟨0, _⟩ => ⟨S3x512x20480, .fp8e4m3⟩
  | .local _ .vmem, ⟨1, _⟩ => ⟨S3x512x160, .f32⟩
  | .local _ .vmem, ⟨2, _⟩ => ⟨S3x512x20480, .fp8e5m2⟩
  | .local _ .vmem, ⟨3, _⟩ => ⟨S3x512, .f32⟩
  | .local _ .vmem, ⟨4, _⟩ => ⟨S3x512, .f32⟩
  | .local _ .vmem, ⟨5, _⟩ => ⟨S20480, .f32⟩
  | .local _ .vmem, ⟨6, _⟩ => ⟨S20480, .f32⟩
  | .local _ .vmem, ⟨7, _⟩ => ⟨S1x20480, .f32⟩
  | .local _ .vmem, ⟨8, _⟩ => ⟨S1x20480, .f32⟩
  | .local _ .vmem, ⟨9, _⟩ => ⟨S1536x20480, .fp8e5m2⟩
  | .local _ .vmem, ⟨10, _⟩ => ⟨S1536x160, .f32⟩
  | _, _ => ⟨S3x512x20480, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x512x20480 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x20480 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x20480 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x20480 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x20480 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelHand.Body.lean ====
/- The kernel's body written as loops over its 160 blocks of 128 columns.

   The printed body repeats three stretches of statements once per block (the sums, the differences with their
   largest magnitudes, and the codes). Here each stretch is one definition with the block's number as its argument,
   and `body` is the whole body in these terms. Every definition takes the rest of the program as its last argument,
   so that a stretch unfolds to the printed statements in their order. -/
module

public import proofs.«01_k».proof.Kernel

@[expose] public section

set_option maxRecDepth 100000
set_option synthInstance.maxSize 4096

noncomputable section

namespace Cert.Kernel.Body

open Idealize.ShloMosaic Idealize.SL.Sem
open Facts Facts₀ K0.Facts₀ Shapes1.Facts₀

variable {F : FTy → Type} [FloatOps F] [Facts]

/-! ## The rectangles of block `b` -/

theorem inbC (b : ℕ) (hb : b < 160) : ∀ a, (![0, 128 * b] : Fin 2 → Nat) a + S32x128.size a ≤ S32x20480.size a := by
  intro a; fin_cases a <;> simp [S32x128, S32x20480] <;> omega
theorem inbR (b : ℕ) (hb : b < 160) : ∀ a, (![0, 128 * b] : Fin 2 → Nat) a + S1x128.size a ≤ S1x20480.size a := by
  intro a; fin_cases a <;> simp [S1x128, S1x20480] <;> omega
theorem inbA (b : ℕ) (hb : b < 160) : ∀ a, (![0, 128 * b] : Fin 2 → Nat) a + S8x128.size a ≤ S8x20480.size a := by
  intro a; fin_cases a <;> simp [S8x128, S8x20480] <;> omega
theorem inbN (b : ℕ) (hb : b < 160) : ∀ a, (![0, b] : Fin 2 → Nat) a + S32x1.size a ≤ S32x160.size a := by
  intro a; fin_cases a <;> simp [S32x1, S32x160] <;> omega
theorem slS (b : ℕ) (hb : b < 160) : S32x160.Slices ![0, b] S32x1 :=
  ⟨rfl, by intro a; fin_cases a <;> simp [S32x1, S32x160] <;> omega⟩

/-- Block `b` of 32 rows. -/
@[reducible] def rC (b : ℕ) (hb : b < 160) : Rect S32x20480 := Rect.unit (s := S32x20480) ![0, 128 * b] S32x128.size (inbC b hb)
/-- Block `b` of one row. -/
@[reducible] def rR (b : ℕ) (hb : b < 160) : Rect S1x20480 := Rect.unit (s := S1x20480) ![0, 128 * b] S1x128.size (inbR b hb)
/-- Block `b` of 8 rows. -/
@[reducible] def rA (b : ℕ) (hb : b < 160) : Rect S8x20480 := Rect.unit (s := S8x20480) ![0, 128 * b] S8x128.size (inbA b hb)
/-- Column `b` of the 160 block numbers. -/
@[reducible] def rN (b : ℕ) (hb : b < 160) : Rect S32x160 := Rect.unit (s := S32x160) ![0, b] S32x1.size (inbN b hb)

theorem packed (b : ℕ) (hb : b < 160) : (rC b hb).PackedRows (EltTy.packing .fp8e5m2) :=
  Or.inr ⟨by decide, rfl, Or.inl ⟨dvd_zero _, by change (4 : ℕ) ∣ 32; decide⟩⟩

abbrev P (F : FTy → Type) [FloatOps F] [Facts] (α : Type) := Prog (TpuEff nD τ sig (Elt F) Λ₀ .tc) α

variable {α : Type}

/-! ## Loads and stores -/

@[reducible] def ldC {e : EltTy} (a : Memref sig .tc .vmem S32x20480 e) (b : ℕ) (hb : b < 160) (κ : Vec F S32x128 e → P F α) : P F α :=
  .op (.load a (rC b hb).toLoadRect (View.loadsAt_vmem h_S32x128)) κ
@[reducible] def ldR (a : Memref sig .tc .vmem S1x20480 .f32) (b : ℕ) (hb : b < 160) (κ : Vec F S1x128 .f32 → P F α) : P F α :=
  .op (.load a (rR b hb).toLoadRect (View.loadsAt_vmem h_S1x128)) κ
@[reducible] def ldA (a : Memref sig .tc .vmem S8x20480 .f32) (b : ℕ) (hb : b < 160) (κ : Vec F S8x128 .f32 → P F α) : P F α :=
  .op (.load a (rA b hb).toLoadRect (View.loadsAt_vmem h_S8x128)) κ
@[reducible] def ldN (a : Memref sig .tc .vmem S32x160 .f32) (b : ℕ) (hb : b < 160) (κ : Vec F S32x1 .f32 → P F α) : P F α :=
  .op (.load a (rN b hb).toLoadRect (View.loadsAt_vmem h_S32x1)) κ
@[reducible] def stA (a : Memref sig .tc .vmem S8x20480 .f32) (b : ℕ) (hb : b < 160) (v : Vec F S8x128 .f32) (κ : P F α) : P F α :=
  .op (.store a (rA b hb) (shapeCast S8x128 v shapeCasts_S8x128_S8x128) Finset.univ (View.stores_vmem_bits_univ h_S8x128 rfl) (.inl rfl)) fun _ => κ
@[reducible] def stC (a : Memref sig .tc .vmem S32x20480 .f32) (b : ℕ) (hb : b < 160) (v : Vec F S32x128 .f32) (κ : P F α) : P F α :=
  .op (.store a (rC b hb) (shapeCast S32x128 v shapeCasts_S32x128_S32x128) Finset.univ (View.stores_vmem_bits_univ h_S32x128 rfl) (.inl rfl)) fun _ => κ
@[reducible] def stN (a : Memref sig .tc .vmem S32x160 .f32) (b : ℕ) (hb : b < 160) (v : Vec F S32x1 .f32) (κ : P F α) : P F α :=
  .op (.store a (rN b hb) (shapeCast S32x1 v shapeCasts_S32x1_S32x1) Finset.univ (View.stores_vmem_bits_univ h_S32x1 rfl) (.inl rfl)) fun _ => κ
@[reducible] def stQ (a : Memref sig .tc .vmem S32x20480 .fp8e5m2) (ha : a.IsWhole) (b : ℕ) (hb : b < 160) (v : Vec F S32x128 .fp8e5m2) (κ : P F α) : P F α :=
  .op (.store a (rC b hb) v Finset.univ (View.stores_vmem h_S32x128 (ha.storeExact_slice rfl _ (packed b hb)) (fun _ => rfl)) (.inl rfl)) fun _ => κ

@[reducible] def r31 : Rect S32x1 := Rect.unit (s := S32x1) ![0, 0] S32x1.size inb_S32x1_S32x1_0_0
@[reducible] def r160 : Rect S32x160 := Rect.unit (s := S32x160) ![0, 0] S32x160.size inb_S32x160_S32x160_0_0
@[reducible] def r8 : Rect S8x20480 := Rect.unit (s := S8x20480) ![0, 0] S8x20480.size inb_S8x20480_S8x20480_0_0
@[reducible] def r1 : Rect S1x20480 := Rect.unit (s := S1x20480) ![0, 0] S1x20480.size inb_S1x20480_S1x20480_0_0

@[reducible] def ld31 (a : Memref sig .tc .vmem S32x1 .f32) (κ : Vec F S32x1 .f32 → P F α) : P F α :=
  .op (.load a r31.toLoadRect (View.loadsAt_vmem h_S32x1)) κ
@[reducible] def ld160 (a : Memref sig .tc .vmem S32x160 .f32) (κ : Vec F S32x160 .f32 → P F α) : P F α :=
  .op (.load a r160.toLoadRect (View.loadsAt_vmem h_S32x160)) κ
@[reducible] def ld8 (a : Memref sig .tc .vmem S8x20480 .f32) (κ : Vec F S8x20480 .f32 → P F α) : P F α :=
  .op (.load a r8.toLoadRect (View.loadsAt_vmem h_S8x20480)) κ
@[reducible] def ld1 (a : Memref sig .tc .vmem S1x20480 .f32) (κ : Vec F S1x20480 .f32 → P F α) : P F α :=
  .op (.load a r1.toLoadRect (View.loadsAt_vmem h_S1x20480)) κ
@[reducible] def st160 (a : Memref sig .tc .vmem S32x160 .f32) (v : Vec F S32x160 .f32) (κ : P F α) : P F α :=
  .op (.store a r160 v Finset.univ (View.stores_vmem_bits_univ h_S32x160 rfl) (.inl rfl)) fun _ => κ
@[reducible] def st8 (a : Memref sig .tc .vmem S8x20480 .f32) (v : Vec F S8x20480 .f32) (κ : P F α) : P F α :=
  .op (.store a r8 v Finset.univ (View.stores_vmem_bits_univ h_S8x20480 rfl) (.inl rfl)) fun _ => κ
@[reducible] def st1 (a : Memref sig .tc .vmem S1x20480 .f32) (v : Vec F S1x20480 .f32) (κ : P F α) : P F α :=
  .op (.store a r1 v Finset.univ (View.stores_vmem_bits_univ h_S1x20480 rfl) (.inl rfl)) fun _ => κ

/-! ## The values of one block -/

/-- A block's dy codes as floats. -/
def qv (x : Vec F S32x128 .fp8e5m2) : FVec F S32x128 .f32 := extf .f32 (shapeCast S32x128 x shapeCasts_S32x128_S32x128) bitsLt_fp8e5m2_f32
/-- Column `b` of a [32, 160] array, repeated along the block's columns. -/
def colv (v : FVec F S32x160 .f32) (b : ℕ) (hb : b < 160) : FVec F S32x128 .f32 :=
  broadcastTo S32x128 (extractStridedSlice S32x1 ![0, b] v (slS b hb)) broadcasts_S32x1_S32x128
/-- A row of a block, repeated along the tokens. -/
def rowv (x : Vec F S1x128 .f32) : FVec F S32x128 .f32 := broadcastTo S32x128 (shapeCast S1x128 x shapeCasts_S1x128_S1x128) broadcasts_S1x128_S32x128
/-- A column of the tokens, repeated along the block's columns. -/
def tokv (v : FVec F S32x1 .f32) : FVec F S32x128 .f32 := broadcastTo S32x128 v broadcasts_S32x1_S32x128
/-- A block's normalised activations: `(codes · scale − beta) · a`. -/
def xh (v8 : FVec F S32x160 .f32) (b : ℕ) (hb : b < 160) (y : Vec F S32x128 .fp8e4m3) (be a : Vec F S1x128 .f32) : FVec F S32x128 .f32 :=
  mulf (subf (mulf (extf .f32 (shapeCast S32x128 y shapeCasts_S32x128_S32x128) bitsLt_fp8e4m3_f32) (colv v8 b hb)) (rowv be)) (rowv a)
/-- 32 rows summed to 8. -/
def fold (x : FVec F S32x128 .f32) : FVec F S8x128 .f32 :=
  addf (addf (addf (extractStridedSlice S8x128 ![0, 0] x slices_S32x128_o0_0_S8x128) (extractStridedSlice S8x128 ![8, 0] x slices_S32x128_o8_0_S8x128))
    (extractStridedSlice S8x128 ![16, 0] x slices_S32x128_o16_0_S8x128)) (extractStridedSlice S8x128 ![24, 0] x slices_S32x128_o24_0_S8x128)
/-- A token's mean from its 128 partial sums. -/
def mean (x : FVec F S32x128 .f32) : FVec F S32x1 .f32 :=
  mulf (shapeCast S32x1 (multiReduction .add [1] S32 x 0x00000000#32 reduces_S32x128_S32 (.inl rfl) rfl) shapeCasts_S32_S32x1)
    (broadcast S32x1 (Scalar.ofBits .f32 0x384CCCCD#32))
/-- The largest magnitude of each row of a block. -/
def rmax (x : FVec F S32x128 .f32) : FVec F S32x1 .f32 :=
  shapeCast S32x1 (multiReduction .maximumf [1] S32 (absf x) 0xFF800000#32 reduces_S32x128_S32 (.inl rfl) rfl) shapeCasts_S32_S32x1
/-- `q · gamma − m − xh · n`. -/
def zv (q ga : FVec F S32x128 .f32) (x : FVec F S32x128 .f32) (m n : FVec F S32x1 .f32) : FVec F S32x128 .f32 :=
  subf (subf (mulf q ga) (tokv m)) (mulf x (tokv n))

/-! ## The exponents and factors -/

/-- One step of the search for the exponent field: `f + k` where the power of two with that field is at most `t`. -/
def probe (t : FVec F S32x160 .f32) (k : BitVec 32) (f : IVec S32x160 32) : IVec S32x160 32 :=
  select (cmpf .oge t (bitcastToFloat .f32 (shli (addi f (broadcast S32x160 k)) (broadcast S32x160 23#32)))) (addi f (broadcast S32x160 k)) f
/-- The exponent field by eight such steps. -/
def field (t : FVec F S32x160 .f32) : IVec S32x160 32 :=
  probe t 1#32 (probe t 2#32 (probe t 4#32 (probe t 8#32 (probe t 16#32 (probe t 32#32 (probe t 64#32 (probe t 128#32 (broadcast S32x160 0#32))))))))
/-- The blocks' exponents. -/
def expo (t : FVec F S32x160 .f32) : IVec S32x160 32 :=
  select (cmpf .oeq t (broadcast S32x160 (Scalar.ofBits .f32 0x00000000#32))) (broadcast S32x160 0#32) (subi (field t) (broadcast S32x160 126#32))
/-- The scaled largest magnitudes. -/
def tv (g : FVec F S32x1 .f32) (am : FVec F S32x160 .f32) : FVec F S32x160 .f32 :=
  mulf (mulf am (broadcastTo S32x160 (absf g) broadcasts_S32x1_S32x160)) (broadcast S32x160 (Scalar.ofBits .f32 0x37924925#32))
/-- `2^e`. -/
def pow2 (e : IVec S32x160 32) : FVec F S32x160 .f32 := bitcastToFloat .f32 (shli (addi e (broadcast S32x160 127#32)) (broadcast S32x160 23#32))
/-- `2^(−e)`. -/
def pow2n (e : IVec S32x160 32) : FVec F S32x160 .f32 := bitcastToFloat .f32 (shli (subi (broadcast S32x160 127#32) e) (broadcast S32x160 23#32))
/-- The codes' factors. -/
def fac (g : FVec F S32x1 .f32) (e : IVec S32x160 32) : FVec F S32x160 .f32 :=
  minimumf (broadcast S32x160 (Scalar.ofBits .f32 0x7F000000#32))
    (maximumf (broadcast S32x160 (Scalar.ofBits .f32 0xFF000000#32)) (mulf (pow2n e) (broadcastTo S32x160 g broadcasts_S32x1_S32x160)))
/-- A block's codes. -/
def code (z f : FVec F S32x128 .f32) : FVec F S32x128 .fp8e5m2 :=
  truncf .fp8e5m2 (minimumf (broadcast S32x128 (Scalar.ofBits .f32 0x47600000#32))
    (maximumf (broadcast S32x128 (Scalar.ofBits .f32 0xC7600000#32)) (mulf z f))) bitsLt_fp8e5m2_f32
/-- 8 rows summed to one. -/
def last (x : Vec F S8x20480 .f32) : FVec F S1x20480 .f32 :=
  shapeCast S1x20480 (multiReduction .add [0] S20480 x 0x00000000#32 reduces_S8x20480_S20480 (.inl rfl) rfl) shapeCasts_S20480_S1x20480

/-! ## The loops -/

section
variable (arg1 : Memref sig .tc .vmem S32x20480 .fp8e4m3) (arg3 : Memref sig .tc .vmem S32x20480 .fp8e5m2)
  (arg6 arg7 arg8 : Memref sig .tc .vmem S1x20480 .f32) (arg15 arg16 : Memref sig .tc .vmem S8x20480 .f32)
  (v6 : FVec F S32x128 .f32) (v8 : FVec F S32x160 .f32)

/-- Block `b` of the first pass: both accumulators, and the running sums over the row. -/
def blk1 (b : ℕ) (hb : b < 160) (cg cgx : FVec F S32x128 .f32) (κ : FVec F S32x128 .f32 → FVec F S32x128 .f32 → P F α) : P F α :=
  ldC arg3 b hb fun q => ldC arg1 b hb fun y => ldR arg8 b hb fun be => ldR arg7 b hb fun a => ldR arg6 b hb fun ga =>
  ldA arg16 b hb fun w => ldA arg16 b hb fun _ => stA arg16 b hb (addf w (fold (mulf (qv q) v6))) <|
  ldA arg15 b hb fun w' => ldA arg15 b hb fun _ => stA arg15 b hb (addf w' (fold (mulf (mulf (qv q) v6) (xh v8 b hb y be a)))) <|
  κ (addf cg (mulf (qv q) (rowv ga))) (addf cgx (mulf (mulf (qv q) (rowv ga)) (xh v8 b hb y be a)))

/-- Blocks `b, b+1, …, b+n-1` of the first pass. -/
def blks1 : (n b : ℕ) → (b + n ≤ 160) → FVec F S32x128 .f32 → FVec F S32x128 .f32 → (FVec F S32x128 .f32 → FVec F S32x128 .f32 → P F α) → P F α
  | 0, _, _, cg, cgx, κ => κ cg cgx
  | n + 1, b, h, cg, cgx, κ => blk1 arg1 arg3 arg6 arg7 arg8 arg15 arg16 v6 v8 b (by omega) cg cgx fun cg cgx => blks1 n (b + 1) (by omega) cg cgx κ
end

section
variable (arg1 : Memref sig .tc .vmem S32x20480 .fp8e4m3) (arg3 : Memref sig .tc .vmem S32x20480 .fp8e5m2)
  (arg6 arg7 arg8 : Memref sig .tc .vmem S1x20480 .f32) (arg13 : Memref sig .tc .vmem S32x20480 .f32) (arg14 : Memref sig .tc .vmem S32x160 .f32)
  (v8 : FVec F S32x160 .f32) (m n : FVec F S32x1 .f32)

/-- Block `b` of the second pass: the unscaled gradient and its largest magnitudes. -/
def blk2 (b : ℕ) (hb : b < 160) (κ : P F α) : P F α :=
  ldC arg3 b hb fun q => ldR arg6 b hb fun ga => ldC arg1 b hb fun y => ldR arg8 b hb fun be => ldR arg7 b hb fun a =>
  ldC arg13 b hb fun _ => stC arg13 b hb (zv (qv q) (rowv ga) (xh v8 b hb y be a) m n) <|
  ldN arg14 b hb fun _ => stN arg14 b hb (rmax (zv (qv q) (rowv ga) (xh v8 b hb y be a) m n)) κ

/-- Blocks `b, …, b+n-1` of the second pass. -/
def blks2 : (k b : ℕ) → (b + k ≤ 160) → P F α → P F α
  | 0, _, _, κ => κ
  | k + 1, b, h, κ => blk2 arg1 arg3 arg6 arg7 arg8 arg13 arg14 v8 m n b (by omega) (blks2 k (b + 1) (by omega) κ)
end

section
variable (arg11 : Memref sig .tc .vmem S32x20480 .fp8e5m2) (harg11 : arg11.IsWhole) (arg13 : Memref sig .tc .vmem S32x20480 .f32) (f : FVec F S32x160 .f32)

/-- Block `b` of the third pass: the codes. -/
def blk3 (b : ℕ) (hb : b < 160) (κ : P F α) : P F α :=
  ldC arg13 b hb fun z => ldC arg11 b hb fun _ => stQ arg11 harg11 b hb (code z (colv f b hb)) κ

/-- Blocks `b, …, b+n-1` of the third pass. -/
def blks3 : (k b : ℕ) → (b + k ≤ 160) → P F α → P F α
  | 0, _, _, κ => κ
  | k + 1, b, h, κ => blk3 arg11 harg11 arg13 f b (by omega) (blks3 k (b + 1) (by omega) κ)
end

/-! ## The whole body -/

variable (i : grid0.Coords) (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

/-- The body from its first pass on. -/
def passes (κ : P F α) : P F α :=
  ld31 arg4 fun s => ld160 arg2 fun ys =>
  blks1 arg1 arg3 arg6 arg7 arg8 arg15 arg16 (tokv (shapeCast S32x1 (shapeCast S32x1 s shapeCasts_S32x1_S32x1) shapeCasts_S32x1_S32x1)) (shapeCast S32x160 ys shapeCasts_S32x160_S32x160)
    160 0 (by omega) (broadcast S32x128 (Scalar.ofBits .f32 0x00000000#32)) (broadcast S32x128 (Scalar.ofBits .f32 0x00000000#32)) fun cg cgx =>
  blks2 arg1 arg3 arg6 arg7 arg8 arg13 arg14 (shapeCast S32x160 ys shapeCasts_S32x160_S32x160) (mean cg) (mean cgx) 160 0 (by omega) <|
  ld31 arg4 fun s => ld31 arg5 fun r => ld160 arg14 fun am => ld160 arg12 fun _ =>
  st160 arg12 (pow2 (expo (tv (mulf (shapeCast S32x1 s shapeCasts_S32x1_S32x1) (shapeCast S32x1 r shapeCasts_S32x1_S32x1)) am))) <|
  blks3 arg11 harg11 arg13 (fac (mulf (shapeCast S32x1 s shapeCasts_S32x1_S32x1) (shapeCast S32x1 r shapeCasts_S32x1_S32x1))
    (expo (tv (mulf (shapeCast S32x1 s shapeCasts_S32x1_S32x1) (shapeCast S32x1 r shapeCasts_S32x1_S32x1)) am))) 160 0 (by omega) κ

/-- The accumulators zeroed, at the first point. -/
def zeroed (κ : P F α) : P F α :=
  ld8 arg15 fun _ => st8 arg15 (shapeCast S8x20480 (broadcast S8x20480 (Scalar.ofBits .f32 0x00000000#32)) shapeCasts_S8x20480_S8x20480) <|
  ld8 arg16 fun _ => st8 arg16 (shapeCast S8x20480 (broadcast S8x20480 (Scalar.ofBits .f32 0x00000000#32)) shapeCasts_S8x20480_S8x20480) κ

/-- The accumulators summed over their 8 rows into the results, at the last point. -/
def lasts : P F PUnit :=
  ld8 arg15 fun w => ld1 arg9 fun _ => st1 arg9 (last w) <|
  ld8 arg16 fun w => ld1 arg10 fun _ => st1 arg10 (last w) <| .ret ⟨⟩

/-- The body after the accumulators' first zeroing. -/
def body : P F PUnit :=
  passes arg1 arg2 arg3 arg4 arg5 arg6 arg7 arg8 arg11 harg11 arg12 arg13 arg14 arg15 arg16
    (if _h : k0_cond2 i = 1#1 then lasts arg9 arg10 arg15 arg16 else .ret ⟨⟩)

end Cert.Kernel.Body
-- ==== Proof.Rules.lean ====
/- Loads and stores of a memref held at known contents.

   `owns c m q X` says that the memref reads `X`. A load through a rectangle reads `X` at the rectangle's places, and a
   store puts the stored block over `X`. A buffer cut into 160 blocks along its columns (`Slabs`) is then followed
   through a loop over the blocks: before block `b` it holds the new contents in the blocks below `b` and the old
   ones from `b` on (`mix`). -/
module

public import Idealize.ShloMosaic.Lib.Tactic
public import Idealize.ShloMosaic.Lib.Memref
public import Idealize.ShloMosaic.Lib.Writes
public import Idealize.ShloMosaic.Lib.WritesUnit
public import Idealize.ShloMosaic.Lib.Pipeline.FrameBody
public import Idealize.ShloMosaic.Lib.Pipeline.Value
public import Idealize.ShloMosaic.Lib.Ring

@[expose] public section

noncomputable section

namespace Cert.Rules

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a memref that reads `X`. -/
theorem load_owns {cs : CoreSpace} {m : Memref sig c.2.kind cs s e} {r : Rect s} {hl : m.view.LoadsAt r.toLoadRect}
    {k : (r.shape.Idx → Val e) → Prog (TpuEff nD τ sig Val Λ c.2) α} {q : PosShare TreeShare} (X : s.Idx → Val e) :
    (owns c m q X)
      ⊢ iprop((owns c m q X -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  subst hf
  iapply (wp_load_rect 𝒱 c bd E (defs := defs) (m := m) (r := r) (hl := hl) (k := k) (S := m.view.set) (q := q) (f := f) (Q := Q) (Memref.setOn_access_subset m r Finset.univ)) $$ [H]
  · iexact H
  iintro H
  iapply Hk
  iexists f
  isplitr
  · ipureintro; rfl
  · iexact H

/-- A store into a memref that reads `X`. -/
theorem store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    (owns c m fullShare X)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store_writes₀ 𝒱 c bd E (defs := defs) (m := m) (r := r) (w := w) (hx := hx) (hm := hm) (k := k) (S := m.view.set) (f := f) (Q := Q) (Memref.setOn_access_subset m r Finset.univ)) $$ [H]
  · iexact H
  iintro H
  iapply Hk
  iexists m.view.writes Val f [⟨r, w⟩]
  isplitr
  · ipureintro
    funext y
    by_cases hy : y ∈ r.set
    · obtain ⟨x, rfl⟩ := r.exists_idx_of_mem hy
      exact (View.read_writes_cons_emb _ _ r w [] x).trans (Rect.overlay_emb r _ w x).symm
    · exact (View.read_writes_cons_miss _ _ ⟨r, w⟩ [] y hy).trans (Rect.overlay_of_not_mem r _ w hy).symm
  · iexact H

/-- A whole memref that reads `X`, as one piece through any rectangle written over some contents. -/
theorem owns_piece {cs : CoreSpace} {m : Memref sig c.2.kind cs s e} (h : m.IsWhole) (r : Rect s) (X : s.Idx → Val e) :
    (owns c m fullShare X : sProp (MT nD τ sig Ix Val Name U Lvl))
      ⊢ iprop(∃ f, m.view.loc c ↦[m.view.set]{fullShare} m.view.writes Val f [⟨r, fun j => X (r.emb j)⟩]) := by
  unfold owns
  iintro ⟨%f, %hf, H⟩
  iexists f
  have e : m.view.writes Val f [⟨r, fun j => X (r.emb j)⟩] = f := by
    have h1 : m.view.read Val (m.view.writes Val f [⟨r, fun j => X (r.emb j)⟩]) = X := by
      funext y
      by_cases hy : y ∈ r.set
      · obtain ⟨x, rfl⟩ := r.exists_idx_of_mem hy
        exact View.read_writes_cons_emb _ _ r _ [] x
      · exact (View.read_writes_cons_miss _ _ ⟨r, _⟩ [] y hy).trans (congrFun hf y)
    exact (h.eq_unread h1).trans (h.eq_unread hf).symm
  rw [e]
  iexact H

end

section

variable {s : Shape} {α : Type} (blk : s.Idx → ℕ) (b : ℕ) (new old : s.Idx → α)

/-- The new contents in the blocks below `b`, the old ones from `b` on. -/
def mix : s.Idx → α := fun i => if blk i < b then new i else old i

variable {blk b new old}

theorem mix_zero : mix blk 0 new old = old := rfl

theorem mix_all {n : ℕ} (h : ∀ i, blk i < n) : mix blk n new old = new := funext fun i => if_pos (h i)

/-- Block `b` before its store still holds the old contents. -/
theorem mix_emb {r : Rect s} (hr : ∀ i, i ∈ r.set ↔ blk i = b) :
    (fun j => mix blk b new old (r.emb j)) = fun j => old (r.emb j) :=
  funext fun j => if_neg (by rw [(hr (r.emb j)).mp (r.idx_mem j)]; exact lt_irrefl b)

/-- Storing block `b`. -/
theorem mix_overlay {r : Rect s} (hr : ∀ i, i ∈ r.set ↔ blk i = b) (w : r.shape.Idx → α) (hw : ∀ j, new (r.emb j) = w j) :
    r.overlay (mix blk b new old) w = mix blk (b + 1) new old := by
  funext y
  by_cases hy : y ∈ r.set
  · have hb := (hr y).mp hy
    obtain ⟨x, rfl⟩ := r.exists_idx_of_mem hy
    refine (Rect.overlay_emb r _ w x).trans ((hw x).symm.trans (if_pos ?_).symm)
    omega
  · rw [Rect.overlay_of_not_mem r _ w hy]
    have hb : blk y ≠ b := fun h => hy ((hr y).mpr h)
    unfold mix
    by_cases h : blk y < b
    · rw [if_pos h, if_pos (by omega)]
    · rw [if_neg h, if_neg (by omega)]

variable {N : ℕ} (r : ∀ b, b < N → Rect s) (blk) (hlt : ∀ i, blk i < N) (hr : ∀ b hb i, i ∈ (r b hb).set ↔ blk i = b)

/-- The array whose block `b` is `f b`. -/
def asm (f : ∀ b hb, (r b hb).shape.Idx → α) : s.Idx → α := fun i =>
  f (blk i) (hlt i) (Classical.choose ((r (blk i) (hlt i)).exists_idx_of_mem ((hr _ _ i).mpr rfl)))

theorem asm_emb (f : ∀ b hb, (r b hb).shape.Idx → α) (b : ℕ) (hb : b < N) (j : (r b hb).shape.Idx) :
    asm blk r hlt hr f ((r b hb).emb j) = f b hb j := by
  have key : ∀ (b' : ℕ) (hb' : b' < N) (x : (r b' hb').shape.Idx), b' = b → (r b' hb').emb x = (r b hb).emb j → f b' hb' x = f b hb j := by
    rintro b' hb' x rfl h
    rw [(r b' hb').emb.injective h]
  exact key _ _ _ ((hr b hb _).mp ((r b hb).idx_mem j))
    (Classical.choose_spec ((r _ (hlt _)).exists_idx_of_mem ((hr _ _ ((r b hb).emb j)).mpr rfl)))

/-- A store over the whole array. -/
theorem overlay_whole {off : Fin s.rank → ℕ} (h : off = fun _ => 0) (inb : ∀ a, off a + s.size a ≤ s.size a) (X w : s.Idx → α) :
    (Rect.unit off s.size inb).overlay X w = w := by
  subst h
  funext y
  have e := Rect.overlay_emb (Rect.whole s) X w y
  rw [Rect.emb_whole_apply] at e
  exact e

/-- A load of the whole array. -/
theorem emb_whole {off : Fin s.rank → ℕ} (h : off = fun _ => 0) (inb : ∀ a, off a + s.size a ≤ s.size a) (X : s.Idx → α) :
    (fun j => X ((Rect.unit off s.size inb).emb j)) = X := by
  subst h
  funext y
  exact congrArg X (Rect.emb_whole_apply s y)

end

end Cert.Rules
-- ==== Proof.KernelHand.Wp.lean ====
/- What the body's loops leave in their buffers.

   Each block is run by the rules of `Rules.lean`, and the loops by induction on the number of blocks: before block
   `b` a buffer holds its new contents in the blocks below `b` and what it held before in the others. -/
module

public import proofs.«01_k».proof.Proof.KernelHand.Body
public import proofs.«01_k».proof.Proof.Gen.Kernel.Launch
public import proofs.«01_k».proof.Proof.Gen.Kernel.Points
public import proofs.«01_k».proof.Proof.Rules

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts Facts₀ K0.Facts₀ Shapes1.Facts₀
open Cert.Rules

variable {F : FTy → Type} [FloatOps F] [Facts]

local notation "𝕄" => MT nD τ sig Unit (Elt F) ℕ (UR sig nD τ) ℕ

/-! ## The blocks of the arrays -/

def blkC (i : S32x20480.Idx) : ℕ := (i 1).val / 128
def blkA (i : S8x20480.Idx) : ℕ := (i 1).val / 128
def blkN (i : S32x160.Idx) : ℕ := (i 1).val

theorem blkC_lt (i : S32x20480.Idx) : blkC i < 160 := by have := (i 1).isLt; simp only [blkC]; change (i 1).val < 20480 at this; omega
theorem blkA_lt (i : S8x20480.Idx) : blkA i < 160 := by have := (i 1).isLt; simp only [blkA]; change (i 1).val < 20480 at this; omega
theorem blkN_lt (i : S32x160.Idx) : blkN i < 160 := (i 1).isLt

theorem memC (b : ℕ) (hb : b < 160) (i : S32x20480.Idx) : i ∈ (rC b hb).set ↔ blkC i = b := by
  have h0 : (i 0).val < 32 := (i 0).isLt
  rw [Rect.mem_set_unit, Fin.forall_fin_two]
  simp only [blkC]
  change (0 ≤ (i 0).val ∧ (i 0).val < 0 + 32) ∧ (128 * b ≤ (i 1).val ∧ (i 1).val < 128 * b + 128) ↔ _
  omega
theorem memA (b : ℕ) (hb : b < 160) (i : S8x20480.Idx) : i ∈ (rA b hb).set ↔ blkA i = b := by
  have h0 : (i 0).val < 8 := (i 0).isLt
  rw [Rect.mem_set_unit, Fin.forall_fin_two]
  simp only [blkA]
  change (0 ≤ (i 0).val ∧ (i 0).val < 0 + 8) ∧ (128 * b ≤ (i 1).val ∧ (i 1).val < 128 * b + 128) ↔ _
  omega
theorem memN (b : ℕ) (hb : b < 160) (i : S32x160.Idx) : i ∈ (rN b hb).set ↔ blkN i = b := by
  have h0 : (i 0).val < 32 := (i 0).isLt
  rw [Rect.mem_set_unit, Fin.forall_fin_two]
  simp only [blkN]
  change (0 ≤ (i 0).val ∧ (i 0).val < 0 + 32) ∧ (b ≤ (i 1).val ∧ (i 1).val < b + 1) ↔ _
  omega

/-- Block `b` of an array. -/
def bC {e : EltTy} (x : Vec F S32x20480 e) (b : ℕ) (hb : b < 160) : Vec F S32x128 e := fun j => x ((rC b hb).emb j)
def bR (x : Vec F S1x20480 .f32) (b : ℕ) (hb : b < 160) : Vec F S1x128 .f32 := fun j => x ((rR b hb).emb j)
def bA (x : Vec F S8x20480 .f32) (b : ℕ) (hb : b < 160) : Vec F S8x128 .f32 := fun j => x ((rA b hb).emb j)

section Values

variable (x0 : Vec F S32x20480 .fp8e4m3) (x1 : Vec F S32x160 .f32) (x2 : Vec F S32x20480 .fp8e5m2) (x3 x4 : Vec F S32x1 .f32)
  (x5 x6 x7 : Vec F S1x20480 .f32)

/-! ## What the passes compute -/

/-- The token scales along a block. -/
def v6 : FVec F S32x128 .f32 := tokv (shapeCast S32x1 (shapeCast S32x1 x3 shapeCasts_S32x1_S32x1) shapeCasts_S32x1_S32x1)
/-- The activations' block scales. -/
def v8 : FVec F S32x160 .f32 := shapeCast S32x160 x1 shapeCasts_S32x160_S32x160
/-- Block `b`'s normalised activations. -/
def xhb (b : ℕ) (hb : b < 160) : FVec F S32x128 .f32 := xh (v8 x1) b hb (bC x0 b hb) (bR x7 b hb) (bR x6 b hb)
/-- The sum of gradients over the tokens, added to what the accumulator held. -/
def newB (old : Vec F S8x20480 .f32) : Vec F S8x20480 .f32 :=
  asm blkA rA blkA_lt memA fun b hb => shapeCast S8x128 (addf (bA old b hb) (fold (mulf (qv (bC x2 b hb)) (v6 x3)))) shapeCasts_S8x128_S8x128
/-- The sum of gradients times normalised activations, added to what the accumulator held. -/
def newA (old : Vec F S8x20480 .f32) : Vec F S8x20480 .f32 :=
  asm blkA rA blkA_lt memA fun b hb => shapeCast S8x128 (addf (bA old b hb) (fold (mulf (mulf (qv (bC x2 b hb)) (v6 x3)) (xhb x0 x1 x6 x7 b hb)))) shapeCasts_S8x128_S8x128
/-- The running sum of `q · gamma` after `n` blocks. -/
def cgAt : ℕ → FVec F S32x128 .f32
  | 0 => broadcast S32x128 (Scalar.ofBits .f32 0x00000000#32)
  | n + 1 => if h : n < 160 then addf (cgAt n) (mulf (qv (bC x2 n h)) (rowv (bR x5 n h))) else cgAt n
/-- The running sum of `q · gamma · x̂` after `n` blocks. -/
def cgxAt : ℕ → FVec F S32x128 .f32
  | 0 => broadcast S32x128 (Scalar.ofBits .f32 0x00000000#32)
  | n + 1 => if h : n < 160 then addf (cgxAt n) (mulf (mulf (qv (bC x2 n h)) (rowv (bR x5 n h))) (xhb x0 x1 x6 x7 n h)) else cgxAt n
/-- Block `b` of the unscaled gradient. -/
def zb (b : ℕ) (hb : b < 160) : FVec F S32x128 .f32 :=
  zv (qv (bC x2 b hb)) (rowv (bR x5 b hb)) (xhb x0 x1 x6 x7 b hb) (mean (cgAt x2 x5 160)) (mean (cgxAt x0 x1 x2 x5 x6 x7 160))
/-- The unscaled gradient. -/
def zArr : Vec F S32x20480 .f32 := asm blkC rC blkC_lt memC fun b hb => shapeCast S32x128 (zb x0 x1 x2 x5 x6 x7 b hb) shapeCasts_S32x128_S32x128
/-- Its largest magnitudes by block. -/
def amArr : Vec F S32x160 .f32 := asm blkN rN blkN_lt memN fun b hb => shapeCast S32x1 (rmax (zb x0 x1 x2 x5 x6 x7 b hb)) shapeCasts_S32x1_S32x1
/-- A token's scale times its reciprocal deviation. -/
def gTok : FVec F S32x1 .f32 := mulf (shapeCast S32x1 x3 shapeCasts_S32x1_S32x1) (shapeCast S32x1 x4 shapeCasts_S32x1_S32x1)
/-- The blocks' exponents. -/
def eArr : IVec S32x160 32 := expo (tv (gTok x3 x4) (amArr x0 x1 x2 x5 x6 x7))
/-- The blocks' scales. -/
def scArr : Vec F S32x160 .f32 := pow2 (eArr x0 x1 x2 x3 x4 x5 x6 x7)
/-- The codes. -/
def coArr : Vec F S32x20480 .fp8e5m2 :=
  asm blkC rC blkC_lt memC fun b hb => code (bC (zArr x0 x1 x2 x5 x6 x7) b hb) (colv (fac (gTok x3 x4) (eArr x0 x1 x2 x3 x4 x5 x6 x7)) b hb)
/-- Zeros. -/
def zero8 : Vec F S8x20480 .f32 := shapeCast S8x20480 (broadcast S8x20480 (Scalar.ofBits .f32 0x00000000#32)) shapeCasts_S8x20480_S8x20480

theorem newB_emb (old : Vec F S8x20480 .f32) (b : ℕ) (hb : b < 160) (j : S8x128.Idx) : newB x2 x3 old ((rA b hb).emb j) =
    shapeCast S8x128 (addf (bA old b hb) (fold (mulf (qv (bC x2 b hb)) (v6 x3)))) shapeCasts_S8x128_S8x128 j := asm_emb blkA rA blkA_lt memA _ b hb j
theorem newA_emb (old : Vec F S8x20480 .f32) (b : ℕ) (hb : b < 160) (j : S8x128.Idx) : newA x0 x1 x2 x3 x6 x7 old ((rA b hb).emb j) =
    shapeCast S8x128 (addf (bA old b hb) (fold (mulf (mulf (qv (bC x2 b hb)) (v6 x3)) (xhb x0 x1 x6 x7 b hb)))) shapeCasts_S8x128_S8x128 j := asm_emb blkA rA blkA_lt memA _ b hb j
theorem zArr_emb (b : ℕ) (hb : b < 160) (j : S32x128.Idx) : zArr x0 x1 x2 x5 x6 x7 ((rC b hb).emb j) =
    shapeCast S32x128 (zb x0 x1 x2 x5 x6 x7 b hb) shapeCasts_S32x128_S32x128 j := asm_emb blkC rC blkC_lt memC _ b hb j
theorem amArr_emb (b : ℕ) (hb : b < 160) (j : S32x1.Idx) : amArr x0 x1 x2 x5 x6 x7 ((rN b hb).emb j) =
    shapeCast S32x1 (rmax (zb x0 x1 x2 x5 x6 x7 b hb)) shapeCasts_S32x1_S32x1 j := asm_emb blkN rN blkN_lt memN _ b hb j
theorem coArr_emb (b : ℕ) (hb : b < 160) (j : S32x128.Idx) : coArr x0 x1 x2 x3 x4 x5 x6 x7 ((rC b hb).emb j) =
    code (bC (zArr x0 x1 x2 x5 x6 x7) b hb) (colv (fac (gTok x3 x4) (eArr x0 x1 x2 x3 x4 x5 x6 x7)) b hb) j := asm_emb blkC rC blkC_lt memC _ b hb j

end Values

/-! ## The loops -/

section Loops

variable (c : Dev nD) (E : Set ℕ) {α : Type}
variable (x0 : Vec F S32x20480 .fp8e4m3) (x1 : Vec F S32x160 .f32) (x2 : Vec F S32x20480 .fp8e5m2) (x3 x4 : Vec F S32x1 .f32)
  (x5 x6 x7 : Vec F S1x20480 .f32)
variable (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

local notation "WP" => wp frame (wpE (defs₀ (F := F)) Variants.none (c : Thread nD τ) none) E

/-- What the first pass reads and writes. -/
def own1 (A B : Vec F S8x20480 .f32) : sProp 𝕄 :=
  iprop(owns (c : Thread nD τ) arg1 fullShare x0 ∗ owns (c : Thread nD τ) arg3 fullShare x2 ∗ owns (c : Thread nD τ) arg6 fullShare x5 ∗ owns (c : Thread nD τ) arg7 fullShare x6
    ∗ owns (c : Thread nD τ) arg8 fullShare x7 ∗ owns (c : Thread nD τ) arg15 fullShare A ∗ owns (c : Thread nD τ) arg16 fullShare B)

theorem wp_blk1 (Q : α → sProp 𝕄) (b : ℕ) (hb : b < 160) (A B : Vec F S8x20480 .f32) (cg cgx : FVec F S32x128 .f32) (κ : FVec F S32x128 .f32 → FVec F S32x128 .f32 → P F α) :
    iprop(own1 c x0 x2 x5 x6 x7 arg1 arg3 arg6 arg7 arg8 arg15 arg16 A B ∗
      (own1 c x0 x2 x5 x6 x7 arg1 arg3 arg6 arg7 arg8 arg15 arg16
          ((rA b hb).overlay A (shapeCast S8x128 (addf (bA A b hb) (fold (mulf (mulf (qv (bC x2 b hb)) (v6 x3)) (xhb x0 x1 x6 x7 b hb)))) shapeCasts_S8x128_S8x128))
          ((rA b hb).overlay B (shapeCast S8x128 (addf (bA B b hb) (fold (mulf (qv (bC x2 b hb)) (v6 x3)))) shapeCasts_S8x128_S8x128))
        -∗ WP (κ (addf cg (mulf (qv (bC x2 b hb)) (rowv (bR x5 b hb)))) (addf cgx (mulf (mulf (qv (bC x2 b hb)) (rowv (bR x5 b hb))) (xhb x0 x1 x6 x7 b hb)))) Q))
      ⊢ WP (blk1 arg1 arg3 arg6 arg7 arg8 arg15 arg16 (v6 x3) (v8 x1) b hb cg cgx κ) Q := by
  unfold blk1 own1
  iintro ⟨⟨H1, H3, H6, H7, H8, HA, HB⟩, Hk⟩
  iapply (load_owns Variants.none (c : Thread nD τ) none E x2) $$ [H3]; · iexact H3
  iintro H3
  iapply (load_owns Variants.none (c : Thread nD τ) none E x0) $$ [H1]; · iexact H1
  iintro H1
  iapply (load_owns Variants.none (c : Thread nD τ) none E x7) $$ [H8]; · iexact H8
  iintro H8
  iapply (load_owns Variants.none (c : Thread nD τ) none E x6) $$ [H7]; · iexact H7
  iintro H7
  iapply (load_owns Variants.none (c : Thread nD τ) none E x5) $$ [H6]; · iexact H6
  iintro H6
  iapply (load_owns Variants.none (c : Thread nD τ) none E B) $$ [HB]; · iexact HB
  iintro HB
  iapply (load_owns Variants.none (c : Thread nD τ) none E B) $$ [HB]; · iexact HB
  iintro HB
  iapply (store_owns Variants.none (c : Thread nD τ) none E B) $$ [HB]; · iexact HB
  iintro HB
  iapply (load_owns Variants.none (c : Thread nD τ) none E A) $$ [HA]; · iexact HA
  iintro HA
  iapply (load_owns Variants.none (c : Thread nD τ) none E A) $$ [HA]; · iexact HA
  iintro HA
  iapply (store_owns Variants.none (c : Thread nD τ) none E A) $$ [HA]; · iexact HA
  iintro HA
  iapply Hk
  isplitl [H1]; · iexact H1
  isplitl [H3]; · iexact H3
  isplitl [H6]; · iexact H6
  isplitl [H7]; · iexact H7
  isplitl [H8]; · iexact H8
  isplitl [HA]; · iexact HA
  iexact HB

/-- The first pass, from block `b` on. -/
theorem wp_blks1 (Q : α → sProp 𝕄) (A B : Vec F S8x20480 .f32) (n : ℕ) : ∀ (b : ℕ) (h : b + n ≤ 160) (κ : FVec F S32x128 .f32 → FVec F S32x128 .f32 → P F α),
    iprop(own1 c x0 x2 x5 x6 x7 arg1 arg3 arg6 arg7 arg8 arg15 arg16 (mix blkA b (newA x0 x1 x2 x3 x6 x7 A) A) (mix blkA b (newB x2 x3 B) B) ∗
      (own1 c x0 x2 x5 x6 x7 arg1 arg3 arg6 arg7 arg8 arg15 arg16 (mix blkA (b + n) (newA x0 x1 x2 x3 x6 x7 A) A) (mix blkA (b + n) (newB x2 x3 B) B)
        -∗ WP (κ (cgAt x2 x5 (b + n)) (cgxAt x0 x1 x2 x5 x6 x7 (b + n))) Q))
      ⊢ WP (blks1 arg1 arg3 arg6 arg7 arg8 arg15 arg16 (v6 x3) (v8 x1) n b h (cgAt x2 x5 b) (cgxAt x0 x1 x2 x5 x6 x7 b) κ) Q := by
  induction n with
  | zero =>
    intro b h κ
    unfold blks1
    iintro ⟨H, Hk⟩
    iapply Hk
    iexact H
  | succ n ih =>
    intro b h κ
    have hb : b < 160 := by omega
    have w := wp_blk1 (F := F) c E x0 x1 x2 x3 x5 x6 x7 arg1 arg3 arg6 arg7 arg8 arg15 arg16 Q b hb (mix blkA b (newA x0 x1 x2 x3 x6 x7 A) A) (mix blkA b (newB x2 x3 B) B)
      (cgAt x2 x5 b) (cgxAt x0 x1 x2 x5 x6 x7 b) (fun cg cgx => blks1 arg1 arg3 arg6 arg7 arg8 arg15 arg16 (v6 x3) (v8 x1) n (b + 1) (by omega) cg cgx κ)
    have eA : bA (mix blkA b (newA x0 x1 x2 x3 x6 x7 A) A) b hb = bA A b hb := mix_emb (memA b hb)
    have eB : bA (mix blkA b (newB x2 x3 B) B) b hb = bA B b hb := mix_emb (memA b hb)
    rw [eA, eB, mix_overlay (memA b hb) _ (newA_emb x0 x1 x2 x3 x6 x7 A b hb), mix_overlay (memA b hb) _ (newB_emb x2 x3 B b hb)] at w
    have e1 : cgAt x2 x5 (b + 1) = addf (cgAt x2 x5 b) (mulf (qv (bC x2 b hb)) (rowv (bR x5 b hb))) := by
      rw [cgAt, dif_pos hb]
    have e2 : cgxAt x0 x1 x2 x5 x6 x7 (b + 1) = addf (cgxAt x0 x1 x2 x5 x6 x7 b) (mulf (mulf (qv (bC x2 b hb)) (rowv (bR x5 b hb))) (xhb x0 x1 x6 x7 b hb)) := by
      rw [cgxAt, dif_pos hb]
    rw [← e1, ← e2] at w
    have hn : b + (n + 1) = b + 1 + n := by omega
    rw [hn]
    unfold blks1
    refine BIBase.Entails.trans ?_ w
    iintro ⟨H, Hk⟩
    isplitl [H]; · iexact H
    iintro H
    iapply (ih (b + 1) _ κ)
    isplitl [H]; · iexact H
    iexact Hk

/-- What the second pass reads and writes. -/
def own2 (Z : Vec F S32x20480 .f32) (M : Vec F S32x160 .f32) : sProp 𝕄 :=
  iprop(owns (c : Thread nD τ) arg1 fullShare x0 ∗ owns (c : Thread nD τ) arg3 fullShare x2 ∗ owns (c : Thread nD τ) arg6 fullShare x5 ∗ owns (c : Thread nD τ) arg7 fullShare x6
    ∗ owns (c : Thread nD τ) arg8 fullShare x7 ∗ owns (c : Thread nD τ) arg13 fullShare Z ∗ owns (c : Thread nD τ) arg14 fullShare M)

theorem wp_blk2 (Q : α → sProp 𝕄) (m n : FVec F S32x1 .f32) (b : ℕ) (hb : b < 160) (Z : Vec F S32x20480 .f32) (M : Vec F S32x160 .f32) (κ : P F α) :
    iprop(own2 c x0 x2 x5 x6 x7 arg1 arg3 arg6 arg7 arg8 arg13 arg14 Z M ∗
      (own2 c x0 x2 x5 x6 x7 arg1 arg3 arg6 arg7 arg8 arg13 arg14
          ((rC b hb).overlay Z (shapeCast S32x128 (zv (qv (bC x2 b hb)) (rowv (bR x5 b hb)) (xhb x0 x1 x6 x7 b hb) m n) shapeCasts_S32x128_S32x128))
          ((rN b hb).overlay M (shapeCast S32x1 (rmax (zv (qv (bC x2 b hb)) (rowv (bR x5 b hb)) (xhb x0 x1 x6 x7 b hb) m n)) shapeCasts_S32x1_S32x1))
        -∗ WP κ Q))
      ⊢ WP (blk2 arg1 arg3 arg6 arg7 arg8 arg13 arg14 (v8 x1) m n b hb κ) Q := by
  unfold blk2 own2
  iintro ⟨⟨H1, H3, H6, H7, H8, HZ, HM⟩, Hk⟩
  iapply (load_owns Variants.none (c : Thread nD τ) none E x2) $$ [H3]; · iexact H3
  iintro H3
  iapply (load_owns Variants.none (c : Thread nD τ) none E x5) $$ [H6]; · iexact H6
  iintro H6
  iapply (load_owns Variants.none (c : Thread nD τ) none E x0) $$ [H1]; · iexact H1
  iintro H1
  iapply (load_owns Variants.none (c : Thread nD τ) none E x7) $$ [H8]; · iexact H8
  iintro H8
  iapply (load_owns Variants.none (c : Thread nD τ) none E x6) $$ [H7]; · iexact H7
  iintro H7
  iapply (load_owns Variants.none (c : Thread nD τ) none E Z) $$ [HZ]; · iexact HZ
  iintro HZ
  iapply (store_owns Variants.none (c : Thread nD τ) none E Z) $$ [HZ]; · iexact HZ
  iintro HZ
  iapply (load_owns Variants.none (c : Thread nD τ) none E M) $$ [HM]; · iexact HM
  iintro HM
  iapply (store_owns Variants.none (c : Thread nD τ) none E M) $$ [HM]; · iexact HM
  iintro HM
  iapply Hk
  isplitl [H1]; · iexact H1
  isplitl [H3]; · iexact H3
  isplitl [H6]; · iexact H6
  isplitl [H7]; · iexact H7
  isplitl [H8]; · iexact H8
  isplitl [HZ]; · iexact HZ
  iexact HM

/-- The second pass, from block `b` on. -/
theorem wp_blks2 (Q : α → sProp 𝕄) (Z : Vec F S32x20480 .f32) (M : Vec F S32x160 .f32) (n : ℕ) : ∀ (b : ℕ) (h : b + n ≤ 160) (κ : P F α),
    iprop(own2 c x0 x2 x5 x6 x7 arg1 arg3 arg6 arg7 arg8 arg13 arg14 (mix blkC b (zArr x0 x1 x2 x5 x6 x7) Z) (mix blkN b (amArr x0 x1 x2 x5 x6 x7) M) ∗
      (own2 c x0 x2 x5 x6 x7 arg1 arg3 arg6 arg7 arg8 arg13 arg14 (mix blkC (b + n) (zArr x0 x1 x2 x5 x6 x7) Z) (mix blkN (b + n) (amArr x0 x1 x2 x5 x6 x7) M) -∗ WP κ Q))
      ⊢ WP (blks2 arg1 arg3 arg6 arg7 arg8 arg13 arg14 (v8 x1) (mean (cgAt x2 x5 160)) (mean (cgxAt x0 x1 x2 x5 x6 x7 160)) n b h κ) Q := by
  induction n with
  | zero =>
    intro b h κ
    unfold blks2
    iintro ⟨H, Hk⟩
    iapply Hk
    iexact H
  | succ n ih =>
    intro b h κ
    have hb : b < 160 := by omega
    have w := wp_blk2 (F := F) c E x0 x1 x2 x5 x6 x7 arg1 arg3 arg6 arg7 arg8 arg13 arg14 Q (mean (cgAt x2 x5 160)) (mean (cgxAt x0 x1 x2 x5 x6 x7 160)) b hb
      (mix blkC b (zArr x0 x1 x2 x5 x6 x7) Z) (mix blkN b (amArr x0 x1 x2 x5 x6 x7) M)
      (blks2 arg1 arg3 arg6 arg7 arg8 arg13 arg14 (v8 x1) (mean (cgAt x2 x5 160)) (mean (cgxAt x0 x1 x2 x5 x6 x7 160)) n (b + 1) (by omega) κ)
    have ez : zv (qv (bC x2 b hb)) (rowv (bR x5 b hb)) (xhb x0 x1 x6 x7 b hb) (mean (cgAt x2 x5 160)) (mean (cgxAt x0 x1 x2 x5 x6 x7 160)) = zb x0 x1 x2 x5 x6 x7 b hb := rfl
    rw [ez] at w
    rw [mix_overlay (new := zArr x0 x1 x2 x5 x6 x7) (memC b hb) (shapeCast S32x128 (zb x0 x1 x2 x5 x6 x7 b hb) shapeCasts_S32x128_S32x128) (zArr_emb x0 x1 x2 x5 x6 x7 b hb)]  at w
    rw [mix_overlay (memN b hb) _ (amArr_emb x0 x1 x2 x5 x6 x7 b hb)] at w
    have hn : b + (n + 1) = b + 1 + n := by omega
    rw [hn]
    unfold blks2
    refine BIBase.Entails.trans ?_ w
    iintro ⟨H, Hk⟩
    isplitl [H]; · iexact H
    iintro H
    iapply (ih (b + 1) _ κ)
    isplitl [H]; · iexact H
    iexact Hk

/-- What the third pass reads and writes. -/
def own3 (Z : Vec F S32x20480 .f32) (C : Vec F S32x20480 .fp8e5m2) : sProp 𝕄 :=
  iprop(owns (c : Thread nD τ) arg13 fullShare Z ∗ owns (c : Thread nD τ) arg11 fullShare C)

theorem wp_blk3 (Q : α → sProp 𝕄) (f : FVec F S32x160 .f32) (b : ℕ) (hb : b < 160) (Z : Vec F S32x20480 .f32) (C : Vec F S32x20480 .fp8e5m2) (κ : P F α) :
    iprop(own3 c arg11 arg13 Z C ∗ (own3 c arg11 arg13 Z ((rC b hb).overlay C (code (bC Z b hb) (colv f b hb))) -∗ WP κ Q))
      ⊢ WP (blk3 arg11 harg11 arg13 f b hb κ) Q := by
  unfold blk3 own3
  iintro ⟨⟨HZ, HC⟩, Hk⟩
  iapply (load_owns Variants.none (c : Thread nD τ) none E Z) $$ [HZ]; · iexact HZ
  iintro HZ
  iapply (load_owns Variants.none (c : Thread nD τ) none E C) $$ [HC]; · iexact HC
  iintro HC
  iapply (store_owns Variants.none (c : Thread nD τ) none E C) $$ [HC]; · iexact HC
  iintro HC
  iapply Hk
  isplitl [HZ]; · iexact HZ
  iexact HC

/-- The third pass, from block `b` on. -/
theorem wp_blks3 (Q : α → sProp 𝕄) (C : Vec F S32x20480 .fp8e5m2) (n : ℕ) : ∀ (b : ℕ) (h : b + n ≤ 160) (κ : P F α),
    iprop(own3 c arg11 arg13 (zArr x0 x1 x2 x5 x6 x7) (mix blkC b (coArr x0 x1 x2 x3 x4 x5 x6 x7) C) ∗
      (own3 c arg11 arg13 (zArr x0 x1 x2 x5 x6 x7) (mix blkC (b + n) (coArr x0 x1 x2 x3 x4 x5 x6 x7) C) -∗ WP κ Q))
      ⊢ WP (blks3 arg11 harg11 arg13 (fac (gTok x3 x4) (eArr x0 x1 x2 x3 x4 x5 x6 x7)) n b h κ) Q := by
  induction n with
  | zero =>
    intro b h κ
    unfold blks3
    iintro ⟨H, Hk⟩
    iapply Hk
    iexact H
  | succ n ih =>
    intro b h κ
    have hb : b < 160 := by omega
    have w := wp_blk3 (F := F) c E arg11 harg11 arg13 Q (fac (gTok x3 x4) (eArr x0 x1 x2 x3 x4 x5 x6 x7)) b hb (zArr x0 x1 x2 x5 x6 x7)
      (mix blkC b (coArr x0 x1 x2 x3 x4 x5 x6 x7) C)
      (blks3 arg11 harg11 arg13 (fac (gTok x3 x4) (eArr x0 x1 x2 x3 x4 x5 x6 x7)) n (b + 1) (by omega) κ)
    rw [mix_overlay (memC b hb) _ (coArr_emb x0 x1 x2 x3 x4 x5 x6 x7 b hb)] at w
    have hn : b + (n + 1) = b + 1 + n := by omega
    rw [hn]
    unfold blks3
    refine BIBase.Entails.trans ?_ w
    iintro ⟨H, Hk⟩
    isplitl [H]; · iexact H
    iintro H
    iapply (ih (b + 1) _ κ)
    isplitl [H]; · iexact H
    iexact Hk

end Loops

/-! ## The whole body -/

section Whole

variable (c : Dev nD) (E : Set ℕ) {α : Type}
variable (x0 : Vec F S32x20480 .fp8e4m3) (x1 : Vec F S32x160 .f32) (x2 : Vec F S32x20480 .fp8e5m2) (x3 x4 : Vec F S32x1 .f32)
  (x5 x6 x7 : Vec F S1x20480 .f32)
variable (i : grid0.Coords) (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

local notation "WP" => wp frame (wpE (defs₀ (F := F)) Variants.none (c : Thread nD τ) none) E

theorem off2 : (![0, 0] : Fin 2 → ℕ) = fun _ => 0 := by funext a; fin_cases a <;> rfl

theorem ld_31 (X : Vec F S32x1 .f32) : (fun j => X (r31.emb j)) = X := emb_whole (s := S32x1) off2 _ X
theorem ld_160 (X : Vec F S32x160 .f32) : (fun j => X (r160.emb j)) = X := emb_whole (s := S32x160) off2 _ X
theorem ld_8 (X : Vec F S8x20480 .f32) : (fun j => X (r8.emb j)) = X := emb_whole (s := S8x20480) off2 _ X
theorem ld_1 (X : Vec F S1x20480 .f32) : (fun j => X (r1.emb j)) = X := emb_whole (s := S1x20480) off2 _ X
theorem st_160 (X w : Vec F S32x160 .f32) : r160.overlay X w = w := overlay_whole (s := S32x160) off2 _ X w
theorem st_8 (X w : Vec F S8x20480 .f32) : r8.overlay X w = w := overlay_whole (s := S8x20480) off2 _ X w
theorem st_1 (X w : Vec F S1x20480 .f32) : r1.overlay X w = w := overlay_whole (s := S1x20480) off2 _ X w

/-- The inputs' buffers. -/
def ownIn : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

theorem wp_passes (Q : α → sProp 𝕄) (A B : Vec F S8x20480 .f32) (Z : Vec F S32x20480 .f32) (M S : Vec F S32x160 .f32) (C : Vec F S32x20480 .fp8e5m2) (κ : P F α) :
    iprop(ownIn c x0 x1 x2 x3 x4 x5 x6 x7 arg1 arg2 arg3 arg4 arg5 arg6 arg7 arg8 ∗ owns (c : Thread nD τ) arg11 fullShare C ∗ owns (c : Thread nD τ) arg12 fullShare S ∗ owns (c : Thread nD τ) arg13 fullShare Z ∗ owns (c : Thread nD τ) arg14 fullShare M ∗ owns (c : Thread nD τ) arg15 fullShare A ∗ owns (c : Thread nD τ) arg16 fullShare B ∗
      (iprop(ownIn c x0 x1 x2 x3 x4 x5 x6 x7 arg1 arg2 arg3 arg4 arg5 arg6 arg7 arg8 ∗ owns (c : Thread nD τ) arg11 fullShare (coArr x0 x1 x2 x3 x4 x5 x6 x7) ∗ owns (c : Thread nD τ) arg12 fullShare (scArr x0 x1 x2 x3 x4 x5 x6 x7)
        ∗ owns (c : Thread nD τ) arg13 fullShare (zArr x0 x1 x2 x5 x6 x7) ∗ owns (c : Thread nD τ) arg14 fullShare (amArr x0 x1 x2 x5 x6 x7) ∗ owns (c : Thread nD τ) arg15 fullShare (newA x0 x1 x2 x3 x6 x7 A) ∗ owns (c : Thread nD τ) arg16 fullShare (newB x2 x3 B)) -∗ WP κ Q))
      ⊢ WP (passes arg1 arg2 arg3 arg4 arg5 arg6 arg7 arg8 arg11 harg11 arg12 arg13 arg14 arg15 arg16 κ) Q := by
  unfold passes ownIn
  iintro ⟨⟨H1, H2, H3, H4, H5, H6, H7, H8⟩, HC, HS, HZ, HM, HA, HB, Hk⟩
  iapply (load_owns Variants.none (c : Thread nD τ) none E x3) $$ [H4]; · iexact H4
  iintro H4
  iapply (load_owns Variants.none (c : Thread nD τ) none E x1) $$ [H2]; · iexact H2
  iintro H2
  rw [ld_31 x3, ld_160 x1]
  iapply (wp_blks1 (F := F) c E x0 x1 x2 x3 x5 x6 x7 arg1 arg3 arg6 arg7 arg8 arg15 arg16 Q A B 160 0 (by omega))
  rw [mix_zero, mix_zero, mix_all blkA_lt, mix_all blkA_lt]
  unfold own1
  isplitl [H1 H3 H6 H7 H8 HA HB]
  · isplitl [H1]; · iexact H1
    isplitl [H3]; · iexact H3
    isplitl [H6]; · iexact H6
    isplitl [H7]; · iexact H7
    isplitl [H8]; · iexact H8
    isplitl [HA]; · iexact HA
    iexact HB
  iintro ⟨H1, H3, H6, H7, H8, HA, HB⟩
  iapply (wp_blks2 (F := F) c E x0 x1 x2 x5 x6 x7 arg1 arg3 arg6 arg7 arg8 arg13 arg14 Q Z M 160 0 (by omega))
  rw [mix_zero, mix_zero, mix_all blkC_lt, mix_all blkN_lt]
  unfold own2
  isplitl [H1 H3 H6 H7 H8 HZ HM]
  · isplitl [H1]; · iexact H1
    isplitl [H3]; · iexact H3
    isplitl [H6]; · iexact H6
    isplitl [H7]; · iexact H7
    isplitl [H8]; · iexact H8
    isplitl [HZ]; · iexact HZ
    iexact HM
  iintro ⟨H1, H3, H6, H7, H8, HZ, HM⟩
  iapply (load_owns Variants.none (c : Thread nD τ) none E x3) $$ [H4]; · iexact H4
  iintro H4
  iapply (load_owns Variants.none (c : Thread nD τ) none E x4) $$ [H5]; · iexact H5
  iintro H5
  iapply (load_owns Variants.none (c : Thread nD τ) none E (amArr x0 x1 x2 x5 x6 x7)) $$ [HM]; · iexact HM
  iintro HM
  iapply (load_owns Variants.none (c : Thread nD τ) none E S) $$ [HS]; · iexact HS
  iintro HS
  iapply (store_owns Variants.none (c : Thread nD τ) none E S) $$ [HS]; · iexact HS
  iintro HS
  rw [ld_31 x3, ld_31 x4, ld_160 (amArr x0 x1 x2 x5 x6 x7), st_160]
  iapply (wp_blks3 (F := F) c E x0 x1 x2 x3 x4 x5 x6 x7 arg11 harg11 arg13 Q C 160 0 (by omega))
  rw [mix_zero, mix_all blkC_lt]
  unfold own3
  isplitl [HZ HC]
  · isplitl [HZ]; · iexact HZ
    iexact HC
  iintro ⟨HZ, HC⟩
  iapply Hk
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HC]; · iexact HC
  isplitl [HS]; · iexact HS
  isplitl [HZ]; · iexact HZ
  isplitl [HM]; · iexact HM
  isplitl [HA]; · iexact HA
  iexact HB

theorem wp_zeroed (Q : α → sProp 𝕄) (A B : Vec F S8x20480 .f32) (κ : P F α) :
    iprop(owns (c : Thread nD τ) arg15 fullShare A ∗ owns (c : Thread nD τ) arg16 fullShare B ∗ (iprop(owns (c : Thread nD τ) arg15 fullShare zero8 ∗ owns (c : Thread nD τ) arg16 fullShare zero8) -∗ WP κ Q))
      ⊢ WP (zeroed arg15 arg16 κ) Q := by
  unfold zeroed
  iintro ⟨HA, HB, Hk⟩
  iapply (load_owns Variants.none (c : Thread nD τ) none E A) $$ [HA]; · iexact HA
  iintro HA
  iapply (store_owns Variants.none (c : Thread nD τ) none E A) $$ [HA]; · iexact HA
  iintro HA
  iapply (load_owns Variants.none (c : Thread nD τ) none E B) $$ [HB]; · iexact HB
  iintro HB
  iapply (store_owns Variants.none (c : Thread nD τ) none E B) $$ [HB]; · iexact HB
  iintro HB
  rw [st_8, st_8]
  iapply Hk
  isplitl [HA]; · iexact HA
  iexact HB

theorem wp_lasts (Q : PUnit → sProp 𝕄) (A B : Vec F S8x20480 .f32) (D0 D1 : Vec F S1x20480 .f32) :
    iprop(owns (c : Thread nD τ) arg15 fullShare A ∗ owns (c : Thread nD τ) arg16 fullShare B ∗ owns (c : Thread nD τ) arg9 fullShare D0 ∗ owns (c : Thread nD τ) arg10 fullShare D1 ∗
      (iprop(owns (c : Thread nD τ) arg15 fullShare A ∗ owns (c : Thread nD τ) arg16 fullShare B ∗ owns (c : Thread nD τ) arg9 fullShare (last A) ∗ owns (c : Thread nD τ) arg10 fullShare (last B)) -∗ Q ⟨⟩))
      ⊢ WP (lasts arg9 arg10 arg15 arg16) Q := by
  unfold lasts
  iintro ⟨HA, HB, H9, H10, Hk⟩
  iapply (load_owns Variants.none (c : Thread nD τ) none E A) $$ [HA]; · iexact HA
  iintro HA
  iapply (load_owns Variants.none (c : Thread nD τ) none E D0) $$ [H9]; · iexact H9
  iintro H9
  iapply (store_owns Variants.none (c : Thread nD τ) none E D0) $$ [H9]; · iexact H9
  iintro H9
  iapply (load_owns Variants.none (c : Thread nD τ) none E B) $$ [HB]; · iexact HB
  iintro HB
  iapply (load_owns Variants.none (c : Thread nD τ) none E D1) $$ [H10]; · iexact H10
  iintro H10
  iapply (store_owns Variants.none (c : Thread nD τ) none E D1) $$ [H10]; · iexact H10
  iintro H10
  rw [st_1, st_1, ld_8 A, ld_8 B]
  sl_step
  iapply Hk
  isplitl [HA]; · iexact HA
  isplitl [HB]; · iexact HB
  isplitl [H9]; · iexact H9
  iexact H10

end Whole

end Cert.Kernel.Body
-- ==== Proof.KernelHand.Equal.lean ====
/- The printed body is the loops of `Body.lean`. -/
module

public import proofs.«01_k».proof.Proof.KernelHand.Body

@[expose] public section

set_option maxRecDepth 1000000
set_option maxHeartbeats 4000000

noncomputable section

namespace Cert.Kernel.Body

open Idealize.ShloMosaic Idealize.SL.Sem

variable {F : FTy → Type} [FloatOps F] [Facts]

variable (i : grid0.Coords) (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

/-- At the grid's first point the accumulators are zeroed first. -/
theorem cc0_first (h : (Scalar.cmpi .ne (Scalar.extui (Scalar.cmpi .eq (BitVec.ofNat 32 (i 0).val) 0#32)) 0#32) = 1#1) :
    cc0_ln_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = zeroed arg15 arg16 (body i arg1 arg2 arg3 arg4 arg5 arg6 arg7 arg8 arg9 arg10 arg11 harg11 arg12 arg13 arg14 arg15 arg16) := by
  unfold cc0_ln_bwd k0_part374
  rw [show k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = _ from dif_pos h]
  rfl

/-- At every other point they are not. -/
theorem cc0_other (h : ¬ (Scalar.cmpi .ne (Scalar.extui (Scalar.cmpi .eq (BitVec.ofNat 32 (i 0).val) 0#32)) 0#32) = 1#1) :
    cc0_ln_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = body i arg1 arg2 arg3 arg4 arg5 arg6 arg7 arg8 arg9 arg10 arg11 harg11 arg12 arg13 arg14 arg15 arg16 := by
  unfold cc0_ln_bwd k0_part374
  rw [show k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = _ from dif_neg h]
  rfl

end Cert.Kernel.Body
-- ==== Proof.KernelHand.Run.lean ====
/- What a grid point's run leaves in each buffer, one piece over the whole of it: the values of `Wp.lean`. -/
module

public import proofs.«01_k».proof.Proof.Gen.Kernel.Frame.Runs
public import proofs.«01_k».proof.Proof.KernelHand.Wp
public import proofs.«01_k».proof.Proof.KernelHand.Equal

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rules Cert.Kernel.Body

variable {F : FTy → Type} [FloatOps F]

local notation "𝕄" => MT nD τ sig Unit (Elt F) ℕ (UR sig nD τ) ℕ

theorem inbQ : ∀ a, (![0, 0] : Fin 2 → Nat) a + S32x20480.size a ≤ S32x20480.size a := by
  intro a; fin_cases a <;> simp [S32x20480]
/-- The whole of a [32, 20480] array. -/
@[reducible] def rQ : Rect S32x20480 := Rect.unit (s := S32x20480) ![0, 0] S32x20480.size inbQ

variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16

/-- At the grid's first point: the accumulators are zeroed, then the passes run. -/
noncomputable def kernelRun0_A (hc0 : cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) :
    Σ' (L8 : List (View.Piece (Elt F) S1x20480 .f32)), Σ' (L9 : List (View.Piece (Elt F) S1x20480 .f32)), Σ' (L10 : List (View.Piece (Elt F) S32x20480 .fp8e5m2)), Σ' (L11 : List (View.Piece (Elt F) S32x160 .f32)), Σ' (LS2 : List (View.Piece (Elt F) S8x20480 .f32)), Σ' (LS3 : List (View.Piece (Elt F) S8x20480 .f32)), Σ' (LT0 : List (View.Piece (Elt F) S32x20480 .f32)), { LT1 : List (View.Piece (Elt F) S32x160 .f32) //
      ∀ (xi8 : Vec F S1x20480 .f32) (xi9 : Vec F S1x20480 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [⟨rQ, fun j => (coArr x0 x1 x2 x3 x4 x5 x6 x7) (rQ.emb j)⟩], [⟨r160, fun j => (scArr x0 x1 x2 x3 x4 x5 x6 x7) (r160.emb j)⟩], [⟨r8, fun j => (newA x0 x1 x2 x3 x6 x7 zero8) (r8.emb j)⟩], [⟨r8, fun j => (newB x2 x3 zero8) (r8.emb j)⟩], [⟨rQ, fun j => (zArr x0 x1 x2 x5 x6 x7) (rQ.emb j)⟩], [⟨r160, fun j => (amArr x0 x1 x2 x5 x6 x7) (r160.emb j)⟩], fun xi8 xi9 E K => ?_⟩
  rw [cc0_first (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0]
  iintro ⟨H1, H2, H3, H4, H5, H6, H7, H8, H9, H10, ⟨%d11, H11⟩, ⟨%d12, H12⟩, ⟨%d13, H13⟩, ⟨%d14, H14⟩, ⟨%d15, H15⟩, ⟨%d16, H16⟩, Hk⟩
  iapply (wp_zeroed (F := F) c E arg15 arg16 K d15 d16)
  isplitl [H15]; · iexact H15
  isplitl [H16]; · iexact H16
  iintro ⟨H15, H16⟩
  unfold body
  rw [dif_neg hc1]
  iapply (wp_passes (F := F) c E x0 x1 x2 x3 x4 x5 x6 x7 arg1 arg2 arg3 arg4 arg5 arg6 arg7 arg8 arg11 harg11 arg12 arg13 arg14 arg15 arg16 K zero8 zero8 d13 d14 d12 d11)
  unfold ownIn
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11]; · iexact H11
  isplitl [H12]; · iexact H12
  isplitl [H13]; · iexact H13
  isplitl [H14]; · iexact H14
  isplitl [H15]; · iexact H15
  isplitl [H16]; · iexact H16
  iintro ⟨⟨H1, H2, H3, H4, H5, H6, H7, H8⟩, H11, H12, H13, H14, H15, H16⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_piece (c : Thread nD τ) harg11 rQ _); iexact H11
  isplitl [H12]; · iapply (owns_piece (c : Thread nD τ) harg12 r160 _); iexact H12
  isplitl [H13]; · iapply (owns_piece (c : Thread nD τ) harg13 rQ _); iexact H13
  isplitl [H14]; · iapply (owns_piece (c : Thread nD τ) harg14 r160 _); iexact H14
  isplitl [H15]; · iapply (owns_piece (c : Thread nD τ) harg15 r8 _); iexact H15
  iapply (owns_piece (c : Thread nD τ) harg16 r8 _); iexact H16

/-- At a middle point: the passes run on the accumulators as they stand. -/
noncomputable def kernelRun0_B (hc0 : ¬cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    Σ' (L8 : List (View.Piece (Elt F) S1x20480 .f32)), Σ' (L9 : List (View.Piece (Elt F) S1x20480 .f32)), Σ' (L10 : List (View.Piece (Elt F) S32x20480 .fp8e5m2)), Σ' (L11 : List (View.Piece (Elt F) S32x160 .f32)), Σ' (LS2 : List (View.Piece (Elt F) S8x20480 .f32)), Σ' (LS3 : List (View.Piece (Elt F) S8x20480 .f32)), Σ' (LT0 : List (View.Piece (Elt F) S32x20480 .f32)), { LT1 : List (View.Piece (Elt F) S32x160 .f32) //
      ∀ (xi8 : Vec F S1x20480 .f32) (xi9 : Vec F S1x20480 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [⟨rQ, fun j => (coArr x0 x1 x2 x3 x4 x5 x6 x7) (rQ.emb j)⟩], [⟨r160, fun j => (scArr x0 x1 x2 x3 x4 x5 x6 x7) (r160.emb j)⟩], [⟨r8, fun j => (newA x0 x1 x2 x3 x6 x7 xs2) (r8.emb j)⟩], [⟨r8, fun j => (newB x2 x3 xs3) (r8.emb j)⟩], [⟨rQ, fun j => (zArr x0 x1 x2 x5 x6 x7) (rQ.emb j)⟩], [⟨r160, fun j => (amArr x0 x1 x2 x5 x6 x7) (r160.emb j)⟩], fun xi8 xi9 E K => ?_⟩
  rw [cc0_other (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0]
  iintro ⟨H1, H2, H3, H4, H5, H6, H7, H8, H9, H10, ⟨%d11, H11⟩, ⟨%d12, H12⟩, ⟨%d13, H13⟩, ⟨%d14, H14⟩, H15, H16, Hk⟩
  unfold body
  rw [dif_neg hc1]
  iapply (wp_passes (F := F) c E x0 x1 x2 x3 x4 x5 x6 x7 arg1 arg2 arg3 arg4 arg5 arg6 arg7 arg8 arg11 harg11 arg12 arg13 arg14 arg15 arg16 K xs2 xs3 d13 d14 d12 d11)
  unfold ownIn
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11]; · iexact H11
  isplitl [H12]; · iexact H12
  isplitl [H13]; · iexact H13
  isplitl [H14]; · iexact H14
  isplitl [H15]; · iexact H15
  isplitl [H16]; · iexact H16
  iintro ⟨⟨H1, H2, H3, H4, H5, H6, H7, H8⟩, H11, H12, H13, H14, H15, H16⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_piece (c : Thread nD τ) harg11 rQ _); iexact H11
  isplitl [H12]; · iapply (owns_piece (c : Thread nD τ) harg12 r160 _); iexact H12
  isplitl [H13]; · iapply (owns_piece (c : Thread nD τ) harg13 rQ _); iexact H13
  isplitl [H14]; · iapply (owns_piece (c : Thread nD τ) harg14 r160 _); iexact H14
  isplitl [H15]; · iapply (owns_piece (c : Thread nD τ) harg15 r8 _); iexact H15
  iapply (owns_piece (c : Thread nD τ) harg16 r8 _); iexact H16

/-- At the grid's last point: the passes run, then the accumulators are summed into the results. -/
noncomputable def kernelRun0_C (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    Σ' (L8 : List (View.Piece (Elt F) S1x20480 .f32)), Σ' (L9 : List (View.Piece (Elt F) S1x20480 .f32)), Σ' (L10 : List (View.Piece (Elt F) S32x20480 .fp8e5m2)), Σ' (L11 : List (View.Piece (Elt F) S32x160 .f32)), Σ' (LS2 : List (View.Piece (Elt F) S8x20480 .f32)), Σ' (LS3 : List (View.Piece (Elt F) S8x20480 .f32)), Σ' (LT0 : List (View.Piece (Elt F) S32x20480 .f32)), { LT1 : List (View.Piece (Elt F) S32x160 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[⟨r1, fun j => (last (newA x0 x1 x2 x3 x6 x7 xs2)) (r1.emb j)⟩], [⟨r1, fun j => (last (newB x2 x3 xs3)) (r1.emb j)⟩], [⟨rQ, fun j => (coArr x0 x1 x2 x3 x4 x5 x6 x7) (rQ.emb j)⟩], [⟨r160, fun j => (scArr x0 x1 x2 x3 x4 x5 x6 x7) (r160.emb j)⟩], [⟨r8, fun j => (newA x0 x1 x2 x3 x6 x7 xs2) (r8.emb j)⟩], [⟨r8, fun j => (newB x2 x3 xs3) (r8.emb j)⟩], [⟨rQ, fun j => (zArr x0 x1 x2 x5 x6 x7) (rQ.emb j)⟩], [⟨r160, fun j => (amArr x0 x1 x2 x5 x6 x7) (r160.emb j)⟩], fun E K => ?_⟩
  rw [cc0_other (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0]
  iintro ⟨H1, H2, H3, H4, H5, H6, H7, H8, ⟨%d9, H9⟩, ⟨%d10, H10⟩, ⟨%d11, H11⟩, ⟨%d12, H12⟩, ⟨%d13, H13⟩, ⟨%d14, H14⟩, H15, H16, Hk⟩
  unfold body
  rw [dif_pos hc1]
  iapply (wp_passes (F := F) c E x0 x1 x2 x3 x4 x5 x6 x7 arg1 arg2 arg3 arg4 arg5 arg6 arg7 arg8 arg11 harg11 arg12 arg13 arg14 arg15 arg16 K xs2 xs3 d13 d14 d12 d11)
  unfold ownIn
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11]; · iexact H11
  isplitl [H12]; · iexact H12
  isplitl [H13]; · iexact H13
  isplitl [H14]; · iexact H14
  isplitl [H15]; · iexact H15
  isplitl [H16]; · iexact H16
  iintro ⟨⟨H1, H2, H3, H4, H5, H6, H7, H8⟩, H11, H12, H13, H14, H15, H16⟩
  iapply (wp_lasts (F := F) c E arg9 arg10 arg15 arg16 K _ _ d9 d10)
  isplitl [H15]; · iexact H15
  isplitl [H16]; · iexact H16
  isplitl [H9]; · iexact H9
  isplitl [H10]; · iexact H10
  iintro ⟨H15, H16, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_piece (c : Thread nD τ) harg9 r1 _); iexact H9
  isplitl [H10]; · iapply (owns_piece (c : Thread nD τ) harg10 r1 _); iexact H10
  isplitl [H11]; · iapply (owns_piece (c : Thread nD τ) harg11 rQ _); iexact H11
  isplitl [H12]; · iapply (owns_piece (c : Thread nD τ) harg12 r160 _); iexact H12
  isplitl [H13]; · iapply (owns_piece (c : Thread nD τ) harg13 rQ _); iexact H13
  isplitl [H14]; · iapply (owns_piece (c : Thread nD τ) harg14 r160 _); iexact H14
  isplitl [H15]; · iapply (owns_piece (c : Thread nD τ) harg15 r8 _); iexact H15
  iapply (owns_piece (c : Thread nD τ) harg16 r8 _); iexact H16

end Cert.Kernel.Gen
-- ==== Proof.KernelHand.Frame.lean ====
/- The frame from the runs of `Run.lean`: what the outputs and the two accumulators hold point by point, the body's
   obligation at every grid point, and the run of @main. Adapted from the generated frame, whose runs hold one piece per
   store; here a run leaves one piece over each whole buffer. -/
module

public import proofs.«01_k».proof.Proof.KernelHand.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer's memref is whole. -/
theorem hw {κ : Kind} {b : Ref sig κ} : (Memref.whole b).IsWhole := Memref.isWhole_whole _

/-- The point before a point of the grid. -/
theorem pred_lt (t : Fin cfg0.N) : t.val - 1 < cfg0.N := Nat.lt_of_le_of_lt (Nat.sub_le _ _) t.isLt

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
  (hc0 : cond0_0 i) (hc1 : ¬cond0_1 i)
  (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32)

/-- Case A stores nothing into output 8 (the window is idle at its points and not written back there):
    no pieces — a placeholder (junk read back) that nothing consults, since at these points the window is neither
    written back nor read at the next point (Lib/Pipeline.lean "Idle points"). -/
def out0_A_8 : Vec F S1x20480 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out0_A_9 : Vec F S1x20480 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1)

/-- Case A's piece for output 10 covers its block. -/
theorem cover0_A_10 (y : S32x20480.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1 S32x20480.size (by sl_kernel_rfl) y

/-- What case A leaves in output 10's staging buffer: its pieces read back over junk. -/
def out0_A_10 : Vec F S32x20480 .fp8e5m2 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1)

/-- Case A's piece for output 11 covers its block. -/
theorem cover0_A_11 (y : S32x160.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1 S32x160.size (by sl_kernel_rfl) y

/-- What case A leaves in output 11's staging buffer: its pieces read back over junk. -/
def out0_A_11 : Vec F S32x160 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1)

/-- Case A's piece for scratch `arg15`, which the kernel carries between points, covers it. -/
theorem scover0_A_2 (y : S8x20480.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1 (by sl_whole_mem) y

/-- What case A leaves in scratch `arg15`: its pieces read back over junk. -/
def sout0_A_2 : Vec F S8x20480 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1)

/-- Case A's piece for scratch `arg16`, which the kernel carries between points, covers it. -/
theorem scover0_A_3 (y : S8x20480.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1 (by sl_whole_mem) y

/-- What case A leaves in scratch `arg16`: its pieces read back over junk. -/
def sout0_A_3 : Vec F S8x20480 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1)

end

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
  (hc0 : ¬cond0_0 i) (hc1 : ¬cond0_1 i)
  (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32)

/-- Case B stores nothing into output 8 (the window is idle at its points and not written back there):
    no pieces — a placeholder (junk read back) that nothing consults, since at these points the window is neither
    written back nor read at the next point (Lib/Pipeline.lean "Idle points"). -/
def out0_B_8 : Vec F S1x20480 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1)

/-- Case B stores nothing into output 9 (the window is idle at its points and not written back there):
    no pieces — a placeholder (junk read back) that nothing consults, since at these points the window is neither
    written back nor read at the next point (Lib/Pipeline.lean "Idle points"). -/
def out0_B_9 : Vec F S1x20480 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1)

/-- Case B's piece for output 10 covers its block. -/
theorem cover0_B_10 (y : S32x20480.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1 S32x20480.size (by sl_kernel_rfl) y

/-- What case B leaves in output 10's staging buffer: its pieces read back over junk. -/
def out0_B_10 : Vec F S32x20480 .fp8e5m2 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1)

/-- Case B's piece for output 11 covers its block. -/
theorem cover0_B_11 (y : S32x160.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1 S32x160.size (by sl_kernel_rfl) y

/-- What case B leaves in output 11's staging buffer: its pieces read back over junk. -/
def out0_B_11 : Vec F S32x160 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1)

/-- Case B's piece for scratch `arg15`, which the kernel carries between points, covers it. -/
theorem scover0_B_2 (y : S8x20480.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1 S8x20480.size (by sl_kernel_rfl) y

/-- What case B leaves in scratch `arg15`: its pieces read back over junk. -/
def sout0_B_2 : Vec F S8x20480 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1)

/-- Case B's piece for scratch `arg16`, which the kernel carries between points, covers it. -/
theorem scover0_B_3 (y : S8x20480.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1 S8x20480.size (by sl_kernel_rfl) y

/-- What case B leaves in scratch `arg16`: its pieces read back over junk. -/
def sout0_B_3 : Vec F S8x20480 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1)

end

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
  (hc0 : ¬cond0_0 i) (hc1 : cond0_1 i)
  (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32)

/-- Case C's piece for output 8 covers its block. -/
theorem cover0_C_8 (y : S1x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1 S1x20480.size (by sl_kernel_rfl) y

/-- What case C leaves in output 8's staging buffer: its pieces read back over junk. -/
def out0_C_8 : Vec F S1x20480 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1)

/-- Case C's piece for output 9 covers its block. -/
theorem cover0_C_9 (y : S1x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1 S1x20480.size (by sl_kernel_rfl) y

/-- What case C leaves in output 9's staging buffer: its pieces read back over junk. -/
def out0_C_9 : Vec F S1x20480 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1)

/-- Case C's piece for output 10 covers its block. -/
theorem cover0_C_10 (y : S32x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1 S32x20480.size (by sl_kernel_rfl) y

/-- What case C leaves in output 10's staging buffer: its pieces read back over junk. -/
def out0_C_10 : Vec F S32x20480 .fp8e5m2 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1)

/-- Case C's piece for output 11 covers its block. -/
theorem cover0_C_11 (y : S32x160.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1 S32x160.size (by sl_kernel_rfl) y

/-- What case C leaves in output 11's staging buffer: its pieces read back over junk. -/
def out0_C_11 : Vec F S32x160 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1)

/-- Case C's piece for scratch `arg15`, which the kernel carries between points, covers it. -/
theorem scover0_C_2 (y : S8x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1 S8x20480.size (by sl_kernel_rfl) y

/-- What case C leaves in scratch `arg15`: its pieces read back over junk. -/
def sout0_C_2 : Vec F S8x20480 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1)

/-- Case C's piece for scratch `arg16`, which the kernel carries between points, covers it. -/
theorem scover0_C_3 (y : S8x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1 S8x20480.size (by sl_kernel_rfl) y

/-- What case C leaves in scratch `arg16`: its pieces read back over junk. -/
def sout0_C_3 : Vec F S8x20480 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x20480 .f32 × Vec F S1x20480 .f32 × Vec F S32x20480 .fp8e5m2 × Vec F S32x160 .f32 × Vec F S8x20480 .f32 × Vec F S8x20480 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 48 = 0 then
      if h1 : (n + 1) % 48 = 47 then
        False.elim (by have hN : n + 1 < 48 := lt_of_lt_of_eq hn (show cfg0.N = 48 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 48 = 47 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 48 = 0) (h1 : ¬t.val % 48 = 47) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 48 = 0) (h1 : ¬t.val % 48 = 47) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 48 = 0) (h1 : t.val % 48 = 47) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases h1 : t.val % 48 = 47
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · rw [PhiS_castSucc m c t, PhiS_zero m c _ _ hz, PhiA0_eq]
        rw [outsAt0_A m c t h0 h1]
        unfold out0_A_10 out0_A_11 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, ⟨%e10, H10⟩, ⟨%e11, H11⟩, ⟨%fT0, HS0⟩, ⟨%fT1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
      · exfalso; have hN : t.val < 48 := lt_of_lt_of_eq t.isLt (show cfg0.N = 48 from N_0); omega
  · by_cases h1 : t.val % 48 = 47
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 48 := lt_of_lt_of_eq t.isLt (show cfg0.N = 48 from N_0); omega
      · rw [PhiS_castSucc m c t, PhiS_pos m c _ _ hz]
        rw [outsAt0_C m c t h0 h1]
        unfold out0_C_8 out0_C_9 out0_C_10 out0_C_11 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, ⟨%e8, H8⟩, ⟨%e9, H9⟩, ⟨%e10, H10⟩, ⟨%e11, H11⟩, ⟨%fT0, HS0⟩, ⟨%fT1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 48 := lt_of_lt_of_eq t.isLt (show cfg0.N = 48 from N_0); omega
      · rw [PhiS_castSucc m c t, PhiS_pos m c _ _ hz]
        rw [outsAt0_B m c t h0 h1]
        unfold out0_B_10 out0_B_11 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, ⟨%e10, H10⟩, ⟨%e11, H11⟩, ⟨%fT0, HS0⟩, ⟨%fT1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdealHand.Body.lean ====
/- The kernel's body written as loops over its 160 blocks of 128 columns.

   The printed body repeats three stretches of statements once per block (the sums, the differences with their
   largest magnitudes, and the codes). Here each stretch is one definition with the block's number as its argument,
   and `body` is the whole body in these terms. Every definition takes the rest of the program as its last argument,
   so that a stretch unfolds to the printed statements in their order. -/
module

public import proofs.«01_k».proof.KernelIdeal

@[expose] public section

set_option maxRecDepth 100000
set_option synthInstance.maxSize 4096

noncomputable section

namespace Cert.KernelIdeal.Body

open Idealize.ShloMosaic Idealize.SL.Sem
open Facts Facts₀ K0.Facts₀ Shapes1.Facts₀

variable {F : FTy → Type} [FloatOps F] [Named F] [Facts]

/-! ## The rectangles of block `b` -/

theorem inbC (b : ℕ) (hb : b < 160) : ∀ a, (![0, 128 * b] : Fin 2 → Nat) a + S32x128.size a ≤ S32x20480.size a := by
  intro a; fin_cases a <;> simp [S32x128, S32x20480] <;> omega
theorem inbR (b : ℕ) (hb : b < 160) : ∀ a, (![0, 128 * b] : Fin 2 → Nat) a + S1x128.size a ≤ S1x20480.size a := by
  intro a; fin_cases a <;> simp [S1x128, S1x20480] <;> omega
theorem inbA (b : ℕ) (hb : b < 160) : ∀ a, (![0, 128 * b] : Fin 2 → Nat) a + S8x128.size a ≤ S8x20480.size a := by
  intro a; fin_cases a <;> simp [S8x128, S8x20480] <;> omega
theorem inbN (b : ℕ) (hb : b < 160) : ∀ a, (![0, b] : Fin 2 → Nat) a + S32x1.size a ≤ S32x160.size a := by
  intro a; fin_cases a <;> simp [S32x1, S32x160] <;> omega
theorem slS (b : ℕ) (hb : b < 160) : S32x160.Slices ![0, b] S32x1 :=
  ⟨rfl, by intro a; fin_cases a <;> simp [S32x1, S32x160] <;> omega⟩

/-- Block `b` of 32 rows. -/
@[reducible] def rC (b : ℕ) (hb : b < 160) : Rect S32x20480 := Rect.unit (s := S32x20480) ![0, 128 * b] S32x128.size (inbC b hb)
/-- Block `b` of one row. -/
@[reducible] def rR (b : ℕ) (hb : b < 160) : Rect S1x20480 := Rect.unit (s := S1x20480) ![0, 128 * b] S1x128.size (inbR b hb)
/-- Block `b` of 8 rows. -/
@[reducible] def rA (b : ℕ) (hb : b < 160) : Rect S8x20480 := Rect.unit (s := S8x20480) ![0, 128 * b] S8x128.size (inbA b hb)
/-- Column `b` of the 160 block numbers. -/
@[reducible] def rN (b : ℕ) (hb : b < 160) : Rect S32x160 := Rect.unit (s := S32x160) ![0, b] S32x1.size (inbN b hb)

theorem packed (b : ℕ) (hb : b < 160) : (rC b hb).PackedRows (EltTy.packing .fp8e5m2) :=
  Or.inr ⟨by decide, rfl, Or.inl ⟨dvd_zero _, by change (4 : ℕ) ∣ 32; decide⟩⟩

abbrev P (F : FTy → Type) [FloatOps F] [Named F] [Facts] (α : Type) := Prog (TpuEff nD τ sig (Elt F) Λ₀ .tc) α

variable {α : Type}

/-! ## Loads and stores -/

@[reducible] def ldC {e : EltTy} (a : Memref sig .tc .vmem S32x20480 e) (b : ℕ) (hb : b < 160) (κ : Vec F S32x128 e → P F α) : P F α :=
  .op (.load a (rC b hb).toLoadRect (View.loadsAt_vmem h_S32x128)) κ
@[reducible] def ldR (a : Memref sig .tc .vmem S1x20480 .f32) (b : ℕ) (hb : b < 160) (κ : Vec F S1x128 .f32 → P F α) : P F α :=
  .op (.load a (rR b hb).toLoadRect (View.loadsAt_vmem h_S1x128)) κ
@[reducible] def ldA (a : Memref sig .tc .vmem S8x20480 .f32) (b : ℕ) (hb : b < 160) (κ : Vec F S8x128 .f32 → P F α) : P F α :=
  .op (.load a (rA b hb).toLoadRect (View.loadsAt_vmem h_S8x128)) κ
@[reducible] def ldN (a : Memref sig .tc .vmem S32x160 .f32) (b : ℕ) (hb : b < 160) (κ : Vec F S32x1 .f32 → P F α) : P F α :=
  .op (.load a (rN b hb).toLoadRect (View.loadsAt_vmem h_S32x1)) κ
@[reducible] def stA (a : Memref sig .tc .vmem S8x20480 .f32) (b : ℕ) (hb : b < 160) (v : Vec F S8x128 .f32) (κ : P F α) : P F α :=
  .op (.store a (rA b hb) (shapeCast S8x128 v shapeCasts_S8x128_S8x128) Finset.univ (View.stores_vmem_bits_univ h_S8x128 rfl) (.inl rfl)) fun _ => κ
@[reducible] def stC (a : Memref sig .tc .vmem S32x20480 .f32) (b : ℕ) (hb : b < 160) (v : Vec F S32x128 .f32) (κ : P F α) : P F α :=
  .op (.store a (rC b hb) (shapeCast S32x128 v shapeCasts_S32x128_S32x128) Finset.univ (View.stores_vmem_bits_univ h_S32x128 rfl) (.inl rfl)) fun _ => κ
@[reducible] def stN (a : Memref sig .tc .vmem S32x160 .f32) (b : ℕ) (hb : b < 160) (v : Vec F S32x1 .f32) (κ : P F α) : P F α :=
  .op (.store a (rN b hb) (shapeCast S32x1 v shapeCasts_S32x1_S32x1) Finset.univ (View.stores_vmem_bits_univ h_S32x1 rfl) (.inl rfl)) fun _ => κ
@[reducible] def stQ (a : Memref sig .tc .vmem S32x20480 .fp8e5m2) (ha : a.IsWhole) (b : ℕ) (hb : b < 160) (v : Vec F S32x128 .fp8e5m2) (κ : P F α) : P F α :=
  .op (.store a (rC b hb) v Finset.univ (View.stores_vmem h_S32x128 (ha.storeExact_slice rfl _ (packed b hb)) (fun _ => rfl)) (.inl rfl)) fun _ => κ

@[reducible] def r31 : Rect S32x1 := Rect.unit (s := S32x1) ![0, 0] S32x1.size inb_S32x1_S32x1_0_0
@[reducible] def r160 : Rect S32x160 := Rect.unit (s := S32x160) ![0, 0] S32x160.size inb_S32x160_S32x160_0_0
@[reducible] def r8 : Rect S8x20480 := Rect.unit (s := S8x20480) ![0, 0] S8x20480.size inb_S8x20480_S8x20480_0_0
@[reducible] def r1 : Rect S1x20480 := Rect.unit (s := S1x20480) ![0, 0] S1x20480.size inb_S1x20480_S1x20480_0_0

@[reducible] def ld31 (a : Memref sig .tc .vmem S32x1 .f32) (κ : Vec F S32x1 .f32 → P F α) : P F α :=
  .op (.load a r31.toLoadRect (View.loadsAt_vmem h_S32x1)) κ
@[reducible] def ld160 (a : Memref sig .tc .vmem S32x160 .f32) (κ : Vec F S32x160 .f32 → P F α) : P F α :=
  .op (.load a r160.toLoadRect (View.loadsAt_vmem h_S32x160)) κ
@[reducible] def ld8 (a : Memref sig .tc .vmem S8x20480 .f32) (κ : Vec F S8x20480 .f32 → P F α) : P F α :=
  .op (.load a r8.toLoadRect (View.loadsAt_vmem h_S8x20480)) κ
@[reducible] def ld1 (a : Memref sig .tc .vmem S1x20480 .f32) (κ : Vec F S1x20480 .f32 → P F α) : P F α :=
  .op (.load a r1.toLoadRect (View.loadsAt_vmem h_S1x20480)) κ
@[reducible] def st160 (a : Memref sig .tc .vmem S32x160 .f32) (v : Vec F S32x160 .f32) (κ : P F α) : P F α :=
  .op (.store a r160 v Finset.univ (View.stores_vmem_bits_univ h_S32x160 rfl) (.inl rfl)) fun _ => κ
@[reducible] def st8 (a : Memref sig .tc .vmem S8x20480 .f32) (v : Vec F S8x20480 .f32) (κ : P F α) : P F α :=
  .op (.store a r8 v Finset.univ (View.stores_vmem_bits_univ h_S8x20480 rfl) (.inl rfl)) fun _ => κ
@[reducible] def st1 (a : Memref sig .tc .vmem S1x20480 .f32) (v : Vec F S1x20480 .f32) (κ : P F α) : P F α :=
  .op (.store a r1 v Finset.univ (View.stores_vmem_bits_univ h_S1x20480 rfl) (.inl rfl)) fun _ => κ

/-! ## The values of one block -/

/-- A block's dy codes as floats. -/
def qv (x : Vec F S32x128 .fp8e5m2) : FVec F S32x128 .f32 := extf .f32 (shapeCast S32x128 x shapeCasts_S32x128_S32x128) bitsLt_fp8e5m2_f32
/-- Column `b` of a [32, 160] array, repeated along the block's columns. -/
def colv (v : FVec F S32x160 .f32) (b : ℕ) (hb : b < 160) : FVec F S32x128 .f32 :=
  broadcastTo S32x128 (extractStridedSlice S32x1 ![0, b] v (slS b hb)) broadcasts_S32x1_S32x128
/-- A row of a block, repeated along the tokens. -/
def rowv (x : Vec F S1x128 .f32) : FVec F S32x128 .f32 := broadcastTo S32x128 (shapeCast S1x128 x shapeCasts_S1x128_S1x128) broadcasts_S1x128_S32x128
/-- A column of the tokens, repeated along the block's columns. -/
def tokv (v : FVec F S32x1 .f32) : FVec F S32x128 .f32 := broadcastTo S32x128 v broadcasts_S32x1_S32x128
/-- A block's normalised activations: `(codes · scale − beta) · a`. -/
def xh (v8 : FVec F S32x160 .f32) (b : ℕ) (hb : b < 160) (y : Vec F S32x128 .fp8e4m3) (be a : Vec F S1x128 .f32) : FVec F S32x128 .f32 :=
  mulf (subf (mulf (extf .f32 (shapeCast S32x128 y shapeCasts_S32x128_S32x128) bitsLt_fp8e4m3_f32) (colv v8 b hb)) (rowv be)) (rowv a)
/-- 32 rows summed to 8. -/
def fold (x : FVec F S32x128 .f32) : FVec F S8x128 .f32 :=
  addf (addf (addf (extractStridedSlice S8x128 ![0, 0] x slices_S32x128_o0_0_S8x128) (extractStridedSlice S8x128 ![8, 0] x slices_S32x128_o8_0_S8x128))
    (extractStridedSlice S8x128 ![16, 0] x slices_S32x128_o16_0_S8x128)) (extractStridedSlice S8x128 ![24, 0] x slices_S32x128_o24_0_S8x128)
/-- A token's mean from its 128 partial sums. -/
def mean (x : FVec F S32x128 .f32) : FVec F S32x1 .f32 :=
  mulf (shapeCast S32x1 (multiReduction .add [1] S32 x 0x00000000#32 reduces_S32x128_S32 (.inl rfl) rfl) shapeCasts_S32_S32x1)
    (broadcast S32x1 (Named.named κ "inv_d" 0x384CCCCD#32))
/-- The largest magnitude of each row of a block. -/
def rmax (x : FVec F S32x128 .f32) : FVec F S32x1 .f32 :=
  shapeCast S32x1 (multiReduction .maximumf [1] S32 (absf x) 0xFF800000#32 reduces_S32x128_S32 (.inl rfl) rfl) shapeCasts_S32_S32x1
/-- `q · gamma − m − xh · n`. -/
def zv (q ga : FVec F S32x128 .f32) (x : FVec F S32x128 .f32) (m n : FVec F S32x1 .f32) : FVec F S32x128 .f32 :=
  subf (subf (mulf q ga) (tokv m)) (mulf x (tokv n))

/-! ## The exponents and factors -/

/-- One step of the search for the exponent field: `f + k` where the power of two with that field is at most `t`. -/
def probe (t : FVec F S32x160 .f32) (k : BitVec 32) (f : IVec S32x160 32) : IVec S32x160 32 :=
  select (cmpf .oge t (bitcastToFloat .f32 (shli (addi f (broadcast S32x160 k)) (broadcast S32x160 23#32)))) (addi f (broadcast S32x160 k)) f
/-- The exponent field by eight such steps. -/
def field (t : FVec F S32x160 .f32) : IVec S32x160 32 :=
  probe t 1#32 (probe t 2#32 (probe t 4#32 (probe t 8#32 (probe t 16#32 (probe t 32#32 (probe t 64#32 (probe t 128#32 (broadcast S32x160 0#32))))))))
/-- The blocks' exponents. -/
def expo (t : FVec F S32x160 .f32) : IVec S32x160 32 :=
  select (cmpf .oeq t (broadcast S32x160 (Scalar.ofBits .f32 0x00000000#32))) (broadcast S32x160 0#32) (subi (field t) (broadcast S32x160 126#32))
/-- The scaled largest magnitudes. -/
def tv (g : FVec F S32x1 .f32) (am : FVec F S32x160 .f32) : FVec F S32x160 .f32 :=
  mulf (mulf am (broadcastTo S32x160 (absf g) broadcasts_S32x1_S32x160)) (broadcast S32x160 (Scalar.ofBits .f32 0x37924925#32))
/-- `2^e`. -/
def pow2 (e : IVec S32x160 32) : FVec F S32x160 .f32 := bitcastToFloat .f32 (shli (addi e (broadcast S32x160 127#32)) (broadcast S32x160 23#32))
/-- `2^(−e)`. -/
def pow2n (e : IVec S32x160 32) : FVec F S32x160 .f32 := bitcastToFloat .f32 (shli (subi (broadcast S32x160 127#32) e) (broadcast S32x160 23#32))
/-- The codes' factors. -/
def fac (g : FVec F S32x1 .f32) (e : IVec S32x160 32) : FVec F S32x160 .f32 :=
  minimumf (broadcast S32x160 (Scalar.ofBits .f32 0x7F000000#32))
    (maximumf (broadcast S32x160 (Scalar.ofBits .f32 0xFF000000#32)) (mulf (pow2n e) (broadcastTo S32x160 g broadcasts_S32x1_S32x160)))
/-- A block's codes. -/
def code (z f : FVec F S32x128 .f32) : FVec F S32x128 .fp8e5m2 :=
  truncf .fp8e5m2 (minimumf (broadcast S32x128 (Scalar.ofBits .f32 0x47600000#32))
    (maximumf (broadcast S32x128 (Scalar.ofBits .f32 0xC7600000#32)) (mulf z f))) bitsLt_fp8e5m2_f32
/-- 8 rows summed to one. -/
def last (x : Vec F S8x20480 .f32) : FVec F S1x20480 .f32 :=
  shapeCast S1x20480 (multiReduction .add [0] S20480 x 0x00000000#32 reduces_S8x20480_S20480 (.inl rfl) rfl) shapeCasts_S20480_S1x20480

/-! ## The loops -/

section
variable (arg1 : Memref sig .tc .vmem S32x20480 .fp8e4m3) (arg3 : Memref sig .tc .vmem S32x20480 .fp8e5m2)
  (arg6 arg7 arg8 : Memref sig .tc .vmem S1x20480 .f32) (arg15 arg16 : Memref sig .tc .vmem S8x20480 .f32)
  (v6 : FVec F S32x128 .f32) (v8 : FVec F S32x160 .f32)

/-- Block `b` of the first pass: both accumulators, and the running sums over the row. -/
def blk1 (b : ℕ) (hb : b < 160) (cg cgx : FVec F S32x128 .f32) (κ : FVec F S32x128 .f32 → FVec F S32x128 .f32 → P F α) : P F α :=
  ldC arg3 b hb fun q => ldC arg1 b hb fun y => ldR arg8 b hb fun be => ldR arg7 b hb fun a => ldR arg6 b hb fun ga =>
  ldA arg16 b hb fun w => ldA arg16 b hb fun _ => stA arg16 b hb (addf w (fold (mulf (qv q) v6))) <|
  ldA arg15 b hb fun w' => ldA arg15 b hb fun _ => stA arg15 b hb (addf w' (fold (mulf (mulf (qv q) v6) (xh v8 b hb y be a)))) <|
  κ (addf cg (mulf (qv q) (rowv ga))) (addf cgx (mulf (mulf (qv q) (rowv ga)) (xh v8 b hb y be a)))

/-- Blocks `b, b+1, …, b+n-1` of the first pass. -/
def blks1 : (n b : ℕ) → (b + n ≤ 160) → FVec F S32x128 .f32 → FVec F S32x128 .f32 → (FVec F S32x128 .f32 → FVec F S32x128 .f32 → P F α) → P F α
  | 0, _, _, cg, cgx, κ => κ cg cgx
  | n + 1, b, h, cg, cgx, κ => blk1 arg1 arg3 arg6 arg7 arg8 arg15 arg16 v6 v8 b (by omega) cg cgx fun cg cgx => blks1 n (b + 1) (by omega) cg cgx κ
end

section
variable (arg1 : Memref sig .tc .vmem S32x20480 .fp8e4m3) (arg3 : Memref sig .tc .vmem S32x20480 .fp8e5m2)
  (arg6 arg7 arg8 : Memref sig .tc .vmem S1x20480 .f32) (arg13 : Memref sig .tc .vmem S32x20480 .f32) (arg14 : Memref sig .tc .vmem S32x160 .f32)
  (v8 : FVec F S32x160 .f32) (m n : FVec F S32x1 .f32)

/-- Block `b` of the second pass: the unscaled gradient and its largest magnitudes. -/
def blk2 (b : ℕ) (hb : b < 160) (κ : P F α) : P F α :=
  ldC arg3 b hb fun q => ldR arg6 b hb fun ga => ldC arg1 b hb fun y => ldR arg8 b hb fun be => ldR arg7 b hb fun a =>
  ldC arg13 b hb fun _ => stC arg13 b hb (zv (qv q) (rowv ga) (xh v8 b hb y be a) m n) <|
  ldN arg14 b hb fun _ => stN arg14 b hb (rmax (zv (qv q) (rowv ga) (xh v8 b hb y be a) m n)) κ

/-- Blocks `b, …, b+n-1` of the second pass. -/
def blks2 : (k b : ℕ) → (b + k ≤ 160) → P F α → P F α
  | 0, _, _, κ => κ
  | k + 1, b, h, κ => blk2 arg1 arg3 arg6 arg7 arg8 arg13 arg14 v8 m n b (by omega) (blks2 k (b + 1) (by omega) κ)
end

section
variable (arg11 : Memref sig .tc .vmem S32x20480 .fp8e5m2) (harg11 : arg11.IsWhole) (arg13 : Memref sig .tc .vmem S32x20480 .f32) (f : FVec F S32x160 .f32)

/-- Block `b` of the third pass: the codes. -/
def blk3 (b : ℕ) (hb : b < 160) (κ : P F α) : P F α :=
  ldC arg13 b hb fun z => ldC arg11 b hb fun _ => stQ arg11 harg11 b hb (code z (colv f b hb)) κ

/-- Blocks `b, …, b+n-1` of the third pass. -/
def blks3 : (k b : ℕ) → (b + k ≤ 160) → P F α → P F α
  | 0, _, _, κ => κ
  | k + 1, b, h, κ => blk3 arg11 harg11 arg13 f b (by omega) (blks3 k (b + 1) (by omega) κ)
end

/-! ## The whole body -/

variable (i : grid0.Coords) (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

/-- The body from its first pass on. -/
def passes (κ : P F α) : P F α :=
  ld31 arg4 fun s => ld160 arg2 fun ys =>
  blks1 arg1 arg3 arg6 arg7 arg8 arg15 arg16 (tokv (shapeCast S32x1 (shapeCast S32x1 s shapeCasts_S32x1_S32x1) shapeCasts_S32x1_S32x1)) (shapeCast S32x160 ys shapeCasts_S32x160_S32x160)
    160 0 (by omega) (broadcast S32x128 (Scalar.ofBits .f32 0x00000000#32)) (broadcast S32x128 (Scalar.ofBits .f32 0x00000000#32)) fun cg cgx =>
  blks2 arg1 arg3 arg6 arg7 arg8 arg13 arg14 (shapeCast S32x160 ys shapeCasts_S32x160_S32x160) (mean cg) (mean cgx) 160 0 (by omega) <|
  ld31 arg4 fun s => ld31 arg5 fun r => ld160 arg14 fun am => ld160 arg12 fun _ =>
  st160 arg12 (pow2 (expo (tv (mulf (shapeCast S32x1 s shapeCasts_S32x1_S32x1) (shapeCast S32x1 r shapeCasts_S32x1_S32x1)) am))) <|
  blks3 arg11 harg11 arg13 (fac (mulf (shapeCast S32x1 s shapeCasts_S32x1_S32x1) (shapeCast S32x1 r shapeCasts_S32x1_S32x1))
    (expo (tv (mulf (shapeCast S32x1 s shapeCasts_S32x1_S32x1) (shapeCast S32x1 r shapeCasts_S32x1_S32x1)) am))) 160 0 (by omega) κ

/-- The accumulators zeroed, at the first point. -/
def zeroed (κ : P F α) : P F α :=
  ld8 arg15 fun _ => st8 arg15 (shapeCast S8x20480 (broadcast S8x20480 (Scalar.ofBits .f32 0x00000000#32)) shapeCasts_S8x20480_S8x20480) <|
  ld8 arg16 fun _ => st8 arg16 (shapeCast S8x20480 (broadcast S8x20480 (Scalar.ofBits .f32 0x00000000#32)) shapeCasts_S8x20480_S8x20480) κ

/-- The accumulators summed over their 8 rows into the results, at the last point. -/
def lasts : P F PUnit :=
  ld8 arg15 fun w => ld1 arg9 fun _ => st1 arg9 (last w) <|
  ld8 arg16 fun w => ld1 arg10 fun _ => st1 arg10 (last w) <| .ret ⟨⟩

/-- The body after the accumulators' first zeroing. -/
def body : P F PUnit :=
  passes arg1 arg2 arg3 arg4 arg5 arg6 arg7 arg8 arg11 harg11 arg12 arg13 arg14 arg15 arg16
    (if _h : k0_cond2 i = 1#1 then lasts arg9 arg10 arg15 arg16 else .ret ⟨⟩)

end Cert.KernelIdeal.Body
-- ==== Proof.KernelIdealHand.Wp.lean ====
/- What the body's loops leave in their buffers.

   Each block is run by the rules of `Rules.lean`, and the loops by induction on the number of blocks: before block
   `b` a buffer holds its new contents in the blocks below `b` and what it held before in the others. -/
module

public import proofs.«01_k».proof.Proof.KernelIdealHand.Body
public import proofs.«01_k».proof.Proof.Gen.KernelIdeal.Launch
public import proofs.«01_k».proof.Proof.Gen.KernelIdeal.Points
public import proofs.«01_k».proof.Proof.Rules

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts Facts₀ K0.Facts₀ Shapes1.Facts₀
open Cert.Rules

variable {F : FTy → Type} [FloatOps F] [Named F] [Facts]

local notation "𝕄" => MT nD τ sig Unit (Elt F) ℕ (UR sig nD τ) ℕ

/-! ## The blocks of the arrays -/

def blkC (i : S32x20480.Idx) : ℕ := (i 1).val / 128
def blkA (i : S8x20480.Idx) : ℕ := (i 1).val / 128
def blkN (i : S32x160.Idx) : ℕ := (i 1).val

theorem blkC_lt (i : S32x20480.Idx) : blkC i < 160 := by have := (i 1).isLt; simp only [blkC]; change (i 1).val < 20480 at this; omega
theorem blkA_lt (i : S8x20480.Idx) : blkA i < 160 := by have := (i 1).isLt; simp only [blkA]; change (i 1).val < 20480 at this; omega
theorem blkN_lt (i : S32x160.Idx) : blkN i < 160 := (i 1).isLt

theorem memC (b : ℕ) (hb : b < 160) (i : S32x20480.Idx) : i ∈ (rC b hb).set ↔ blkC i = b := by
  have h0 : (i 0).val < 32 := (i 0).isLt
  rw [Rect.mem_set_unit, Fin.forall_fin_two]
  simp only [blkC]
  change (0 ≤ (i 0).val ∧ (i 0).val < 0 + 32) ∧ (128 * b ≤ (i 1).val ∧ (i 1).val < 128 * b + 128) ↔ _
  omega
theorem memA (b : ℕ) (hb : b < 160) (i : S8x20480.Idx) : i ∈ (rA b hb).set ↔ blkA i = b := by
  have h0 : (i 0).val < 8 := (i 0).isLt
  rw [Rect.mem_set_unit, Fin.forall_fin_two]
  simp only [blkA]
  change (0 ≤ (i 0).val ∧ (i 0).val < 0 + 8) ∧ (128 * b ≤ (i 1).val ∧ (i 1).val < 128 * b + 128) ↔ _
  omega
theorem memN (b : ℕ) (hb : b < 160) (i : S32x160.Idx) : i ∈ (rN b hb).set ↔ blkN i = b := by
  have h0 : (i 0).val < 32 := (i 0).isLt
  rw [Rect.mem_set_unit, Fin.forall_fin_two]
  simp only [blkN]
  change (0 ≤ (i 0).val ∧ (i 0).val < 0 + 32) ∧ (b ≤ (i 1).val ∧ (i 1).val < b + 1) ↔ _
  omega

/-- Block `b` of an array. -/
def bC {e : EltTy} (x : Vec F S32x20480 e) (b : ℕ) (hb : b < 160) : Vec F S32x128 e := fun j => x ((rC b hb).emb j)
def bR (x : Vec F S1x20480 .f32) (b : ℕ) (hb : b < 160) : Vec F S1x128 .f32 := fun j => x ((rR b hb).emb j)
def bA (x : Vec F S8x20480 .f32) (b : ℕ) (hb : b < 160) : Vec F S8x128 .f32 := fun j => x ((rA b hb).emb j)

section Values

variable (x0 : Vec F S32x20480 .fp8e4m3) (x1 : Vec F S32x160 .f32) (x2 : Vec F S32x20480 .fp8e5m2) (x3 x4 : Vec F S32x1 .f32)
  (x5 x6 x7 : Vec F S1x20480 .f32)

/-! ## What the passes compute -/

/-- The token scales along a block. -/
def v6 : FVec F S32x128 .f32 := tokv (shapeCast S32x1 (shapeCast S32x1 x3 shapeCasts_S32x1_S32x1) shapeCasts_S32x1_S32x1)
/-- The activations' block scales. -/
def v8 : FVec F S32x160 .f32 := shapeCast S32x160 x1 shapeCasts_S32x160_S32x160
/-- Block `b`'s normalised activations. -/
def xhb (b : ℕ) (hb : b < 160) : FVec F S32x128 .f32 := xh (v8 x1) b hb (bC x0 b hb) (bR x7 b hb) (bR x6 b hb)
/-- The sum of gradients over the tokens, added to what the accumulator held. -/
def newB (old : Vec F S8x20480 .f32) : Vec F S8x20480 .f32 :=
  asm blkA rA blkA_lt memA fun b hb => shapeCast S8x128 (addf (bA old b hb) (fold (mulf (qv (bC x2 b hb)) (v6 x3)))) shapeCasts_S8x128_S8x128
/-- The sum of gradients times normalised activations, added to what the accumulator held. -/
def newA (old : Vec F S8x20480 .f32) : Vec F S8x20480 .f32 :=
  asm blkA rA blkA_lt memA fun b hb => shapeCast S8x128 (addf (bA old b hb) (fold (mulf (mulf (qv (bC x2 b hb)) (v6 x3)) (xhb x0 x1 x6 x7 b hb)))) shapeCasts_S8x128_S8x128
/-- The running sum of `q · gamma` after `n` blocks. -/
def cgAt : ℕ → FVec F S32x128 .f32
  | 0 => broadcast S32x128 (Scalar.ofBits .f32 0x00000000#32)
  | n + 1 => if h : n < 160 then addf (cgAt n) (mulf (qv (bC x2 n h)) (rowv (bR x5 n h))) else cgAt n
/-- The running sum of `q · gamma · x̂` after `n` blocks. -/
def cgxAt : ℕ → FVec F S32x128 .f32
  | 0 => broadcast S32x128 (Scalar.ofBits .f32 0x00000000#32)
  | n + 1 => if h : n < 160 then addf (cgxAt n) (mulf (mulf (qv (bC x2 n h)) (rowv (bR x5 n h))) (xhb x0 x1 x6 x7 n h)) else cgxAt n
/-- Block `b` of the unscaled gradient. -/
def zb (b : ℕ) (hb : b < 160) : FVec F S32x128 .f32 :=
  zv (qv (bC x2 b hb)) (rowv (bR x5 b hb)) (xhb x0 x1 x6 x7 b hb) (mean (cgAt x2 x5 160)) (mean (cgxAt x0 x1 x2 x5 x6 x7 160))
/-- The unscaled gradient. -/
def zArr : Vec F S32x20480 .f32 := asm blkC rC blkC_lt memC fun b hb => shapeCast S32x128 (zb x0 x1 x2 x5 x6 x7 b hb) shapeCasts_S32x128_S32x128
/-- Its largest magnitudes by block. -/
def amArr : Vec F S32x160 .f32 := asm blkN rN blkN_lt memN fun b hb => shapeCast S32x1 (rmax (zb x0 x1 x2 x5 x6 x7 b hb)) shapeCasts_S32x1_S32x1
/-- A token's scale times its reciprocal deviation. -/
def gTok : FVec F S32x1 .f32 := mulf (shapeCast S32x1 x3 shapeCasts_S32x1_S32x1) (shapeCast S32x1 x4 shapeCasts_S32x1_S32x1)
/-- The blocks' exponents. -/
def eArr : IVec S32x160 32 := expo (tv (gTok x3 x4) (amArr x0 x1 x2 x5 x6 x7))
/-- The blocks' scales. -/
def scArr : Vec F S32x160 .f32 := pow2 (eArr x0 x1 x2 x3 x4 x5 x6 x7)
/-- The codes. -/
def coArr : Vec F S32x20480 .fp8e5m2 :=
  asm blkC rC blkC_lt memC fun b hb => code (bC (zArr x0 x1 x2 x5 x6 x7) b hb) (colv (fac (gTok x3 x4) (eArr x0 x1 x2 x3 x4 x5 x6 x7)) b hb)
/-- Zeros. -/
def zero8 : Vec F S8x20480 .f32 := shapeCast S8x20480 (broadcast S8x20480 (Scalar.ofBits .f32 0x00000000#32)) shapeCasts_S8x20480_S8x20480

theorem newB_emb (old : Vec F S8x20480 .f32) (b : ℕ) (hb : b < 160) (j : S8x128.Idx) : newB x2 x3 old ((rA b hb).emb j) =
    shapeCast S8x128 (addf (bA old b hb) (fold (mulf (qv (bC x2 b hb)) (v6 x3)))) shapeCasts_S8x128_S8x128 j := asm_emb blkA rA blkA_lt memA _ b hb j
theorem newA_emb (old : Vec F S8x20480 .f32) (b : ℕ) (hb : b < 160) (j : S8x128.Idx) : newA x0 x1 x2 x3 x6 x7 old ((rA b hb).emb j) =
    shapeCast S8x128 (addf (bA old b hb) (fold (mulf (mulf (qv (bC x2 b hb)) (v6 x3)) (xhb x0 x1 x6 x7 b hb)))) shapeCasts_S8x128_S8x128 j := asm_emb blkA rA blkA_lt memA _ b hb j
theorem zArr_emb (b : ℕ) (hb : b < 160) (j : S32x128.Idx) : zArr x0 x1 x2 x5 x6 x7 ((rC b hb).emb j) =
    shapeCast S32x128 (zb x0 x1 x2 x5 x6 x7 b hb) shapeCasts_S32x128_S32x128 j := asm_emb blkC rC blkC_lt memC _ b hb j
theorem amArr_emb (b : ℕ) (hb : b < 160) (j : S32x1.Idx) : amArr x0 x1 x2 x5 x6 x7 ((rN b hb).emb j) =
    shapeCast S32x1 (rmax (zb x0 x1 x2 x5 x6 x7 b hb)) shapeCasts_S32x1_S32x1 j := asm_emb blkN rN blkN_lt memN _ b hb j
theorem coArr_emb (b : ℕ) (hb : b < 160) (j : S32x128.Idx) : coArr x0 x1 x2 x3 x4 x5 x6 x7 ((rC b hb).emb j) =
    code (bC (zArr x0 x1 x2 x5 x6 x7) b hb) (colv (fac (gTok x3 x4) (eArr x0 x1 x2 x3 x4 x5 x6 x7)) b hb) j := asm_emb blkC rC blkC_lt memC _ b hb j

end Values

/-! ## The loops -/

section Loops

variable (c : Dev nD) (E : Set ℕ) {α : Type}
variable (x0 : Vec F S32x20480 .fp8e4m3) (x1 : Vec F S32x160 .f32) (x2 : Vec F S32x20480 .fp8e5m2) (x3 x4 : Vec F S32x1 .f32)
  (x5 x6 x7 : Vec F S1x20480 .f32)
variable (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

local notation "WP" => wp frame (wpE (defs₀ (F := F)) Variants.none (c : Thread nD τ) none) E

/-- What the first pass reads and writes. -/
def own1 (A B : Vec F S8x20480 .f32) : sProp 𝕄 :=
  iprop(owns (c : Thread nD τ) arg1 fullShare x0 ∗ owns (c : Thread nD τ) arg3 fullShare x2 ∗ owns (c : Thread nD τ) arg6 fullShare x5 ∗ owns (c : Thread nD τ) arg7 fullShare x6
    ∗ owns (c : Thread nD τ) arg8 fullShare x7 ∗ owns (c : Thread nD τ) arg15 fullShare A ∗ owns (c : Thread nD τ) arg16 fullShare B)

theorem wp_blk1 (Q : α → sProp 𝕄) (b : ℕ) (hb : b < 160) (A B : Vec F S8x20480 .f32) (cg cgx : FVec F S32x128 .f32) (κ : FVec F S32x128 .f32 → FVec F S32x128 .f32 → P F α) :
    iprop(own1 c x0 x2 x5 x6 x7 arg1 arg3 arg6 arg7 arg8 arg15 arg16 A B ∗
      (own1 c x0 x2 x5 x6 x7 arg1 arg3 arg6 arg7 arg8 arg15 arg16
          ((rA b hb).overlay A (shapeCast S8x128 (addf (bA A b hb) (fold (mulf (mulf (qv (bC x2 b hb)) (v6 x3)) (xhb x0 x1 x6 x7 b hb)))) shapeCasts_S8x128_S8x128))
          ((rA b hb).overlay B (shapeCast S8x128 (addf (bA B b hb) (fold (mulf (qv (bC x2 b hb)) (v6 x3)))) shapeCasts_S8x128_S8x128))
        -∗ WP (κ (addf cg (mulf (qv (bC x2 b hb)) (rowv (bR x5 b hb)))) (addf cgx (mulf (mulf (qv (bC x2 b hb)) (rowv (bR x5 b hb))) (xhb x0 x1 x6 x7 b hb)))) Q))
      ⊢ WP (blk1 arg1 arg3 arg6 arg7 arg8 arg15 arg16 (v6 x3) (v8 x1) b hb cg cgx κ) Q := by
  unfold blk1 own1
  iintro ⟨⟨H1, H3, H6, H7, H8, HA, HB⟩, Hk⟩
  iapply (load_owns Variants.none (c : Thread nD τ) none E x2) $$ [H3]; · iexact H3
  iintro H3
  iapply (load_owns Variants.none (c : Thread nD τ) none E x0) $$ [H1]; · iexact H1
  iintro H1
  iapply (load_owns Variants.none (c : Thread nD τ) none E x7) $$ [H8]; · iexact H8
  iintro H8
  iapply (load_owns Variants.none (c : Thread nD τ) none E x6) $$ [H7]; · iexact H7
  iintro H7
  iapply (load_owns Variants.none (c : Thread nD τ) none E x5) $$ [H6]; · iexact H6
  iintro H6
  iapply (load_owns Variants.none (c : Thread nD τ) none E B) $$ [HB]; · iexact HB
  iintro HB
  iapply (load_owns Variants.none (c : Thread nD τ) none E B) $$ [HB]; · iexact HB
  iintro HB
  iapply (store_owns Variants.none (c : Thread nD τ) none E B) $$ [HB]; · iexact HB
  iintro HB
  iapply (load_owns Variants.none (c : Thread nD τ) none E A) $$ [HA]; · iexact HA
  iintro HA
  iapply (load_owns Variants.none (c : Thread nD τ) none E A) $$ [HA]; · iexact HA
  iintro HA
  iapply (store_owns Variants.none (c : Thread nD τ) none E A) $$ [HA]; · iexact HA
  iintro HA
  iapply Hk
  isplitl [H1]; · iexact H1
  isplitl [H3]; · iexact H3
  isplitl [H6]; · iexact H6
  isplitl [H7]; · iexact H7
  isplitl [H8]; · iexact H8
  isplitl [HA]; · iexact HA
  iexact HB

/-- The first pass, from block `b` on. -/
theorem wp_blks1 (Q : α → sProp 𝕄) (A B : Vec F S8x20480 .f32) (n : ℕ) : ∀ (b : ℕ) (h : b + n ≤ 160) (κ : FVec F S32x128 .f32 → FVec F S32x128 .f32 → P F α),
    iprop(own1 c x0 x2 x5 x6 x7 arg1 arg3 arg6 arg7 arg8 arg15 arg16 (mix blkA b (newA x0 x1 x2 x3 x6 x7 A) A) (mix blkA b (newB x2 x3 B) B) ∗
      (own1 c x0 x2 x5 x6 x7 arg1 arg3 arg6 arg7 arg8 arg15 arg16 (mix blkA (b + n) (newA x0 x1 x2 x3 x6 x7 A) A) (mix blkA (b + n) (newB x2 x3 B) B)
        -∗ WP (κ (cgAt x2 x5 (b + n)) (cgxAt x0 x1 x2 x5 x6 x7 (b + n))) Q))
      ⊢ WP (blks1 arg1 arg3 arg6 arg7 arg8 arg15 arg16 (v6 x3) (v8 x1) n b h (cgAt x2 x5 b) (cgxAt x0 x1 x2 x5 x6 x7 b) κ) Q := by
  induction n with
  | zero =>
    intro b h κ
    unfold blks1
    iintro ⟨H, Hk⟩
    iapply Hk
    iexact H
  | succ n ih =>
    intro b h κ
    have hb : b < 160 := by omega
    have w := wp_blk1 (F := F) c E x0 x1 x2 x3 x5 x6 x7 arg1 arg3 arg6 arg7 arg8 arg15 arg16 Q b hb (mix blkA b (newA x0 x1 x2 x3 x6 x7 A) A) (mix blkA b (newB x2 x3 B) B)
      (cgAt x2 x5 b) (cgxAt x0 x1 x2 x5 x6 x7 b) (fun cg cgx => blks1 arg1 arg3 arg6 arg7 arg8 arg15 arg16 (v6 x3) (v8 x1) n (b + 1) (by omega) cg cgx κ)
    have eA : bA (mix blkA b (newA x0 x1 x2 x3 x6 x7 A) A) b hb = bA A b hb := mix_emb (memA b hb)
    have eB : bA (mix blkA b (newB x2 x3 B) B) b hb = bA B b hb := mix_emb (memA b hb)
    rw [eA, eB, mix_overlay (memA b hb) _ (newA_emb x0 x1 x2 x3 x6 x7 A b hb), mix_overlay (memA b hb) _ (newB_emb x2 x3 B b hb)] at w
    have e1 : cgAt x2 x5 (b + 1) = addf (cgAt x2 x5 b) (mulf (qv (bC x2 b hb)) (rowv (bR x5 b hb))) := by
      rw [cgAt, dif_pos hb]
    have e2 : cgxAt x0 x1 x2 x5 x6 x7 (b + 1) = addf (cgxAt x0 x1 x2 x5 x6 x7 b) (mulf (mulf (qv (bC x2 b hb)) (rowv (bR x5 b hb))) (xhb x0 x1 x6 x7 b hb)) := by
      rw [cgxAt, dif_pos hb]
    rw [← e1, ← e2] at w
    have hn : b + (n + 1) = b + 1 + n := by omega
    rw [hn]
    unfold blks1
    refine BIBase.Entails.trans ?_ w
    iintro ⟨H, Hk⟩
    isplitl [H]; · iexact H
    iintro H
    iapply (ih (b + 1) _ κ)
    isplitl [H]; · iexact H
    iexact Hk

/-- What the second pass reads and writes. -/
def own2 (Z : Vec F S32x20480 .f32) (M : Vec F S32x160 .f32) : sProp 𝕄 :=
  iprop(owns (c : Thread nD τ) arg1 fullShare x0 ∗ owns (c : Thread nD τ) arg3 fullShare x2 ∗ owns (c : Thread nD τ) arg6 fullShare x5 ∗ owns (c : Thread nD τ) arg7 fullShare x6
    ∗ owns (c : Thread nD τ) arg8 fullShare x7 ∗ owns (c : Thread nD τ) arg13 fullShare Z ∗ owns (c : Thread nD τ) arg14 fullShare M)

theorem wp_blk2 (Q : α → sProp 𝕄) (m n : FVec F S32x1 .f32) (b : ℕ) (hb : b < 160) (Z : Vec F S32x20480 .f32) (M : Vec F S32x160 .f32) (κ : P F α) :
    iprop(own2 c x0 x2 x5 x6 x7 arg1 arg3 arg6 arg7 arg8 arg13 arg14 Z M ∗
      (own2 c x0 x2 x5 x6 x7 arg1 arg3 arg6 arg7 arg8 arg13 arg14
          ((rC b hb).overlay Z (shapeCast S32x128 (zv (qv (bC x2 b hb)) (rowv (bR x5 b hb)) (xhb x0 x1 x6 x7 b hb) m n) shapeCasts_S32x128_S32x128))
          ((rN b hb).overlay M (shapeCast S32x1 (rmax (zv (qv (bC x2 b hb)) (rowv (bR x5 b hb)) (xhb x0 x1 x6 x7 b hb) m n)) shapeCasts_S32x1_S32x1))
        -∗ WP κ Q))
      ⊢ WP (blk2 arg1 arg3 arg6 arg7 arg8 arg13 arg14 (v8 x1) m n b hb κ) Q := by
  unfold blk2 own2
  iintro ⟨⟨H1, H3, H6, H7, H8, HZ, HM⟩, Hk⟩
  iapply (load_owns Variants.none (c : Thread nD τ) none E x2) $$ [H3]; · iexact H3
  iintro H3
  iapply (load_owns Variants.none (c : Thread nD τ) none E x5) $$ [H6]; · iexact H6
  iintro H6
  iapply (load_owns Variants.none (c : Thread nD τ) none E x0) $$ [H1]; · iexact H1
  iintro H1
  iapply (load_owns Variants.none (c : Thread nD τ) none E x7) $$ [H8]; · iexact H8
  iintro H8
  iapply (load_owns Variants.none (c : Thread nD τ) none E x6) $$ [H7]; · iexact H7
  iintro H7
  iapply (load_owns Variants.none (c : Thread nD τ) none E Z) $$ [HZ]; · iexact HZ
  iintro HZ
  iapply (store_owns Variants.none (c : Thread nD τ) none E Z) $$ [HZ]; · iexact HZ
  iintro HZ
  iapply (load_owns Variants.none (c : Thread nD τ) none E M) $$ [HM]; · iexact HM
  iintro HM
  iapply (store_owns Variants.none (c : Thread nD τ) none E M) $$ [HM]; · iexact HM
  iintro HM
  iapply Hk
  isplitl [H1]; · iexact H1
  isplitl [H3]; · iexact H3
  isplitl [H6]; · iexact H6
  isplitl [H7]; · iexact H7
  isplitl [H8]; · iexact H8
  isplitl [HZ]; · iexact HZ
  iexact HM

/-- The second pass, from block `b` on. -/
theorem wp_blks2 (Q : α → sProp 𝕄) (Z : Vec F S32x20480 .f32) (M : Vec F S32x160 .f32) (n : ℕ) : ∀ (b : ℕ) (h : b + n ≤ 160) (κ : P F α),
    iprop(own2 c x0 x2 x5 x6 x7 arg1 arg3 arg6 arg7 arg8 arg13 arg14 (mix blkC b (zArr x0 x1 x2 x5 x6 x7) Z) (mix blkN b (amArr x0 x1 x2 x5 x6 x7) M) ∗
      (own2 c x0 x2 x5 x6 x7 arg1 arg3 arg6 arg7 arg8 arg13 arg14 (mix blkC (b + n) (zArr x0 x1 x2 x5 x6 x7) Z) (mix blkN (b + n) (amArr x0 x1 x2 x5 x6 x7) M) -∗ WP κ Q))
      ⊢ WP (blks2 arg1 arg3 arg6 arg7 arg8 arg13 arg14 (v8 x1) (mean (cgAt x2 x5 160)) (mean (cgxAt x0 x1 x2 x5 x6 x7 160)) n b h κ) Q := by
  induction n with
  | zero =>
    intro b h κ
    unfold blks2
    iintro ⟨H, Hk⟩
    iapply Hk
    iexact H
  | succ n ih =>
    intro b h κ
    have hb : b < 160 := by omega
    have w := wp_blk2 (F := F) c E x0 x1 x2 x5 x6 x7 arg1 arg3 arg6 arg7 arg8 arg13 arg14 Q (mean (cgAt x2 x5 160)) (mean (cgxAt x0 x1 x2 x5 x6 x7 160)) b hb
      (mix blkC b (zArr x0 x1 x2 x5 x6 x7) Z) (mix blkN b (amArr x0 x1 x2 x5 x6 x7) M)
      (blks2 arg1 arg3 arg6 arg7 arg8 arg13 arg14 (v8 x1) (mean (cgAt x2 x5 160)) (mean (cgxAt x0 x1 x2 x5 x6 x7 160)) n (b + 1) (by omega) κ)
    have ez : zv (qv (bC x2 b hb)) (rowv (bR x5 b hb)) (xhb x0 x1 x6 x7 b hb) (mean (cgAt x2 x5 160)) (mean (cgxAt x0 x1 x2 x5 x6 x7 160)) = zb x0 x1 x2 x5 x6 x7 b hb := rfl
    rw [ez] at w
    rw [mix_overlay (new := zArr x0 x1 x2 x5 x6 x7) (memC b hb) (shapeCast S32x128 (zb x0 x1 x2 x5 x6 x7 b hb) shapeCasts_S32x128_S32x128) (zArr_emb x0 x1 x2 x5 x6 x7 b hb)]  at w
    rw [mix_overlay (memN b hb) _ (amArr_emb x0 x1 x2 x5 x6 x7 b hb)] at w
    have hn : b + (n + 1) = b + 1 + n := by omega
    rw [hn]
    unfold blks2
    refine BIBase.Entails.trans ?_ w
    iintro ⟨H, Hk⟩
    isplitl [H]; · iexact H
    iintro H
    iapply (ih (b + 1) _ κ)
    isplitl [H]; · iexact H
    iexact Hk

/-- What the third pass reads and writes. -/
def own3 (Z : Vec F S32x20480 .f32) (C : Vec F S32x20480 .fp8e5m2) : sProp 𝕄 :=
  iprop(owns (c : Thread nD τ) arg13 fullShare Z ∗ owns (c : Thread nD τ) arg11 fullShare C)

theorem wp_blk3 (Q : α → sProp 𝕄) (f : FVec F S32x160 .f32) (b : ℕ) (hb : b < 160) (Z : Vec F S32x20480 .f32) (C : Vec F S32x20480 .fp8e5m2) (κ : P F α) :
    iprop(own3 c arg11 arg13 Z C ∗ (own3 c arg11 arg13 Z ((rC b hb).overlay C (code (bC Z b hb) (colv f b hb))) -∗ WP κ Q))
      ⊢ WP (blk3 arg11 harg11 arg13 f b hb κ) Q := by
  unfold blk3 own3
  iintro ⟨⟨HZ, HC⟩, Hk⟩
  iapply (load_owns Variants.none (c : Thread nD τ) none E Z) $$ [HZ]; · iexact HZ
  iintro HZ
  iapply (load_owns Variants.none (c : Thread nD τ) none E C) $$ [HC]; · iexact HC
  iintro HC
  iapply (store_owns Variants.none (c : Thread nD τ) none E C) $$ [HC]; · iexact HC
  iintro HC
  iapply Hk
  isplitl [HZ]; · iexact HZ
  iexact HC

/-- The third pass, from block `b` on. -/
theorem wp_blks3 (Q : α → sProp 𝕄) (C : Vec F S32x20480 .fp8e5m2) (n : ℕ) : ∀ (b : ℕ) (h : b + n ≤ 160) (κ : P F α),
    iprop(own3 c arg11 arg13 (zArr x0 x1 x2 x5 x6 x7) (mix blkC b (coArr x0 x1 x2 x3 x4 x5 x6 x7) C) ∗
      (own3 c arg11 arg13 (zArr x0 x1 x2 x5 x6 x7) (mix blkC (b + n) (coArr x0 x1 x2 x3 x4 x5 x6 x7) C) -∗ WP κ Q))
      ⊢ WP (blks3 arg11 harg11 arg13 (fac (gTok x3 x4) (eArr x0 x1 x2 x3 x4 x5 x6 x7)) n b h κ) Q := by
  induction n with
  | zero =>
    intro b h κ
    unfold blks3
    iintro ⟨H, Hk⟩
    iapply Hk
    iexact H
  | succ n ih =>
    intro b h κ
    have hb : b < 160 := by omega
    have w := wp_blk3 (F := F) c E arg11 harg11 arg13 Q (fac (gTok x3 x4) (eArr x0 x1 x2 x3 x4 x5 x6 x7)) b hb (zArr x0 x1 x2 x5 x6 x7)
      (mix blkC b (coArr x0 x1 x2 x3 x4 x5 x6 x7) C)
      (blks3 arg11 harg11 arg13 (fac (gTok x3 x4) (eArr x0 x1 x2 x3 x4 x5 x6 x7)) n (b + 1) (by omega) κ)
    rw [mix_overlay (memC b hb) _ (coArr_emb x0 x1 x2 x3 x4 x5 x6 x7 b hb)] at w
    have hn : b + (n + 1) = b + 1 + n := by omega
    rw [hn]
    unfold blks3
    refine BIBase.Entails.trans ?_ w
    iintro ⟨H, Hk⟩
    isplitl [H]; · iexact H
    iintro H
    iapply (ih (b + 1) _ κ)
    isplitl [H]; · iexact H
    iexact Hk

end Loops

/-! ## The whole body -/

section Whole

variable (c : Dev nD) (E : Set ℕ) {α : Type}
variable (x0 : Vec F S32x20480 .fp8e4m3) (x1 : Vec F S32x160 .f32) (x2 : Vec F S32x20480 .fp8e5m2) (x3 x4 : Vec F S32x1 .f32)
  (x5 x6 x7 : Vec F S1x20480 .f32)
variable (i : grid0.Coords) (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

local notation "WP" => wp frame (wpE (defs₀ (F := F)) Variants.none (c : Thread nD τ) none) E

theorem off2 : (![0, 0] : Fin 2 → ℕ) = fun _ => 0 := by funext a; fin_cases a <;> rfl

theorem ld_31 (X : Vec F S32x1 .f32) : (fun j => X (r31.emb j)) = X := emb_whole (s := S32x1) off2 _ X
theorem ld_160 (X : Vec F S32x160 .f32) : (fun j => X (r160.emb j)) = X := emb_whole (s := S32x160) off2 _ X
theorem ld_8 (X : Vec F S8x20480 .f32) : (fun j => X (r8.emb j)) = X := emb_whole (s := S8x20480) off2 _ X
theorem ld_1 (X : Vec F S1x20480 .f32) : (fun j => X (r1.emb j)) = X := emb_whole (s := S1x20480) off2 _ X
theorem st_160 (X w : Vec F S32x160 .f32) : r160.overlay X w = w := overlay_whole (s := S32x160) off2 _ X w
theorem st_8 (X w : Vec F S8x20480 .f32) : r8.overlay X w = w := overlay_whole (s := S8x20480) off2 _ X w
theorem st_1 (X w : Vec F S1x20480 .f32) : r1.overlay X w = w := overlay_whole (s := S1x20480) off2 _ X w

/-- The inputs' buffers. -/
def ownIn : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

theorem wp_passes (Q : α → sProp 𝕄) (A B : Vec F S8x20480 .f32) (Z : Vec F S32x20480 .f32) (M S : Vec F S32x160 .f32) (C : Vec F S32x20480 .fp8e5m2) (κ : P F α) :
    iprop(ownIn c x0 x1 x2 x3 x4 x5 x6 x7 arg1 arg2 arg3 arg4 arg5 arg6 arg7 arg8 ∗ owns (c : Thread nD τ) arg11 fullShare C ∗ owns (c : Thread nD τ) arg12 fullShare S ∗ owns (c : Thread nD τ) arg13 fullShare Z ∗ owns (c : Thread nD τ) arg14 fullShare M ∗ owns (c : Thread nD τ) arg15 fullShare A ∗ owns (c : Thread nD τ) arg16 fullShare B ∗
      (iprop(ownIn c x0 x1 x2 x3 x4 x5 x6 x7 arg1 arg2 arg3 arg4 arg5 arg6 arg7 arg8 ∗ owns (c : Thread nD τ) arg11 fullShare (coArr x0 x1 x2 x3 x4 x5 x6 x7) ∗ owns (c : Thread nD τ) arg12 fullShare (scArr x0 x1 x2 x3 x4 x5 x6 x7)
        ∗ owns (c : Thread nD τ) arg13 fullShare (zArr x0 x1 x2 x5 x6 x7) ∗ owns (c : Thread nD τ) arg14 fullShare (amArr x0 x1 x2 x5 x6 x7) ∗ owns (c : Thread nD τ) arg15 fullShare (newA x0 x1 x2 x3 x6 x7 A) ∗ owns (c : Thread nD τ) arg16 fullShare (newB x2 x3 B)) -∗ WP κ Q))
      ⊢ WP (passes arg1 arg2 arg3 arg4 arg5 arg6 arg7 arg8 arg11 harg11 arg12 arg13 arg14 arg15 arg16 κ) Q := by
  unfold passes ownIn
  iintro ⟨⟨H1, H2, H3, H4, H5, H6, H7, H8⟩, HC, HS, HZ, HM, HA, HB, Hk⟩
  iapply (load_owns Variants.none (c : Thread nD τ) none E x3) $$ [H4]; · iexact H4
  iintro H4
  iapply (load_owns Variants.none (c : Thread nD τ) none E x1) $$ [H2]; · iexact H2
  iintro H2
  rw [ld_31 x3, ld_160 x1]
  iapply (wp_blks1 (F := F) c E x0 x1 x2 x3 x5 x6 x7 arg1 arg3 arg6 arg7 arg8 arg15 arg16 Q A B 160 0 (by omega))
  rw [mix_zero, mix_zero, mix_all blkA_lt, mix_all blkA_lt]
  unfold own1
  isplitl [H1 H3 H6 H7 H8 HA HB]
  · isplitl [H1]; · iexact H1
    isplitl [H3]; · iexact H3
    isplitl [H6]; · iexact H6
    isplitl [H7]; · iexact H7
    isplitl [H8]; · iexact H8
    isplitl [HA]; · iexact HA
    iexact HB
  iintro ⟨H1, H3, H6, H7, H8, HA, HB⟩
  iapply (wp_blks2 (F := F) c E x0 x1 x2 x5 x6 x7 arg1 arg3 arg6 arg7 arg8 arg13 arg14 Q Z M 160 0 (by omega))
  rw [mix_zero, mix_zero, mix_all blkC_lt, mix_all blkN_lt]
  unfold own2
  isplitl [H1 H3 H6 H7 H8 HZ HM]
  · isplitl [H1]; · iexact H1
    isplitl [H3]; · iexact H3
    isplitl [H6]; · iexact H6
    isplitl [H7]; · iexact H7
    isplitl [H8]; · iexact H8
    isplitl [HZ]; · iexact HZ
    iexact HM
  iintro ⟨H1, H3, H6, H7, H8, HZ, HM⟩
  iapply (load_owns Variants.none (c : Thread nD τ) none E x3) $$ [H4]; · iexact H4
  iintro H4
  iapply (load_owns Variants.none (c : Thread nD τ) none E x4) $$ [H5]; · iexact H5
  iintro H5
  iapply (load_owns Variants.none (c : Thread nD τ) none E (amArr x0 x1 x2 x5 x6 x7)) $$ [HM]; · iexact HM
  iintro HM
  iapply (load_owns Variants.none (c : Thread nD τ) none E S) $$ [HS]; · iexact HS
  iintro HS
  iapply (store_owns Variants.none (c : Thread nD τ) none E S) $$ [HS]; · iexact HS
  iintro HS
  rw [ld_31 x3, ld_31 x4, ld_160 (amArr x0 x1 x2 x5 x6 x7), st_160]
  iapply (wp_blks3 (F := F) c E x0 x1 x2 x3 x4 x5 x6 x7 arg11 harg11 arg13 Q C 160 0 (by omega))
  rw [mix_zero, mix_all blkC_lt]
  unfold own3
  isplitl [HZ HC]
  · isplitl [HZ]; · iexact HZ
    iexact HC
  iintro ⟨HZ, HC⟩
  iapply Hk
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HC]; · iexact HC
  isplitl [HS]; · iexact HS
  isplitl [HZ]; · iexact HZ
  isplitl [HM]; · iexact HM
  isplitl [HA]; · iexact HA
  iexact HB

theorem wp_zeroed (Q : α → sProp 𝕄) (A B : Vec F S8x20480 .f32) (κ : P F α) :
    iprop(owns (c : Thread nD τ) arg15 fullShare A ∗ owns (c : Thread nD τ) arg16 fullShare B ∗ (iprop(owns (c : Thread nD τ) arg15 fullShare zero8 ∗ owns (c : Thread nD τ) arg16 fullShare zero8) -∗ WP κ Q))
      ⊢ WP (zeroed arg15 arg16 κ) Q := by
  unfold zeroed
  iintro ⟨HA, HB, Hk⟩
  iapply (load_owns Variants.none (c : Thread nD τ) none E A) $$ [HA]; · iexact HA
  iintro HA
  iapply (store_owns Variants.none (c : Thread nD τ) none E A) $$ [HA]; · iexact HA
  iintro HA
  iapply (load_owns Variants.none (c : Thread nD τ) none E B) $$ [HB]; · iexact HB
  iintro HB
  iapply (store_owns Variants.none (c : Thread nD τ) none E B) $$ [HB]; · iexact HB
  iintro HB
  rw [st_8, st_8]
  iapply Hk
  isplitl [HA]; · iexact HA
  iexact HB

theorem wp_lasts (Q : PUnit → sProp 𝕄) (A B : Vec F S8x20480 .f32) (D0 D1 : Vec F S1x20480 .f32) :
    iprop(owns (c : Thread nD τ) arg15 fullShare A ∗ owns (c : Thread nD τ) arg16 fullShare B ∗ owns (c : Thread nD τ) arg9 fullShare D0 ∗ owns (c : Thread nD τ) arg10 fullShare D1 ∗
      (iprop(owns (c : Thread nD τ) arg15 fullShare A ∗ owns (c : Thread nD τ) arg16 fullShare B ∗ owns (c : Thread nD τ) arg9 fullShare (last A) ∗ owns (c : Thread nD τ) arg10 fullShare (last B)) -∗ Q ⟨⟩))
      ⊢ WP (lasts arg9 arg10 arg15 arg16) Q := by
  unfold lasts
  iintro ⟨HA, HB, H9, H10, Hk⟩
  iapply (load_owns Variants.none (c : Thread nD τ) none E A) $$ [HA]; · iexact HA
  iintro HA
  iapply (load_owns Variants.none (c : Thread nD τ) none E D0) $$ [H9]; · iexact H9
  iintro H9
  iapply (store_owns Variants.none (c : Thread nD τ) none E D0) $$ [H9]; · iexact H9
  iintro H9
  iapply (load_owns Variants.none (c : Thread nD τ) none E B) $$ [HB]; · iexact HB
  iintro HB
  iapply (load_owns Variants.none (c : Thread nD τ) none E D1) $$ [H10]; · iexact H10
  iintro H10
  iapply (store_owns Variants.none (c : Thread nD τ) none E D1) $$ [H10]; · iexact H10
  iintro H10
  rw [st_1, st_1, ld_8 A, ld_8 B]
  sl_step
  iapply Hk
  isplitl [HA]; · iexact HA
  isplitl [HB]; · iexact HB
  isplitl [H9]; · iexact H9
  iexact H10

end Whole

end Cert.KernelIdeal.Body
-- ==== Proof.KernelIdealHand.Equal.lean ====
/- The printed body is the loops of `Body.lean`. -/
module

public import proofs.«01_k».proof.Proof.KernelIdealHand.Body

@[expose] public section

set_option maxRecDepth 1000000
set_option maxHeartbeats 4000000

noncomputable section

namespace Cert.KernelIdeal.Body

open Idealize.ShloMosaic Idealize.SL.Sem

variable {F : FTy → Type} [FloatOps F] [Named F] [Facts]

variable (i : grid0.Coords) (arg1 : Memref sig .tc .vmem S32x20480 .fp8e4m3) (harg1 : arg1.IsWhole) (arg2 : Memref sig .tc .vmem S32x160 .f32) (harg2 : arg2.IsWhole) (arg3 : Memref sig .tc .vmem S32x20480 .fp8e5m2) (harg3 : arg3.IsWhole) (arg4 : Memref sig .tc .vmem S32x1 .f32) (harg4 : arg4.IsWhole) (arg5 : Memref sig .tc .vmem S32x1 .f32) (harg5 : arg5.IsWhole) (arg6 : Memref sig .tc .vmem S1x20480 .f32) (harg6 : arg6.IsWhole) (arg7 : Memref sig .tc .vmem S1x20480 .f32) (harg7 : arg7.IsWhole) (arg8 : Memref sig .tc .vmem S1x20480 .f32) (harg8 : arg8.IsWhole) (arg9 : Memref sig .tc .vmem S1x20480 .f32) (harg9 : arg9.IsWhole) (arg10 : Memref sig .tc .vmem S1x20480 .f32) (harg10 : arg10.IsWhole) (arg11 : Memref sig .tc .vmem S32x20480 .fp8e5m2) (harg11 : arg11.IsWhole) (arg12 : Memref sig .tc .vmem S32x160 .f32) (harg12 : arg12.IsWhole) (arg13 : Memref sig .tc .vmem S32x20480 .f32) (harg13 : arg13.IsWhole) (arg14 : Memref sig .tc .vmem S32x160 .f32) (harg14 : arg14.IsWhole) (arg15 : Memref sig .tc .vmem S8x20480 .f32) (harg15 : arg15.IsWhole) (arg16 : Memref sig .tc .vmem S8x20480 .f32) (harg16 : arg16.IsWhole)

/-- At the grid's first point the accumulators are zeroed first. -/
theorem cc0_first (h : (Scalar.cmpi .ne (Scalar.extui (Scalar.cmpi .eq (BitVec.ofNat 32 (i 0).val) 0#32)) 0#32) = 1#1) :
    cc0_ln_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = zeroed arg15 arg16 (body i arg1 arg2 arg3 arg4 arg5 arg6 arg7 arg8 arg9 arg10 arg11 harg11 arg12 arg13 arg14 arg15 arg16) := by
  unfold cc0_ln_bwd k0_part374
  rw [show k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = _ from dif_pos h]
  rfl

/-- At every other point they are not. -/
theorem cc0_other (h : ¬ (Scalar.cmpi .ne (Scalar.extui (Scalar.cmpi .eq (BitVec.ofNat 32 (i 0).val) 0#32)) 0#32) = 1#1) :
    cc0_ln_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = body i arg1 arg2 arg3 arg4 arg5 arg6 arg7 arg8 arg9 arg10 arg11 harg11 arg12 arg13 arg14 arg15 arg16 := by
  unfold cc0_ln_bwd k0_part374
  rw [show k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = _ from dif_neg h]
  rfl

end Cert.KernelIdeal.Body
-- ==== Proof.KernelIdealHand.Run.lean ====
/- What a grid point's run leaves in each buffer, one piece over the whole of it: the values of `Wp.lean`. -/
module

public import proofs.«01_k».proof.Proof.Gen.KernelIdeal.Frame.Runs
public import proofs.«01_k».proof.Proof.KernelIdealHand.Wp
public import proofs.«01_k».proof.Proof.KernelIdealHand.Equal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rules Cert.KernelIdeal.Body

variable {F : FTy → Type} [FloatOps F] [Named F]

local notation "𝕄" => MT nD τ sig Unit (Elt F) ℕ (UR sig nD τ) ℕ

theorem inbQ : ∀ a, (![0, 0] : Fin 2 → Nat) a + S32x20480.size a ≤ S32x20480.size a := by
  intro a; fin_cases a <;> simp [S32x20480]
/-- The whole of a [32, 20480] array. -/
@[reducible] def rQ : Rect S32x20480 := Rect.unit (s := S32x20480) ![0, 0] S32x20480.size inbQ

variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16

/-- At the grid's first point: the accumulators are zeroed, then the passes run. -/
noncomputable def kernelRun0_A (hc0 : cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) :
    Σ' (L8 : List (View.Piece (Elt F) S1x20480 .f32)), Σ' (L9 : List (View.Piece (Elt F) S1x20480 .f32)), Σ' (L10 : List (View.Piece (Elt F) S32x20480 .fp8e5m2)), Σ' (L11 : List (View.Piece (Elt F) S32x160 .f32)), Σ' (LS2 : List (View.Piece (Elt F) S8x20480 .f32)), Σ' (LS3 : List (View.Piece (Elt F) S8x20480 .f32)), Σ' (LT0 : List (View.Piece (Elt F) S32x20480 .f32)), { LT1 : List (View.Piece (Elt F) S32x160 .f32) //
      ∀ (xi8 : Vec F S1x20480 .f32) (xi9 : Vec F S1x20480 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [⟨rQ, fun j => (coArr x0 x1 x2 x3 x4 x5 x6 x7) (rQ.emb j)⟩], [⟨r160, fun j => (scArr x0 x1 x2 x3 x4 x5 x6 x7) (r160.emb j)⟩], [⟨r8, fun j => (newA x0 x1 x2 x3 x6 x7 zero8) (r8.emb j)⟩], [⟨r8, fun j => (newB x2 x3 zero8) (r8.emb j)⟩], [⟨rQ, fun j => (zArr x0 x1 x2 x5 x6 x7) (rQ.emb j)⟩], [⟨r160, fun j => (amArr x0 x1 x2 x5 x6 x7) (r160.emb j)⟩], fun xi8 xi9 E K => ?_⟩
  rw [cc0_first (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0]
  iintro ⟨H1, H2, H3, H4, H5, H6, H7, H8, H9, H10, ⟨%d11, H11⟩, ⟨%d12, H12⟩, ⟨%d13, H13⟩, ⟨%d14, H14⟩, ⟨%d15, H15⟩, ⟨%d16, H16⟩, Hk⟩
  iapply (wp_zeroed (F := F) c E arg15 arg16 K d15 d16)
  isplitl [H15]; · iexact H15
  isplitl [H16]; · iexact H16
  iintro ⟨H15, H16⟩
  unfold body
  rw [dif_neg hc1]
  iapply (wp_passes (F := F) c E x0 x1 x2 x3 x4 x5 x6 x7 arg1 arg2 arg3 arg4 arg5 arg6 arg7 arg8 arg11 harg11 arg12 arg13 arg14 arg15 arg16 K zero8 zero8 d13 d14 d12 d11)
  unfold ownIn
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11]; · iexact H11
  isplitl [H12]; · iexact H12
  isplitl [H13]; · iexact H13
  isplitl [H14]; · iexact H14
  isplitl [H15]; · iexact H15
  isplitl [H16]; · iexact H16
  iintro ⟨⟨H1, H2, H3, H4, H5, H6, H7, H8⟩, H11, H12, H13, H14, H15, H16⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_piece (c : Thread nD τ) harg11 rQ _); iexact H11
  isplitl [H12]; · iapply (owns_piece (c : Thread nD τ) harg12 r160 _); iexact H12
  isplitl [H13]; · iapply (owns_piece (c : Thread nD τ) harg13 rQ _); iexact H13
  isplitl [H14]; · iapply (owns_piece (c : Thread nD τ) harg14 r160 _); iexact H14
  isplitl [H15]; · iapply (owns_piece (c : Thread nD τ) harg15 r8 _); iexact H15
  iapply (owns_piece (c : Thread nD τ) harg16 r8 _); iexact H16

/-- At a middle point: the passes run on the accumulators as they stand. -/
noncomputable def kernelRun0_B (hc0 : ¬cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    Σ' (L8 : List (View.Piece (Elt F) S1x20480 .f32)), Σ' (L9 : List (View.Piece (Elt F) S1x20480 .f32)), Σ' (L10 : List (View.Piece (Elt F) S32x20480 .fp8e5m2)), Σ' (L11 : List (View.Piece (Elt F) S32x160 .f32)), Σ' (LS2 : List (View.Piece (Elt F) S8x20480 .f32)), Σ' (LS3 : List (View.Piece (Elt F) S8x20480 .f32)), Σ' (LT0 : List (View.Piece (Elt F) S32x20480 .f32)), { LT1 : List (View.Piece (Elt F) S32x160 .f32) //
      ∀ (xi8 : Vec F S1x20480 .f32) (xi9 : Vec F S1x20480 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [⟨rQ, fun j => (coArr x0 x1 x2 x3 x4 x5 x6 x7) (rQ.emb j)⟩], [⟨r160, fun j => (scArr x0 x1 x2 x3 x4 x5 x6 x7) (r160.emb j)⟩], [⟨r8, fun j => (newA x0 x1 x2 x3 x6 x7 xs2) (r8.emb j)⟩], [⟨r8, fun j => (newB x2 x3 xs3) (r8.emb j)⟩], [⟨rQ, fun j => (zArr x0 x1 x2 x5 x6 x7) (rQ.emb j)⟩], [⟨r160, fun j => (amArr x0 x1 x2 x5 x6 x7) (r160.emb j)⟩], fun xi8 xi9 E K => ?_⟩
  rw [cc0_other (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0]
  iintro ⟨H1, H2, H3, H4, H5, H6, H7, H8, H9, H10, ⟨%d11, H11⟩, ⟨%d12, H12⟩, ⟨%d13, H13⟩, ⟨%d14, H14⟩, H15, H16, Hk⟩
  unfold body
  rw [dif_neg hc1]
  iapply (wp_passes (F := F) c E x0 x1 x2 x3 x4 x5 x6 x7 arg1 arg2 arg3 arg4 arg5 arg6 arg7 arg8 arg11 harg11 arg12 arg13 arg14 arg15 arg16 K xs2 xs3 d13 d14 d12 d11)
  unfold ownIn
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11]; · iexact H11
  isplitl [H12]; · iexact H12
  isplitl [H13]; · iexact H13
  isplitl [H14]; · iexact H14
  isplitl [H15]; · iexact H15
  isplitl [H16]; · iexact H16
  iintro ⟨⟨H1, H2, H3, H4, H5, H6, H7, H8⟩, H11, H12, H13, H14, H15, H16⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_piece (c : Thread nD τ) harg11 rQ _); iexact H11
  isplitl [H12]; · iapply (owns_piece (c : Thread nD τ) harg12 r160 _); iexact H12
  isplitl [H13]; · iapply (owns_piece (c : Thread nD τ) harg13 rQ _); iexact H13
  isplitl [H14]; · iapply (owns_piece (c : Thread nD τ) harg14 r160 _); iexact H14
  isplitl [H15]; · iapply (owns_piece (c : Thread nD τ) harg15 r8 _); iexact H15
  iapply (owns_piece (c : Thread nD τ) harg16 r8 _); iexact H16

/-- At the grid's last point: the passes run, then the accumulators are summed into the results. -/
noncomputable def kernelRun0_C (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    Σ' (L8 : List (View.Piece (Elt F) S1x20480 .f32)), Σ' (L9 : List (View.Piece (Elt F) S1x20480 .f32)), Σ' (L10 : List (View.Piece (Elt F) S32x20480 .fp8e5m2)), Σ' (L11 : List (View.Piece (Elt F) S32x160 .f32)), Σ' (LS2 : List (View.Piece (Elt F) S8x20480 .f32)), Σ' (LS3 : List (View.Piece (Elt F) S8x20480 .f32)), Σ' (LT0 : List (View.Piece (Elt F) S32x20480 .f32)), { LT1 : List (View.Piece (Elt F) S32x160 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs2 ∗ owns (c : Thread nD τ) arg16 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[⟨r1, fun j => (last (newA x0 x1 x2 x3 x6 x7 xs2)) (r1.emb j)⟩], [⟨r1, fun j => (last (newB x2 x3 xs3)) (r1.emb j)⟩], [⟨rQ, fun j => (coArr x0 x1 x2 x3 x4 x5 x6 x7) (rQ.emb j)⟩], [⟨r160, fun j => (scArr x0 x1 x2 x3 x4 x5 x6 x7) (r160.emb j)⟩], [⟨r8, fun j => (newA x0 x1 x2 x3 x6 x7 xs2) (r8.emb j)⟩], [⟨r8, fun j => (newB x2 x3 xs3) (r8.emb j)⟩], [⟨rQ, fun j => (zArr x0 x1 x2 x5 x6 x7) (rQ.emb j)⟩], [⟨r160, fun j => (amArr x0 x1 x2 x5 x6 x7) (r160.emb j)⟩], fun E K => ?_⟩
  rw [cc0_other (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0]
  iintro ⟨H1, H2, H3, H4, H5, H6, H7, H8, ⟨%d9, H9⟩, ⟨%d10, H10⟩, ⟨%d11, H11⟩, ⟨%d12, H12⟩, ⟨%d13, H13⟩, ⟨%d14, H14⟩, H15, H16, Hk⟩
  unfold body
  rw [dif_pos hc1]
  iapply (wp_passes (F := F) c E x0 x1 x2 x3 x4 x5 x6 x7 arg1 arg2 arg3 arg4 arg5 arg6 arg7 arg8 arg11 harg11 arg12 arg13 arg14 arg15 arg16 K xs2 xs3 d13 d14 d12 d11)
  unfold ownIn
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11]; · iexact H11
  isplitl [H12]; · iexact H12
  isplitl [H13]; · iexact H13
  isplitl [H14]; · iexact H14
  isplitl [H15]; · iexact H15
  isplitl [H16]; · iexact H16
  iintro ⟨⟨H1, H2, H3, H4, H5, H6, H7, H8⟩, H11, H12, H13, H14, H15, H16⟩
  iapply (wp_lasts (F := F) c E arg9 arg10 arg15 arg16 K _ _ d9 d10)
  isplitl [H15]; · iexact H15
  isplitl [H16]; · iexact H16
  isplitl [H9]; · iexact H9
  isplitl [H10]; · iexact H10
  iintro ⟨H15, H16, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_piece (c : Thread nD τ) harg9 r1 _); iexact H9
  isplitl [H10]; · iapply (owns_piece (c : Thread nD τ) harg10 r1 _); iexact H10
  isplitl [H11]; · iapply (owns_piece (c : Thread nD τ) harg11 rQ _); iexact H11
  isplitl [H12]; · iapply (owns_piece (c : Thread nD τ) harg12 r160 _); iexact H12
  isplitl [H13]; · iapply (owns_piece (c : Thread nD τ) harg13 rQ _); iexact H13
  isplitl [H14]; · iapply (owns_piece (c : Thread nD τ) harg14 r160 _); iexact H14
  isplitl [H15]; · iapply (owns_piece (c : Thread nD τ) harg15 r8 _); iexact H15
  iapply (owns_piece (c : Thread nD τ) harg16 r8 _); iexact H16

end Cert.KernelIdeal.Gen
-- ==== Proof.KernelIdealHand.Frame.lean ====
/- The frame from the runs of `Run.lean`: what the outputs and the two accumulators hold point by point, the body's
   obligation at every grid point, and the run of @main. Adapted from the generated frame, whose runs hold one piece per
   store; here a run leaves one piece over each whole buffer. -/
module

public import proofs.«01_k».proof.Proof.KernelIdealHand.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole buffer's memref is whole. -/
theorem hw {κ : Kind} {b : Ref sig κ} : (Memref.whole b).IsWhole := Memref.isWhole_whole _

/-- The point before a point of the grid. -/
theorem pred_lt (t : Fin cfg0.N) : t.val - 1 < cfg0.N := Nat.lt_of_le_of_lt (Nat.sub_le _ _) t.isLt

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
  (hc0 : cond0_0 i) (hc1 : ¬cond0_1 i)
  (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32)

/-- Case A stores nothing into output 8 (the window is idle at its points and not written back there):
    no pieces — a placeholder (junk read back) that nothing consults, since at these points the window is neither
    written back nor read at the next point (Lib/Pipeline.lean "Idle points"). -/
def out0_A_8 : Vec F S1x20480 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out0_A_9 : Vec F S1x20480 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1)

/-- Case A's piece for output 10 covers its block. -/
theorem cover0_A_10 (y : S32x20480.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1 S32x20480.size (by sl_kernel_rfl) y

/-- What case A leaves in output 10's staging buffer: its pieces read back over junk. -/
def out0_A_10 : Vec F S32x20480 .fp8e5m2 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1)

/-- Case A's piece for output 11 covers its block. -/
theorem cover0_A_11 (y : S32x160.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1 S32x160.size (by sl_kernel_rfl) y

/-- What case A leaves in output 11's staging buffer: its pieces read back over junk. -/
def out0_A_11 : Vec F S32x160 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1)

/-- Case A's piece for scratch `arg15`, which the kernel carries between points, covers it. -/
theorem scover0_A_2 (y : S8x20480.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1 (by sl_whole_mem) y

/-- What case A leaves in scratch `arg15`: its pieces read back over junk. -/
def sout0_A_2 : Vec F S8x20480 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1)

/-- Case A's piece for scratch `arg16`, which the kernel carries between points, covers it. -/
theorem scover0_A_3 (y : S8x20480.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1 (by sl_whole_mem) y

/-- What case A leaves in scratch `arg16`: its pieces read back over junk. -/
def sout0_A_3 : Vec F S8x20480 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1)

end

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
  (hc0 : ¬cond0_0 i) (hc1 : ¬cond0_1 i)
  (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32)

/-- Case B stores nothing into output 8 (the window is idle at its points and not written back there):
    no pieces — a placeholder (junk read back) that nothing consults, since at these points the window is neither
    written back nor read at the next point (Lib/Pipeline.lean "Idle points"). -/
def out0_B_8 : Vec F S1x20480 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1)

/-- Case B stores nothing into output 9 (the window is idle at its points and not written back there):
    no pieces — a placeholder (junk read back) that nothing consults, since at these points the window is neither
    written back nor read at the next point (Lib/Pipeline.lean "Idle points"). -/
def out0_B_9 : Vec F S1x20480 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1)

/-- Case B's piece for output 10 covers its block. -/
theorem cover0_B_10 (y : S32x20480.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1 S32x20480.size (by sl_kernel_rfl) y

/-- What case B leaves in output 10's staging buffer: its pieces read back over junk. -/
def out0_B_10 : Vec F S32x20480 .fp8e5m2 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1)

/-- Case B's piece for output 11 covers its block. -/
theorem cover0_B_11 (y : S32x160.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1 S32x160.size (by sl_kernel_rfl) y

/-- What case B leaves in output 11's staging buffer: its pieces read back over junk. -/
def out0_B_11 : Vec F S32x160 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1)

/-- Case B's piece for scratch `arg15`, which the kernel carries between points, covers it. -/
theorem scover0_B_2 (y : S8x20480.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1 S8x20480.size (by sl_kernel_rfl) y

/-- What case B leaves in scratch `arg15`: its pieces read back over junk. -/
def sout0_B_2 : Vec F S8x20480 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1)

/-- Case B's piece for scratch `arg16`, which the kernel carries between points, covers it. -/
theorem scover0_B_3 (y : S8x20480.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1 S8x20480.size (by sl_kernel_rfl) y

/-- What case B leaves in scratch `arg16`: its pieces read back over junk. -/
def sout0_B_3 : Vec F S8x20480 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1)

end

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)
  (hc0 : ¬cond0_0 i) (hc1 : cond0_1 i)
  (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32)

/-- Case C's piece for output 8 covers its block. -/
theorem cover0_C_8 (y : S1x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1 S1x20480.size (by sl_kernel_rfl) y

/-- What case C leaves in output 8's staging buffer: its pieces read back over junk. -/
def out0_C_8 : Vec F S1x20480 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).1)

/-- Case C's piece for output 9 covers its block. -/
theorem cover0_C_9 (y : S1x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1 S1x20480.size (by sl_kernel_rfl) y

/-- What case C leaves in output 9's staging buffer: its pieces read back over junk. -/
def out0_C_9 : Vec F S1x20480 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.1)

/-- Case C's piece for output 10 covers its block. -/
theorem cover0_C_10 (y : S32x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1 S32x20480.size (by sl_kernel_rfl) y

/-- What case C leaves in output 10's staging buffer: its pieces read back over junk. -/
def out0_C_10 : Vec F S32x20480 .fp8e5m2 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.1)

/-- Case C's piece for output 11 covers its block. -/
theorem cover0_C_11 (y : S32x160.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1 S32x160.size (by sl_kernel_rfl) y

/-- What case C leaves in output 11's staging buffer: its pieces read back over junk. -/
def out0_C_11 : Vec F S32x160 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.1)

/-- Case C's piece for scratch `arg15`, which the kernel carries between points, covers it. -/
theorem scover0_C_2 (y : S8x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1 S8x20480.size (by sl_kernel_rfl) y

/-- What case C leaves in scratch `arg15`: its pieces read back over junk. -/
def sout0_C_2 : Vec F S8x20480 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.1)

/-- Case C's piece for scratch `arg16`, which the kernel carries between points, covers it. -/
theorem scover0_C_3 (y : S8x20480.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1 S8x20480.size (by sl_kernel_rfl) y

/-- What case C leaves in scratch `arg16`: its pieces read back over junk. -/
def sout0_C_3 : Vec F S8x20480 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3).2.2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x20480 .f32 × Vec F S1x20480 .f32 × Vec F S32x20480 .fp8e5m2 × Vec F S32x160 .f32 × Vec F S8x20480 .f32 × Vec F S8x20480 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 hw scM0_1 hw scM0_2 hw scM0_3 hw ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 48 = 0 then
      if h1 : (n + 1) % 48 = 47 then
        False.elim (by have hN : n + 1 < 48 := lt_of_lt_of_eq hn (show cfg0.N = 48 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 48 = 47 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 hw scM0_1 hw scM0_2 hw scM0_3 hw (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 48 = 0) (h1 : ¬t.val % 48 = 47) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 48 = 0) (h1 : ¬t.val % 48 = 47) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 48 = 0) (h1 : t.val % 48 = 47) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases h1 : t.val % 48 = 47
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · rw [PhiS_castSucc m c t, PhiS_zero m c _ _ hz, PhiA0_eq]
        rw [outsAt0_A m c t h0 h1]
        unfold out0_A_10 out0_A_11 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, ⟨%e10, H10⟩, ⟨%e11, H11⟩, ⟨%fT0, HS0⟩, ⟨%fT1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
      · exfalso; have hN : t.val < 48 := lt_of_lt_of_eq t.isLt (show cfg0.N = 48 from N_0); omega
  · by_cases h1 : t.val % 48 = 47
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 48 := lt_of_lt_of_eq t.isLt (show cfg0.N = 48 from N_0); omega
      · rw [PhiS_castSucc m c t, PhiS_pos m c _ _ hz]
        rw [outsAt0_C m c t h0 h1]
        unfold out0_C_8 out0_C_9 out0_C_10 out0_C_11 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, ⟨%e8, H8⟩, ⟨%e9, H9⟩, ⟨%e10, H10⟩, ⟨%e11, H11⟩, ⟨%fT0, HS0⟩, ⟨%fT1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 48 := lt_of_lt_of_eq t.isLt (show cfg0.N = 48 from N_0); omega
      · rw [PhiS_castSucc m c t, PhiS_pos m c _ _ hz]
        rw [outsAt0_B m c t h0 h1]
        unfold out0_B_10 out0_B_11 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        iintro ⟨H0, H1, H2, H3, H4, H5, H6, H7, H8, H9, ⟨%e10, H10⟩, ⟨%e11, H11⟩, ⟨%fT0, HS0⟩, ⟨%fT1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.KernelIdealHand.Value.lean ====
/- The result arrays after the run, from the points' contents: each index holds what the grid point that writes its block
   back leaves there, as a fold over the points. Adapted from the generated value module onto the frame of `Frame.lean`. -/
module

public import proofs.«01_k».proof.Proof.KernelIdealHand.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 48 = 0) (h1 : ¬t.val % 48 = 47) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 48 = 0) (h1 : ¬t.val % 48 = 47) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 48 = 0) (h1 : t.val % 48 = 47) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed8, outsAt0_C m c t h0 h1]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S1x20480.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 48 = 0) (h1 : ¬t.val % 48 = 47) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 48 = 0) (h1 : ¬t.val % 48 = 47) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed9, outsAt0_B m c t h0 h1]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 48 = 0) (h1 : t.val % 48 = 47) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed9, outsAt0_C m c t h0 h1]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x20480.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 48 = 0) (h1 : ¬t.val % 48 = 47) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 48 = 0) (h1 : ¬t.val % 48 = 47) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed10, outsAt0_B m c t h0 h1]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 48 = 0) (h1 : t.val % 48 = 47) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed10, outsAt0_C m c t h0 h1]

/-- The index map sends distinct grid points to distinct block indices (decided over the 48 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1536x20480.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 3), read through the window's block. -/
theorem flushed11 (c : Dev nD) (t : Fin cfg0.N) :
    (dats m 0 c).flushed 11 t = (cfg0.win 11).cut (grid0.coords t) ((outsAt0 m c t.val t.isLt).2.2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 48 = 0) (h1 : ¬t.val % 48 = 47) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 48 = 0) (h1 : ¬t.val % 48 = 47) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 48 = 0) (h1 : t.val % 48 = 47) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (pred_lt t)).2.2.2.2.1 (outsAt0 m c (t.val - 1) (pred_lt t)).2.2.2.2.2) := by
  simp only [flushed11, outsAt0_C m c t h0 h1]

/-- The index map sends distinct grid points to distinct block indices (decided over the 48 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S1536x160.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v19_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v19_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v19_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v19_3) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19_0) = (dats m 0 c).arrAt 8 cfg0.N
      ∧ r.2.mem ((c : Thread nD τ).loc main_v19_1) = (dats m 0 c).arrAt 9 cfg0.N
      ∧ r.2.mem ((c : Thread nD τ).loc main_v19_2) = (dats m 0 c).arrAt 10 cfg0.N
      ∧ r.2.mem ((c : Thread nD τ).loc main_v19_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S8x20480 .f32) : Vec F S8x20480 .f32 :=
  if h0 : n % 48 = 0 then
    if h1 : n % 48 = 47 then
      acc
    else
      sout0_A_2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩)
  else
    if h1 : n % 48 = 47 then
      sout0_C_2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc (outsAt0 m c ((⟨n, hb⟩ : Fin cfg0.N).val - 1) (Nat.lt_of_le_of_lt (Nat.sub_le _ _) (⟨n, hb⟩ : Fin cfg0.N).isLt)).2.2.2.2.2
    else
      sout0_B_2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc (outsAt0 m c ((⟨n, hb⟩ : Fin cfg0.N).val - 1) (Nat.lt_of_le_of_lt (Nat.sub_le _ _) (⟨n, hb⟩ : Fin cfg0.N).isLt)).2.2.2.2.2

/-- WHAT CARRIED SCRATCH 2 HOLDS after point `t`: the fold of its run up to `t`, from the reset at the run's first point
    `48·(t / 48)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2.1 = Pipeline.accAt (fun n h => scAt0_2 m c n h (VS0_2.read (Elt F) VS0_2.junk)) (scAt0_2 m c) (48 * (t.val / 48)) (t.val % 48)
      (by have h1 := t.isLt; have h2 := Nat.div_add_mod t.val 48; omega) :=
  Pipeline.eq_accAt_of_mod (fun n h => (outsAt0 m c n h).2.2.2.2.1) 48 (fun n h => scAt0_2 m c n h (VS0_2.read (Elt F) VS0_2.junk)) (scAt0_2 m c)
    (fun n h hn => by
      have hN := lt_of_lt_of_eq h (show cfg0.N = 48 from N_0)
      by_cases h0 : n % 48 = 0 <;> by_cases h1 : n % 48 = 47
      all_goals first | (exfalso; omega) | (rw [outsAt0_A m c ⟨n, h⟩ h0 h1]; dsimp only; unfold scAt0_2; rw [dif_pos h0, dif_neg h1] <;> try rfl) | (rw [outsAt0_B m c ⟨n, h⟩ h0 h1]; dsimp only; unfold scAt0_2; rw [dif_neg h0, dif_neg h1] <;> try rfl) | (rw [outsAt0_C m c ⟨n, h⟩ h0 h1]; dsimp only; unfold scAt0_2; rw [dif_neg h0, dif_pos h1] <;> try rfl))
    (fun n h hn => by
      have hN := lt_of_lt_of_eq h (show cfg0.N = 48 from N_0)
      by_cases h0 : (n + 1) % 48 = 0 <;> by_cases h1 : (n + 1) % 48 = 47
      all_goals first | (exfalso; omega) | (rw [outsAt0_A m c ⟨n + 1, h⟩ h0 h1]; dsimp only; unfold scAt0_2; rw [dif_pos h0, dif_neg h1] <;> try rfl) | (rw [outsAt0_B m c ⟨n + 1, h⟩ h0 h1]; dsimp only; unfold scAt0_2; rw [dif_neg h0, dif_neg h1] <;> try rfl) | (rw [outsAt0_C m c ⟨n + 1, h⟩ h0 h1]; dsimp only; unfold scAt0_2; rw [dif_neg h0, dif_pos h1] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 48 from N_0)
  have hd : n / 48 = 0 := Nat.div_eq_of_lt hN
  have hm : n % 48 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S8x20480 .f32) : Vec F S8x20480 .f32 :=
  if h0 : n % 48 = 0 then
    if h1 : n % 48 = 47 then
      acc
    else
      sout0_A_3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩)
  else
    if h1 : n % 48 = 47 then
      sout0_C_3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) (outsAt0 m c ((⟨n, hb⟩ : Fin cfg0.N).val - 1) (Nat.lt_of_le_of_lt (Nat.sub_le _ _) (⟨n, hb⟩ : Fin cfg0.N).isLt)).2.2.2.2.1 acc
    else
      sout0_B_3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) (outsAt0 m c ((⟨n, hb⟩ : Fin cfg0.N).val - 1) (Nat.lt_of_le_of_lt (Nat.sub_le _ _) (⟨n, hb⟩ : Fin cfg0.N).isLt)).2.2.2.2.1 acc

/-- WHAT CARRIED SCRATCH 3 HOLDS after point `t`: the fold of its run up to `t`, from the reset at the run's first point
    `48·(t / 48)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.2.2 = Pipeline.accAt (fun n h => scAt0_3 m c n h (VS0_3.read (Elt F) VS0_3.junk)) (scAt0_3 m c) (48 * (t.val / 48)) (t.val % 48)
      (by have h1 := t.isLt; have h2 := Nat.div_add_mod t.val 48; omega) :=
  Pipeline.eq_accAt_of_mod (fun n h => (outsAt0 m c n h).2.2.2.2.2) 48 (fun n h => scAt0_3 m c n h (VS0_3.read (Elt F) VS0_3.junk)) (scAt0_3 m c)
    (fun n h hn => by
      have hN := lt_of_lt_of_eq h (show cfg0.N = 48 from N_0)
      by_cases h0 : n % 48 = 0 <;> by_cases h1 : n % 48 = 47
      all_goals first | (exfalso; omega) | (rw [outsAt0_A m c ⟨n, h⟩ h0 h1]; dsimp only; unfold scAt0_3; rw [dif_pos h0, dif_neg h1] <;> try rfl) | (rw [outsAt0_B m c ⟨n, h⟩ h0 h1]; dsimp only; unfold scAt0_3; rw [dif_neg h0, dif_neg h1] <;> try rfl) | (rw [outsAt0_C m c ⟨n, h⟩ h0 h1]; dsimp only; unfold scAt0_3; rw [dif_neg h0, dif_pos h1] <;> try rfl))
    (fun n h hn => by
      have hN := lt_of_lt_of_eq h (show cfg0.N = 48 from N_0)
      by_cases h0 : (n + 1) % 48 = 0 <;> by_cases h1 : (n + 1) % 48 = 47
      all_goals first | (exfalso; omega) | (rw [outsAt0_A m c ⟨n + 1, h⟩ h0 h1]; dsimp only; unfold scAt0_3; rw [dif_pos h0, dif_neg h1] <;> try rfl) | (rw [outsAt0_B m c ⟨n + 1, h⟩ h0 h1]; dsimp only; unfold scAt0_3; rw [dif_neg h0, dif_neg h1] <;> try rfl) | (rw [outsAt0_C m c ⟨n + 1, h⟩ h0 h1]; dsimp only; unfold scAt0_3; rw [dif_neg h0, dif_pos h1] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.2.2 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 48 from N_0)
  have hd : n / 48 = 0 := Nat.div_eq_of_lt hN
  have hm : n % 48 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x20480 .f32 × Vec F S1x20480 .f32 × Vec F S32x20480 .fp8e5m2 × Vec F S32x160 .f32 × Vec F S8x20480 .f32 × Vec F S8x20480 .f32 :=
  ((VO0_8.read (Elt F) VO0_8.junk, VO0_9.read (Elt F) VO0_9.junk, VO0_10.read (Elt F) VO0_10.junk, VO0_11.read (Elt F) VO0_11.junk, VS0_2.read (Elt F) VS0_2.junk, VS0_3.read (Elt F) VS0_3.junk) : Vec F S1x20480 .f32 × Vec F S1x20480 .f32 × Vec F S32x20480 .fp8e5m2 × Vec F S32x160 .f32 × Vec F S8x20480 .f32 × Vec F S8x20480 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x20480 .f32 × Vec F S1x20480 .f32 × Vec F S32x20480 .fp8e5m2 × Vec F S32x160 .f32 × Vec F S8x20480 .f32 × Vec F S8x20480 .f32) : Vec F S1x20480 .f32 × Vec F S1x20480 .f32 × Vec F S32x20480 .fp8e5m2 × Vec F S32x160 .f32 × Vec F S8x20480 .f32 × Vec F S8x20480 .f32 :=
  if h0 : n % 48 = 0 then
    if h1 : n % 48 = 47 then
      False.elim (by have hN : n < 48 := lt_of_lt_of_eq hb (show cfg0.N = 48 from N_0); omega)
    else
      (out0_A_8 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩), out0_A_9 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩), out0_A_10 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩), out0_A_11 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩), sout0_A_2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩), sout0_A_3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩))
  else
    if h1 : n % 48 = 47 then
      (out0_C_8 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, out0_C_9 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, out0_C_10 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, out0_C_11 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, sout0_C_2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, sout0_C_3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2)
    else
      (out0_B_8 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, out0_B_9 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, out0_B_10 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, out0_B_11 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, sout0_B_2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2, sout0_B_3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) (ms0_10 ⟨n, hb⟩) (hs0_10 ⟨n, hb⟩) (ms0_11 ⟨n, hb⟩) (hs0_11 ⟨n, hb⟩) scM0_0 hw scM0_1 hw scM0_2 hw scM0_3 hw (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc.2.2.2.2.1 acc.2.2.2.2.2)

/-- `stAt0` at a point of case A: that case's contents. -/
theorem stAt0_A (c : Dev nD) (t : Fin cfg0.N) (acc : Vec F S1x20480 .f32 × Vec F S1x20480 .f32 × Vec F S32x20480 .fp8e5m2 × Vec F S32x160 .f32 × Vec F S8x20480 .f32 × Vec F S8x20480 .f32) (h0 : t.val % 48 = 0) (h1 : ¬t.val % 48 = 47) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) :=
  (dif_pos h0).trans ((dif_neg h1).trans rfl)

/-- `stAt0` at a point of case B: that case's contents, over `acc`. -/
theorem stAt0_B (c : Dev nD) (t : Fin cfg0.N) (acc : Vec F S1x20480 .f32 × Vec F S1x20480 .f32 × Vec F S32x20480 .fp8e5m2 × Vec F S32x160 .f32 × Vec F S8x20480 .f32 × Vec F S8x20480 .f32) (h0 : ¬t.val % 48 = 0) (h1 : ¬t.val % 48 = 47) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2) :=
  (dif_neg h0).trans ((dif_neg h1).trans rfl)

/-- `stAt0` at a point of case C: that case's contents, over `acc`. -/
theorem stAt0_C (c : Dev nD) (t : Fin cfg0.N) (acc : Vec F S1x20480 .f32 × Vec F S1x20480 .f32 × Vec F S32x20480 .fp8e5m2 × Vec F S32x160 .f32 × Vec F S8x20480 .f32 × Vec F S8x20480 .f32) (h0 : ¬t.val % 48 = 0) (h1 : t.val % 48 = 47) :
    stAt0 m c t.val t.isLt acc = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hw scM0_1 hw scM0_2 hw scM0_3 hw (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 48 from N_0)
  have e := Pipeline.eq_accAt_of_mod (fun n h => outsAt0 m c n h) 48 (fun n h => stAt0 m c n h junk0) (stAt0 m c)
    (fun n h _ => by
      have hN := lt_of_lt_of_eq h (show cfg0.N = 48 from N_0)
      obtain rfl : n = 0 := by omega
      exact outsAt0_zero m c h)
    (fun n h _ => outsAt0_succ m c n h)
    (by decide) n hn (by have := Nat.div_add_mod n 48; omega)
  have hd : n / 48 = 0 := Nat.div_eq_of_lt hN
  have hm : n % 48 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one every 48 points),
    `i`'s place in it, and the point that writes it back (the last of its 48). -/
abbrev run8Of (i : S1x20480.Idx) : ℕ := 1 * ((i 0).val / 1 - 0) + 1 * ((i 1).val / 20480 - 0)
set_option backward.proofsInPublic true in
abbrev loc8Of (i : S1x20480.Idx) : S1x20480.Idx := fun a => match a with
  | ⟨0, _⟩ => ⟨(i 0).val % 1, Nat.mod_lt _ (by decide)⟩
  | ⟨1, _⟩ => ⟨(i 1).val % 20480, Nat.mod_lt _ (by decide)⟩
abbrev pt8Of (i : S1x20480.Idx) : ℕ := 48 * run8Of i + 47

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v19_0) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t / 48`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 0
    ∧ 1 * (win0_8.index t (0 : Fin 2) - 0) + 1 * (win0_8.index t (1 : Fin 2) - 0) = t.val / 48 :=
  (by decide +kernel : ∀ t : Fin grid0.N, _)

/-- Every block of the box is SOME flushing point's: `onto8Pt`, the point that writes back the block at place `q` of the box (the last point of its run). -/
abbrev onto8Pt (q0 : Fin 1) (q1 : Fin 1) : Fin grid0.N :=
  ⟨48 * (1 * q0.val + 1 * q1.val) + 47, lt_of_lt_of_eq (by omega) N_0.symm⟩
theorem idx_onto8 : ∀ (q0 : Fin 1) (q1 : Fin 1), ∃ t : Fin cfg0.N, (cfg0.win 8).flush t = true ∧ win0_8.index t = ![q0.val + 0, q1.val + 0] :=
  fun q0 q1 => ⟨onto8Pt q0 q1, (by decide +kernel : ∀ (q0 : Fin 1) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 48 = 47 := (flush0_8 t).mp hf
  obtain ⟨e0, e1, e2⟩ := idx_facts8 t
  funext y
  have hy0 : (y 0).val < 1 := (y 0).isLt
  have hy1 : (y 1).val < 20480 := (y 1).isLt
  have hb0 : (((cfg0.win 8).blk t).view.emb y 0).val = win0_8.index t (0 : Fin 2) * 1 + 1 * (y 0).val := rfl
  have hb1 : (((cfg0.win 8).blk t).view.emb y 1).val = win0_8.index t (1 : Fin 2) * 20480 + 1 * (y 1).val := rfl
  have hr : run8Of (((cfg0.win 8).blk t).view.emb y) = t.val / 48 := by
    show 1 * ((((cfg0.win 8).blk t).view.emb y 0).val / 1 - 0) + 1 * ((((cfg0.win 8).blk t).view.emb y 1).val / 20480 - 0) = _
    rw [hb0, hb1]
    rw [show (win0_8.index t (0 : Fin 2) * 1 + 1 * (y 0).val) / 1 = win0_8.index t (0 : Fin 2) from by omega]; rw [show (win0_8.index t (1 : Fin 2) * 20480 + 1 * (y 1).val) / 20480 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 20480 = (y 1).val; rw [hb1]; omega
  have hp : pt8Of (((cfg0.win 8).blk t).view.emb y) = t.val := by
    show 48 * run8Of (((cfg0.win 8).blk t).view.emb y) + 47 = _
    rw [hr]; have := Nat.div_add_mod t.val 48; omega
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S1x20480.Idx) :
    i ∈ ((cfg0.win 8).blk t).view.set ↔ ∀ a : Fin 2, win0_8.index t a * S1x20480.size a ≤ (i a).val ∧ (i a).val < win0_8.index t a * S1x20480.size a + S1x20480.size a := by
  show i ∈ ((View.whole main_v19_0).slice (win0_8.rect t)).set ↔ _
  rw [View.set_slice_whole, Rect.mem_set_unit]
  exact Iff.rfl

/-- THE COVERED INDICES: in some flushing point's block iff inside the box those blocks fill. -/
theorem covered_iff8 (i : S1x20480.Idx) :
    (∃ t : Fin cfg0.N, (cfg0.win 8).flush t = true ∧ i ∈ ((cfg0.win 8).blk t).view.set) ↔ 0 ≤ (i 0).val ∧ (i 0).val < 1 ∧ 0 ≤ (i 1).val ∧ (i 1).val < 20480 := by
  constructor
  · rintro ⟨t, -, hi⟩
    rw [mem_blk8] at hi
    have b0 : win0_8.index t (0 : Fin 2) * 1 ≤ (i 0).val ∧ (i 0).val < win0_8.index t (0 : Fin 2) * 1 + 1 := hi 0
    have b1 : win0_8.index t (1 : Fin 2) * 20480 ≤ (i 1).val ∧ (i 1).val < win0_8.index t (1 : Fin 2) * 20480 + 20480 := hi 1
    obtain ⟨e0, e1, e2⟩ := idx_facts8 t
    omega
  · intro h
    have hi0 : (i 0).val < 1 := (i 0).isLt
    have hi1 : (i 1).val < 20480 := (i 1).isLt
    obtain ⟨t, hft, ht⟩ := idx_onto8 ⟨(i 0).val / 1 - 0, by omega⟩ ⟨(i 1).val / 20480 - 0, by omega⟩
    have q0 : win0_8.index t (0 : Fin 2) = (i 0).val / 1 - 0 + 0 := congrFun ht 0
    have q1 : win0_8.index t (1 : Fin 2) = (i 1).val / 20480 - 0 + 0 := congrFun ht 1
    refine ⟨t, hft, ?_⟩
    rw [mem_blk8]
    intro a
    match a with
    | ⟨0, _⟩ => show win0_8.index t (0 : Fin 2) * 1 ≤ (i 0).val ∧ (i 0).val < win0_8.index t (0 : Fin 2) * 1 + 1; omega
    | ⟨1, _⟩ => show win0_8.index t (1 : Fin 2) * 20480 ≤ (i 1).val ∧ (i 1).val < win0_8.index t (1 : Fin 2) * 20480 + 20480; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 1 := (i 0).isLt; have h1 : (i 1).val < 20480 := (i 1).isLt; omega))

/-- Output 8 is written back ONCE, at the last point, and its block is its array: the array after the run is output 8's
    component of the fold over the whole grid — where a hand proof over this window starts. -/
theorem G8_last (c : Dev nD) :
    G8 m c = (Pipeline.accAt (fun n h => stAt0 m c n h junk0) (stAt0 m c) 0 47 (lt_of_lt_of_eq (by decide) N_0.symm)).1 := by
  funext i
  have hi0 : (i 0).val < 1 := (i 0).isLt
  have hi1 : (i 1).val < 20480 := (i 1).isLt
  have hp : pt8Of i = 47 := by
    show 48 * (1 * ((i 0).val / 1 - 0) + 1 * ((i 1).val / 20480 - 0)) + 47 = _
    omega
  have hl : loc8Of i = i := by
    funext a; apply Fin.ext
    match a with
    | ⟨0, _⟩ => show (i 0).val % 1 = (i 0).val; omega
    | ⟨1, _⟩ => show (i 1).val % 20480 = (i 1).val; omega
  unfold G8
  rw [dif_pos (by rw [hp]; exact lt_of_lt_of_eq (by decide) N_0.symm), hl, fold0_congr m c _ _ _ _ hp]

/-! ## Output window 9 -/

/-- The block of the array that holds index `i`, numbered in the order the points write the blocks back (one every 48 points),
    `i`'s place in it, and the point that writes it back (the last of its 48). -/
abbrev run9Of (i : S1x20480.Idx) : ℕ := 1 * ((i 0).val / 1 - 0) + 1 * ((i 1).val / 20480 - 0)
set_option backward.proofsInPublic true in
abbrev loc9Of (i : S1x20480.Idx) : S1x20480.Idx := fun a => match a with
  | ⟨0, _⟩ => ⟨(i 0).val % 1, Nat.mod_lt _ (by decide)⟩
  | ⟨1, _⟩ => ⟨(i 1).val % 20480, Nat.mod_lt _ (by decide)⟩
abbrev pt9Of (i : S1x20480.Idx) : ℕ := 48 * run9Of i + 47

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v19_1) := fun i =>
  if h : pt9Of i < cfg0.N then
    (Pipeline.accAt (fun n h => stAt0 m c n h junk0) (stAt0 m c) 0 (pt9Of i) (by omega)).2.1 (loc9Of i)
  else V m c (Pipeline.arrRef spec0 9) i

/-- The printed index map, decided over the grid: output window 9's block indices stay in the box, and the block number
    read off them is the point's (`t / 48`). -/
theorem idx_facts9 : ∀ t : Fin cfg0.N, 0 ≤ win0_9.index t (0 : Fin 2) ∧ win0_9.index t (0 : Fin 2) ≤ 0
    ∧ 0 ≤ win0_9.index t (1 : Fin 2) ∧ win0_9.index t (1 : Fin 2) ≤ 0
    ∧ 1 * (win0_9.index t (0 : Fin 2) - 0) + 1 * (win0_9.index t (1 : Fin 2) - 0) = t.val / 48 :=
  (by decide +kernel : ∀ t : Fin grid0.N, _)

/-- Every block of the box is SOME flushing point's: `onto9Pt`, the point that writes back the block at place `q` of the box (the last point of its run). -/
abbrev onto9Pt (q0 : Fin 1) (q1 : Fin 1) : Fin grid0.N :=
  ⟨48 * (1 * q0.val + 1 * q1.val) + 47, lt_of_lt_of_eq (by omega) N_0.symm⟩
theorem idx_onto9 : ∀ (q0 : Fin 1) (q1 : Fin 1), ∃ t : Fin cfg0.N, (cfg0.win 9).flush t = true ∧ win0_9.index t = ![q0.val + 0, q1.val + 0] :=
  fun q0 q1 => ⟨onto9Pt q0 q1, (by decide +kernel : ∀ (q0 : Fin 1) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 48 = 47 := (flush0_9 t).mp hf
  obtain ⟨e0, e1, e2⟩ := idx_facts9 t
  funext y
  have hy0 : (y 0).val < 1 := (y 0).isLt
  have hy1 : (y 1).val < 20480 := (y 1).isLt
  have hb0 : (((cfg0.win 9).blk t).view.emb y 0).val = win0_9.index t (0 : Fin 2) * 1 + 1 * (y 0).val := rfl
  have hb1 : (((cfg0.win 9).blk t).view.emb y 1).val = win0_9.index t (1 : Fin 2) * 20480 + 1 * (y 1).val := rfl
  have hr : run9Of (((cfg0.win 9).blk t).view.emb y) = t.val / 48 := by
    show 1 * ((((cfg0.win 9).blk t).view.emb y 0).val / 1 - 0) + 1 * ((((cfg0.win 9).blk t).view.emb y 1).val / 20480 - 0) = _
    rw [hb0, hb1]
    rw [show (win0_9.index t (0 : Fin 2) * 1 + 1 * (y 0).val) / 1 = win0_9.index t (0 : Fin 2) from by omega]; rw [show (win0_9.index t (1 : Fin 2) * 20480 + 1 * (y 1).val) / 20480 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 20480 = (y 1).val; rw [hb1]; omega
  have hp : pt9Of (((cfg0.win 9).blk t).view.emb y) = t.val := by
    show 48 * run9Of (((cfg0.win 9).blk t).view.emb y) + 47 = _
    rw [hr]; have := Nat.div_add_mod t.val 48; omega
  show (Pipeline.accAt (fun n h => stAt0 m c n h junk0) (stAt0 m c) 0 t.val _).2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S1x20480.Idx) :
    i ∈ ((cfg0.win 9).blk t).view.set ↔ ∀ a : Fin 2, win0_9.index t a * S1x20480.size a ≤ (i a).val ∧ (i a).val < win0_9.index t a * S1x20480.size a + S1x20480.size a := by
  show i ∈ ((View.whole main_v19_1).slice (win0_9.rect t)).set ↔ _
  rw [View.set_slice_whole, Rect.mem_set_unit]
  exact Iff.rfl

/-- THE COVERED INDICES: in some flushing point's block iff inside the box those blocks fill. -/
theorem covered_iff9 (i : S1x20480.Idx) :
    (∃ t : Fin cfg0.N, (cfg0.win 9).flush t = true ∧ i ∈ ((cfg0.win 9).blk t).view.set) ↔ 0 ≤ (i 0).val ∧ (i 0).val < 1 ∧ 0 ≤ (i 1).val ∧ (i 1).val < 20480 := by
  constructor
  · rintro ⟨t, -, hi⟩
    rw [mem_blk9] at hi
    have b0 : win0_9.index t (0 : Fin 2) * 1 ≤ (i 0).val ∧ (i 0).val < win0_9.index t (0 : Fin 2) * 1 + 1 := hi 0
    have b1 : win0_9.index t (1 : Fin 2) * 20480 ≤ (i 1).val ∧ (i 1).val < win0_9.index t (1 : Fin 2) * 20480 + 20480 := hi 1
    obtain ⟨e0, e1, e2⟩ := idx_facts9 t
    omega
  · intro h
    have hi0 : (i 0).val < 1 := (i 0).isLt
    have hi1 : (i 1).val < 20480 := (i 1).isLt
    obtain ⟨t, hft, ht⟩ := idx_onto9 ⟨(i 0).val / 1 - 0, by omega⟩ ⟨(i 1).val / 20480 - 0, by omega⟩
    have q0 : win0_9.index t (0 : Fin 2) = (i 0).val / 1 - 0 + 0 := congrFun ht 0
    have q1 : win0_9.index t (1 : Fin 2) = (i 1).val / 20480 - 0 + 0 := congrFun ht 1
    refine ⟨t, hft, ?_⟩
    rw [mem_blk9]
    intro a
    match a with
    | ⟨0, _⟩ => show win0_9.index t (0 : Fin 2) * 1 ≤ (i 0).val ∧ (i 0).val < win0_9.index t (0 : Fin 2) * 1 + 1; omega
    | ⟨1, _⟩ => show win0_9.index t (1 : Fin 2) * 20480 ≤ (i 1).val ∧ (i 1).val < win0_9.index t (1 : Fin 2) * 20480 + 20480; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 1 := (i 0).isLt; have h1 : (i 1).val < 20480 := (i 1).isLt; omega))

/-- Output 9 is written back ONCE, at the last point, and its block is its array: the array after the run is output 9's
    component of the fold over the whole grid — where a hand proof over this window starts. -/
theorem G9_last (c : Dev nD) :
    G9 m c = (Pipeline.accAt (fun n h => stAt0 m c n h junk0) (stAt0 m c) 0 47 (lt_of_lt_of_eq (by decide) N_0.symm)).2.1 := by
  funext i
  have hi0 : (i 0).val < 1 := (i 0).isLt
  have hi1 : (i 1).val < 20480 := (i 1).isLt
  have hp : pt9Of i = 47 := by
    show 48 * (1 * ((i 0).val / 1 - 0) + 1 * ((i 1).val / 20480 - 0)) + 47 = _
    omega
  have hl : loc9Of i = i := by
    funext a; apply Fin.ext
    match a with
    | ⟨0, _⟩ => show (i 0).val % 1 = (i 0).val; omega
    | ⟨1, _⟩ => show (i 1).val % 20480 = (i 1).val; omega
  unfold G9
  rw [dif_pos (by rw [hp]; exact lt_of_lt_of_eq (by decide) N_0.symm), hl, fold0_congr m c _ _ _ _ hp]

/-! ## Output window 10 -/

/-- The block of the array that holds index `i`, numbered in the order the points write the blocks back (one per point),
    `i`'s place in it, and the point that writes it back. -/
abbrev run10Of (i : S1536x20480.Idx) : ℕ := 1 * ((i 0).val / 32 - 0) + 1 * ((i 1).val / 20480 - 0)
set_option backward.proofsInPublic true in
abbrev loc10Of (i : S1536x20480.Idx) : S32x20480.Idx := fun a => match a with
  | ⟨0, _⟩ => ⟨(i 0).val % 32, Nat.mod_lt _ (by decide)⟩
  | ⟨1, _⟩ => ⟨(i 1).val % 20480, Nat.mod_lt _ (by decide)⟩
abbrev pt10Of (i : S1536x20480.Idx) : ℕ := run10Of i

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v19_2) := fun i =>
  if h : pt10Of i < cfg0.N then
    (Pipeline.accAt (fun n h => stAt0 m c n h junk0) (stAt0 m c) 0 (pt10Of i) (by omega)).2.2.1 (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 2) ∧ win0_10.index t (0 : Fin 2) ≤ 47
    ∧ 0 ≤ win0_10.index t (1 : Fin 2) ∧ win0_10.index t (1 : Fin 2) ≤ 0
    ∧ 1 * (win0_10.index t (0 : Fin 2) - 0) + 1 * (win0_10.index t (1 : Fin 2) - 0) = t.val :=
  (by decide +kernel : ∀ t : Fin grid0.N, _)

/-- Every block of the box is SOME flushing point's: `onto10Pt`, the point that writes back the block at place `q` of the box. -/
abbrev onto10Pt (q0 : Fin 48) (q1 : Fin 1) : Fin grid0.N :=
  ⟨1 * q0.val + 1 * q1.val, lt_of_lt_of_eq (by omega) N_0.symm⟩
theorem idx_onto10 : ∀ (q0 : Fin 48) (q1 : Fin 1), ∃ t : Fin cfg0.N, (cfg0.win 10).flush t = true ∧ win0_10.index t = ![q0.val + 0, q1.val + 0] :=
  fun q0 q1 => ⟨onto10Pt q0 q1, (by decide +kernel : ∀ (q0 : Fin 48) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  obtain ⟨e0, e1, e2⟩ := idx_facts10 t
  funext y
  have hy0 : (y 0).val < 32 := (y 0).isLt
  have hy1 : (y 1).val < 20480 := (y 1).isLt
  have hb0 : (((cfg0.win 10).blk t).view.emb y 0).val = win0_10.index t (0 : Fin 2) * 32 + 1 * (y 0).val := rfl
  have hb1 : (((cfg0.win 10).blk t).view.emb y 1).val = win0_10.index t (1 : Fin 2) * 20480 + 1 * (y 1).val := rfl
  have hr : run10Of (((cfg0.win 10).blk t).view.emb y) = t.val := by
    show 1 * ((((cfg0.win 10).blk t).view.emb y 0).val / 32 - 0) + 1 * ((((cfg0.win 10).blk t).view.emb y 1).val / 20480 - 0) = _
    rw [hb0, hb1]
    rw [show (win0_10.index t (0 : Fin 2) * 32 + 1 * (y 0).val) / 32 = win0_10.index t (0 : Fin 2) from by omega]; rw [show (win0_10.index t (1 : Fin 2) * 20480 + 1 * (y 1).val) / 20480 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 32 = (y 0).val; rw [hb0]; omega
    | ⟨1, _⟩ => show (((cfg0.win 10).blk t).view.emb y 1).val % 20480 = (y 1).val; rw [hb1]; omega
  have hp : pt10Of (((cfg0.win 10).blk t).view.emb y) = t.val := by
    exact hr
  show (Pipeline.accAt (fun n h => stAt0 m c n h junk0) (stAt0 m c) 0 t.val _).2.2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S1536x20480.Idx) :
    i ∈ ((cfg0.win 10).blk t).view.set ↔ ∀ a : Fin 2, win0_10.index t a * S32x20480.size a ≤ (i a).val ∧ (i a).val < win0_10.index t a * S32x20480.size a + S32x20480.size a := by
  show i ∈ ((View.whole main_v19_2).slice (win0_10.rect t)).set ↔ _
  rw [View.set_slice_whole, Rect.mem_set_unit]
  exact Iff.rfl

/-- THE COVERED INDICES: in some flushing point's block iff inside the box those blocks fill. -/
theorem covered_iff10 (i : S1536x20480.Idx) :
    (∃ t : Fin cfg0.N, (cfg0.win 10).flush t = true ∧ i ∈ ((cfg0.win 10).blk t).view.set) ↔ 0 ≤ (i 0).val ∧ (i 0).val < 1536 ∧ 0 ≤ (i 1).val ∧ (i 1).val < 20480 := by
  constructor
  · rintro ⟨t, -, hi⟩
    rw [mem_blk10] at hi
    have b0 : win0_10.index t (0 : Fin 2) * 32 ≤ (i 0).val ∧ (i 0).val < win0_10.index t (0 : Fin 2) * 32 + 32 := hi 0
    have b1 : win0_10.index t (1 : Fin 2) * 20480 ≤ (i 1).val ∧ (i 1).val < win0_10.index t (1 : Fin 2) * 20480 + 20480 := hi 1
    obtain ⟨e0, e1, e2⟩ := idx_facts10 t
    omega
  · intro h
    have hi0 : (i 0).val < 1536 := (i 0).isLt
    have hi1 : (i 1).val < 20480 := (i 1).isLt
    obtain ⟨t, hft, ht⟩ := idx_onto10 ⟨(i 0).val / 32 - 0, by omega⟩ ⟨(i 1).val / 20480 - 0, by omega⟩
    have q0 : win0_10.index t (0 : Fin 2) = (i 0).val / 32 - 0 + 0 := congrFun ht 0
    have q1 : win0_10.index t (1 : Fin 2) = (i 1).val / 20480 - 0 + 0 := congrFun ht 1
    refine ⟨t, hft, ?_⟩
    rw [mem_blk10]
    intro a
    match a with
    | ⟨0, _⟩ => show win0_10.index t (0 : Fin 2) * 32 ≤ (i 0).val ∧ (i 0).val < win0_10.index t (0 : Fin 2) * 32 + 32; omega
    | ⟨1, _⟩ => show win0_10.index t (1 : Fin 2) * 20480 ≤ (i 1).val ∧ (i 1).val < win0_10.index t (1 : Fin 2) * 20480 + 20480; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 1536 := (i 0).isLt; have h1 : (i 1).val < 20480 := (i 1).isLt; omega))

/-! ## Output window 11 -/

/-- The block of the array that holds index `i`, numbered in the order the points write the blocks back (one per point),
    `i`'s place in it, and the point that writes it back. -/
abbrev run11Of (i : S1536x160.Idx) : ℕ := 1 * ((i 0).val / 32 - 0) + 1 * ((i 1).val / 160 - 0)
set_option backward.proofsInPublic true in
abbrev loc11Of (i : S1536x160.Idx) : S32x160.Idx := fun a => match a with
  | ⟨0, _⟩ => ⟨(i 0).val % 32, Nat.mod_lt _ (by decide)⟩
  | ⟨1, _⟩ => ⟨(i 1).val % 160, Nat.mod_lt _ (by decide)⟩
abbrev pt11Of (i : S1536x160.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v19_3) := fun i =>
  if h : pt11Of i < cfg0.N then
    (Pipeline.accAt (fun n h => stAt0 m c n h junk0) (stAt0 m c) 0 (pt11Of i) (by omega)).2.2.2.1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 2) ∧ win0_11.index t (0 : Fin 2) ≤ 47
    ∧ 0 ≤ win0_11.index t (1 : Fin 2) ∧ win0_11.index t (1 : Fin 2) ≤ 0
    ∧ 1 * (win0_11.index t (0 : Fin 2) - 0) + 1 * (win0_11.index t (1 : Fin 2) - 0) = t.val :=
  (by decide +kernel : ∀ t : Fin grid0.N, _)

/-- Every block of the box is SOME flushing point's: `onto11Pt`, the point that writes back the block at place `q` of the box. -/
abbrev onto11Pt (q0 : Fin 48) (q1 : Fin 1) : Fin grid0.N :=
  ⟨1 * q0.val + 1 * q1.val, lt_of_lt_of_eq (by omega) N_0.symm⟩
theorem idx_onto11 : ∀ (q0 : Fin 48) (q1 : Fin 1), ∃ t : Fin cfg0.N, (cfg0.win 11).flush t = true ∧ win0_11.index t = ![q0.val + 0, q1.val + 0] :=
  fun q0 q1 => ⟨onto11Pt q0 q1, (by decide +kernel : ∀ (q0 : Fin 48) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2⟩ := idx_facts11 t
  funext y
  have hy0 : (y 0).val < 32 := (y 0).isLt
  have hy1 : (y 1).val < 160 := (y 1).isLt
  have hb0 : (((cfg0.win 11).blk t).view.emb y 0).val = win0_11.index t (0 : Fin 2) * 32 + 1 * (y 0).val := rfl
  have hb1 : (((cfg0.win 11).blk t).view.emb y 1).val = win0_11.index t (1 : Fin 2) * 160 + 1 * (y 1).val := rfl
  have hr : run11Of (((cfg0.win 11).blk t).view.emb y) = t.val := by
    show 1 * ((((cfg0.win 11).blk t).view.emb y 0).val / 32 - 0) + 1 * ((((cfg0.win 11).blk t).view.emb y 1).val / 160 - 0) = _
    rw [hb0, hb1]
    rw [show (win0_11.index t (0 : Fin 2) * 32 + 1 * (y 0).val) / 32 = win0_11.index t (0 : Fin 2) from by omega]; rw [show (win0_11.index t (1 : Fin 2) * 160 + 1 * (y 1).val) / 160 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 32 = (y 0).val; rw [hb0]; omega
    | ⟨1, _⟩ => show (((cfg0.win 11).blk t).view.emb y 1).val % 160 = (y 1).val; rw [hb1]; omega
  have hp : pt11Of (((cfg0.win 11).blk t).view.emb y) = t.val := by
    exact hr
  show (Pipeline.accAt (fun n h => stAt0 m c n h junk0) (stAt0 m c) 0 t.val _).2.2.2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S1536x160.Idx) :
    i ∈ ((cfg0.win 11).blk t).view.set ↔ ∀ a : Fin 2, win0_11.index t a * S32x160.size a ≤ (i a).val ∧ (i a).val < win0_11.index t a * S32x160.size a + S32x160.size a := by
  show i ∈ ((View.whole main_v19_3).slice (win0_11.rect t)).set ↔ _
  rw [View.set_slice_whole, Rect.mem_set_unit]
  exact Iff.rfl

/-- THE COVERED INDICES: in some flushing point's block iff inside the box those blocks fill. -/
theorem covered_iff11 (i : S1536x160.Idx) :
    (∃ t : Fin cfg0.N, (cfg0.win 11).flush t = true ∧ i ∈ ((cfg0.win 11).blk t).view.set) ↔ 0 ≤ (i 0).val ∧ (i 0).val < 1536 ∧ 0 ≤ (i 1).val ∧ (i 1).val < 160 := by
  constructor
  · rintro ⟨t, -, hi⟩
    rw [mem_blk11] at hi
    have b0 : win0_11.index t (0 : Fin 2) * 32 ≤ (i 0).val ∧ (i 0).val < win0_11.index t (0 : Fin 2) * 32 + 32 := hi 0
    have b1 : win0_11.index t (1 : Fin 2) * 160 ≤ (i 1).val ∧ (i 1).val < win0_11.index t (1 : Fin 2) * 160 + 160 := hi 1
    obtain ⟨e0, e1, e2⟩ := idx_facts11 t
    omega
  · intro h
    have hi0 : (i 0).val < 1536 := (i 0).isLt
    have hi1 : (i 1).val < 160 := (i 1).isLt
    obtain ⟨t, hft, ht⟩ := idx_onto11 ⟨(i 0).val / 32 - 0, by omega⟩ ⟨(i 1).val / 160 - 0, by omega⟩
    have q0 : win0_11.index t (0 : Fin 2) = (i 0).val / 32 - 0 + 0 := congrFun ht 0
    have q1 : win0_11.index t (1 : Fin 2) = (i 1).val / 160 - 0 + 0 := congrFun ht 1
    refine ⟨t, hft, ?_⟩
    rw [mem_blk11]
    intro a
    match a with
    | ⟨0, _⟩ => show win0_11.index t (0 : Fin 2) * 32 ≤ (i 0).val ∧ (i 0).val < win0_11.index t (0 : Fin 2) * 32 + 32; omega
    | ⟨1, _⟩ => show win0_11.index t (1 : Fin 2) * 160 ≤ (i 1).val ∧ (i 1).val < win0_11.index t (1 : Fin 2) * 160 + 160; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 1536 := (i 0).isLt; have h1 : (i 1).val < 160 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v19_0) = G8 m c
      ∧ r.2.mem ((c : Thread nD τ).loc main_v19_1) = G9 m c
      ∧ r.2.mem ((c : Thread nD τ).loc main_v19_2) = G10 m c
      ∧ r.2.mem ((c : Thread nD τ).loc main_v19_3) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.KernelIdealHand.Acc.lean ====
/- What each grid point leaves behind, as functions of the blocks it reads: the accumulators by recursion on the point,
   the results of the last point, and each point's codes and scales. -/
module

public import proofs.«01_k».proof.Proof.KernelIdealHand.Value

@[expose] public section

set_option maxRecDepth 16384

noncomputable section

namespace Cert.KernelIdeal.Acc

open Cert.KernelIdeal Cert.KernelIdeal.Gen Cert.KernelIdeal.Body Idealize.ShloMosaic Idealize.ShloMosaic.TcCoe Idealize.SL.Sem
open Facts Facts₀ K0.Facts₀ Shapes1.Facts₀
open Cert.Rules

variable {F : FTy → Type} [FloatOps F] [Named F]

/-! ## The three cases -/

section
variable (c : Dev nD) (i : grid0.Coords)
  (arg1 : Memref sig .tc .vmem S32x20480 .fp8e4m3) (harg1 : arg1.IsWhole) (arg2 : Memref sig .tc .vmem S32x160 .f32) (harg2 : arg2.IsWhole)
  (arg3 : Memref sig .tc .vmem S32x20480 .fp8e5m2) (harg3 : arg3.IsWhole) (arg4 : Memref sig .tc .vmem S32x1 .f32) (harg4 : arg4.IsWhole)
  (arg5 : Memref sig .tc .vmem S32x1 .f32) (harg5 : arg5.IsWhole) (arg6 : Memref sig .tc .vmem S1x20480 .f32) (harg6 : arg6.IsWhole)
  (arg7 : Memref sig .tc .vmem S1x20480 .f32) (harg7 : arg7.IsWhole) (arg8 : Memref sig .tc .vmem S1x20480 .f32) (harg8 : arg8.IsWhole)
  (arg9 : Memref sig .tc .vmem S1x20480 .f32) (harg9 : arg9.IsWhole) (arg10 : Memref sig .tc .vmem S1x20480 .f32) (harg10 : arg10.IsWhole)
  (arg11 : Memref sig .tc .vmem S32x20480 .fp8e5m2) (harg11 : arg11.IsWhole) (arg12 : Memref sig .tc .vmem S32x160 .f32) (harg12 : arg12.IsWhole)
  (arg13 : Memref sig .tc .vmem S32x20480 .f32) (harg13 : arg13.IsWhole) (arg14 : Memref sig .tc .vmem S32x160 .f32) (harg14 : arg14.IsWhole)
  (arg15 : Memref sig .tc .vmem S8x20480 .f32) (harg15 : arg15.IsWhole) (arg16 : Memref sig .tc .vmem S8x20480 .f32) (harg16 : arg16.IsWhole)

/-- Case A, scratch 2. -/
theorem sout0_A_2_eq (hc0 : cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) :
    sout0_A_2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = newA x0 x1 x2 x3 x6 x7 zero8 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  rw [View.canon_unit_zero off2]
  exact ld_8 _

/-- Case A, scratch 3. -/
theorem sout0_A_3_eq (hc0 : cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) :
    sout0_A_3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = newB x2 x3 zero8 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  rw [View.canon_unit_zero off2]
  exact ld_8 _

/-- Case B, scratch 2. -/
theorem sout0_B_2_eq (hc0 : ¬cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    sout0_B_2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = newA x0 x1 x2 x3 x6 x7 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_B
  dsimp only
  rw [View.canon_unit_zero off2]
  exact ld_8 _

/-- Case B, scratch 3. -/
theorem sout0_B_3_eq (hc0 : ¬cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    sout0_B_3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = newB x2 x3 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_B
  dsimp only
  rw [View.canon_unit_zero off2]
  exact ld_8 _

/-- Case C, scratch 2. -/
theorem sout0_C_2_eq (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    sout0_C_2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = newA x0 x1 x2 x3 x6 x7 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_C
  dsimp only
  rw [View.canon_unit_zero off2]
  exact ld_8 _

/-- Case C, scratch 3. -/
theorem sout0_C_3_eq (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    sout0_C_3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = newB x2 x3 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_C
  dsimp only
  rw [View.canon_unit_zero off2]
  exact ld_8 _

/-- Case C, output 8. -/
theorem out0_C_8_eq (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    out0_C_8 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = last (newA x0 x1 x2 x3 x6 x7 xs2) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_C
  dsimp only
  rw [View.canon_unit_zero off2]
  exact ld_1 _

/-- Case C, output 9. -/
theorem out0_C_9_eq (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    out0_C_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = last (newB x2 x3 xs3) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_C
  dsimp only
  rw [View.canon_unit_zero off2]
  exact ld_1 _

/-- Case A, output 10. -/
theorem out0_A_10_eq (hc0 : cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) :
    out0_A_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = coArr x0 x1 x2 x3 x4 x5 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  rw [View.canon_unit_zero off2]
  exact emb_whole (s := S32x20480) off2 _ _

/-- Case A, output 11. -/
theorem out0_A_11_eq (hc0 : cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) :
    out0_A_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = scArr x0 x1 x2 x3 x4 x5 x6 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  rw [View.canon_unit_zero off2]
  exact ld_160 _

/-- Case B, output 10. -/
theorem out0_B_10_eq (hc0 : ¬cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    out0_B_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = coArr x0 x1 x2 x3 x4 x5 x6 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_B
  dsimp only
  rw [View.canon_unit_zero off2]
  exact emb_whole (s := S32x20480) off2 _ _

/-- Case B, output 11. -/
theorem out0_B_11_eq (hc0 : ¬cond0_0 i) (hc1 : ¬cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    out0_B_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = scArr x0 x1 x2 x3 x4 x5 x6 x7 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_B
  dsimp only
  rw [View.canon_unit_zero off2]
  exact ld_160 _

/-- Case C, output 10. -/
theorem out0_C_10_eq (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    out0_C_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = coArr x0 x1 x2 x3 x4 x5 x6 x7 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_C
  dsimp only
  rw [View.canon_unit_zero off2]
  exact emb_whole (s := S32x20480) off2 _ _

/-- Case C, output 11. -/
theorem out0_C_11_eq (hc0 : ¬cond0_0 i) (hc1 : cond0_1 i)
    (x0 : Vec F S32x20480 .fp8e4m3) (x1 : Vec F S32x160 .f32) (x2 : Vec F S32x20480 .fp8e5m2) (x3 : Vec F S32x1 .f32) (x4 : Vec F S32x1 .f32) (x5 : Vec F S1x20480 .f32) (x6 : Vec F S1x20480 .f32) (x7 : Vec F S1x20480 .f32) (xs2 : Vec F S8x20480 .f32) (xs3 : Vec F S8x20480 .f32) :
    out0_C_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3 = scArr x0 x1 x2 x3 x4 x5 x6 x7 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs2 xs3)]
  unfold kernelRun0_C
  dsimp only
  rw [View.canon_unit_zero off2]
  exact ld_160 _

end

/-! ## Point by point -/

variable (m : (ℓ : Loc nD τ sig) → Buf (Elt F) ℓ)

theorem N48 : cfg0.N = 48 := N_0

/-- The accumulator of `dy · x̂` after point `n`. -/
def accA (c : Dev nD) : (n : ℕ) → n < cfg0.N → Vec F S8x20480 .f32
  | 0, h => newA (iblk m c 0 ⟨0, h⟩) (iblk m c 1 ⟨0, h⟩) (iblk m c 2 ⟨0, h⟩) (iblk m c 3 ⟨0, h⟩) (iblk m c 6 ⟨0, h⟩) (iblk m c 7 ⟨0, h⟩) zero8
  | n + 1, h => newA (iblk m c 0 ⟨n + 1, h⟩) (iblk m c 1 ⟨n + 1, h⟩) (iblk m c 2 ⟨n + 1, h⟩) (iblk m c 3 ⟨n + 1, h⟩) (iblk m c 6 ⟨n + 1, h⟩) (iblk m c 7 ⟨n + 1, h⟩)
      (accA c n (Nat.lt_of_succ_lt h))

/-- The accumulator of `dy` after point `n`. -/
def accB (c : Dev nD) : (n : ℕ) → n < cfg0.N → Vec F S8x20480 .f32
  | 0, h => newB (iblk m c 2 ⟨0, h⟩) (iblk m c 3 ⟨0, h⟩) zero8
  | n + 1, h => newB (iblk m c 2 ⟨n + 1, h⟩) (iblk m c 3 ⟨n + 1, h⟩) (accB c n (Nat.lt_of_succ_lt h))

theorem acc_eq (c : Dev nD) : ∀ (n : ℕ) (h : n < cfg0.N),
    (outsAt0 m c n h).2.2.2.2.1 = accA m c n h ∧ (outsAt0 m c n h).2.2.2.2.2 = accB m c n h
  | 0, h => by
    rw [outsAt0_A m c ⟨0, h⟩ rfl (by dsimp only; omega)]
    dsimp only
    exact ⟨sout0_A_2_eq .., sout0_A_3_eq ..⟩
  | n + 1, h => by
    have hN : cfg0.N = 48 := N_0
    have h0 : ¬(⟨n + 1, h⟩ : Fin cfg0.N).val % 48 = 0 := by dsimp only; omega
    obtain ⟨e2, e3⟩ := acc_eq c n (Nat.lt_of_succ_lt h)
    by_cases h1 : (⟨n + 1, h⟩ : Fin cfg0.N).val % 48 = 47
    · rw [outsAt0_C m c ⟨n + 1, h⟩ h0 h1]
      dsimp only
      constructor
      · refine (sout0_C_2_eq ..).trans ?_
        show newA _ _ _ _ _ _ (outsAt0 m c n _).2.2.2.2.1 = newA _ _ _ _ _ _ (accA m c n _)
        rw [e2]
      · refine (sout0_C_3_eq ..).trans ?_
        show newB _ _ (outsAt0 m c n _).2.2.2.2.2 = newB _ _ (accB m c n _)
        rw [e3]
    · rw [outsAt0_B m c ⟨n + 1, h⟩ h0 h1]
      dsimp only
      constructor
      · refine (sout0_B_2_eq ..).trans ?_
        show newA _ _ _ _ _ _ (outsAt0 m c n _).2.2.2.2.1 = newA _ _ _ _ _ _ (accA m c n _)
        rw [e2]
      · refine (sout0_B_3_eq ..).trans ?_
        show newB _ _ (outsAt0 m c n _).2.2.2.2.2 = newB _ _ (accB m c n _)
        rw [e3]

theorem lt47 : 47 < cfg0.N := lt_of_lt_of_eq (by decide) N_0.symm

/-- The first result. -/
theorem G8_acc (c : Dev nD) : Value.G8 m c = last (accA m c 47 lt47) := by
  rw [Value.G8_last, ← Value.outsAt0_sweep m c 47 lt47, outsAt0_C m c ⟨47, lt47⟩ (by decide) (by decide)]
  dsimp only
  refine (out0_C_8_eq ..).trans ?_
  show last (newA _ _ _ _ _ _ (outsAt0 m c 46 _).2.2.2.2.1) = last (newA _ _ _ _ _ _ (accA m c 46 _))
  rw [(acc_eq m c 46 _).1]

/-- The second result. -/
theorem G9_acc (c : Dev nD) : Value.G9 m c = last (accB m c 47 lt47) := by
  rw [Value.G9_last, ← Value.outsAt0_sweep m c 47 lt47, outsAt0_C m c ⟨47, lt47⟩ (by decide) (by decide)]
  dsimp only
  refine (out0_C_9_eq ..).trans ?_
  show last (newB _ _ (outsAt0 m c 46 _).2.2.2.2.2) = last (newB _ _ (accB m c 46 _))
  rw [(acc_eq m c 46 _).2]

/-- Point `t`'s codes. -/
theorem codes_eq (c : Dev nD) (t : Fin cfg0.N) : (outsAt0 m c t.val t.isLt).2.2.1
    = coArr (iblk m c 0 t) (iblk m c 1 t) (iblk m c 2 t) (iblk m c 3 t) (iblk m c 4 t) (iblk m c 5 t) (iblk m c 6 t) (iblk m c 7 t) := by
  by_cases h0 : t.val % 48 = 0
  · rw [outsAt0_A m c t h0 (by omega)]; dsimp only; exact out0_A_10_eq ..
  · by_cases h1 : t.val % 48 = 47
    · rw [outsAt0_C m c t h0 h1]; dsimp only; exact out0_C_10_eq ..
    · rw [outsAt0_B m c t h0 h1]; dsimp only; exact out0_B_10_eq ..

/-- Point `t`'s scales. -/
theorem scales_eq (c : Dev nD) (t : Fin cfg0.N) : (outsAt0 m c t.val t.isLt).2.2.2.1
    = scArr (iblk m c 0 t) (iblk m c 1 t) (iblk m c 2 t) (iblk m c 3 t) (iblk m c 4 t) (iblk m c 5 t) (iblk m c 6 t) (iblk m c 7 t) := by
  by_cases h0 : t.val % 48 = 0
  · rw [outsAt0_A m c t h0 (by omega)]; dsimp only; exact out0_A_11_eq ..
  · by_cases h1 : t.val % 48 = 47
    · rw [outsAt0_C m c t h0 h1]; dsimp only; exact out0_C_11_eq ..
    · rw [outsAt0_B m c t h0 h1]; dsimp only; exact out0_B_11_eq ..

end Cert.KernelIdeal.Acc

end
-- ==== Proof.KernelIdealHand.Entry.lean ====
/- What the kernel call finds in its windows: the arguments laid out by rows, and the reciprocal of the clamped gain. -/
module

public import proofs.«01_k».proof.Proof.KernelIdealHand.Frame
public import Idealize.ShloMosaic.Lib.StableHlo.ReadAt
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Entry

open Cert.KernelIdeal Cert.KernelIdeal.Gen Idealize.ShloMosaic Idealize.ShloMosaic.TcCoe Idealize.SL.Sem
open Facts

variable {F : FTy → Type} [FloatOps F] [Named F]
variable (m : (ℓ : Loc nD τ sig) → Buf (Elt F) ℓ)

/-- Token `32 t + r` as batch and position. -/
abbrev tok (t : Fin cfg0.N) (r : Fin 32) : ℕ := 32 * t.val + r.val
theorem tok_lt (t : Fin cfg0.N) (r : Fin 32) : tok t r / 512 < 3 := by
  have := t.isLt; have := r.isLt; have : cfg0.N = 48 := N_0
  unfold tok; omega
abbrev tb (t : Fin cfg0.N) (r : Fin 32) : Fin 3 := ⟨tok t r / 512, tok_lt t r⟩
abbrev ts (t : Fin cfg0.N) (r : Fin 32) : Fin 512 := ⟨tok t r % 512, Nat.mod_lt _ (by decide)⟩

theorem V_v9 (c : Dev nD) : V m c main_v9 = shapeCast S1536x20480 (bitcastToFloat .fp8e4m3 (m ((c : Thread nD τ).loc main_arg0))) shapeCasts_S3x512x20480_S1536x20480 := by
  unfold V
  after_reads_simp
  rfl

theorem V_v10 (c : Dev nD) : V m c main_v10 = shapeCast S1536x160 (m ((c : Thread nD τ).loc main_arg1)) shapeCasts_S3x512x160_S1536x160 := by
  unfold V
  after_reads_simp
  rfl

theorem V_v11 (c : Dev nD) : V m c main_v11 = shapeCast S1536x20480 (bitcastToFloat .fp8e5m2 (m ((c : Thread nD τ).loc main_arg2))) shapeCasts_S3x512x20480_S1536x20480 := by
  unfold V
  after_reads_simp
  rfl

theorem V_v12 (c : Dev nD) : V m c main_v12 = shapeCast S1536x1 (m ((c : Thread nD τ).loc main_arg3)) shapeCasts_S3x512_S1536x1 := by
  unfold V
  after_reads_simp
  rfl

theorem V_v13 (c : Dev nD) : V m c main_v13 = shapeCast S1536x1 (m ((c : Thread nD τ).loc main_arg4)) shapeCasts_S3x512_S1536x1 := by
  unfold V
  after_reads_simp
  rfl

theorem V_v14 (c : Dev nD) : V m c main_v14 = shapeCast S1x20480 (m ((c : Thread nD τ).loc main_arg5)) shapeCasts_S20480_S1x20480 := by
  unfold V
  after_reads_simp
  rfl

theorem V_v18 (c : Dev nD) : V m c main_v18 = shapeCast S1x20480 (m ((c : Thread nD τ).loc main_arg6)) shapeCasts_S20480_S1x20480 := by
  unfold V
  after_reads_simp
  rfl

theorem V_v17 (c : Dev nD) (x : Vec F S20480 .f32) (hx : m ((c : Thread nD τ).loc main_arg5) = x) : V m c main_v17 = shapeCast S1x20480 (Host.divf (broadcastInDim S20480 ![] bcast_S_S20480 (constant S_ .f32 0x3F800000#32))
    (select (cmpf .oge x (broadcastInDim S20480 ![] bcast_S_S20480 (constant S_ .f32 0x00000000#32)))
      (maximumf x (broadcastInDim S20480 ![] bcast_S_S20480 (constant S_ .f32 0x3C23D70A#32)))
      (minimumf x (broadcastInDim S20480 ![] bcast_S_S20480 (constant S_ .f32 0xBC23D70A#32))))) shapeCasts_S20480_S1x20480 := by
  subst hx
  unfold V
  after_reads_simp
  rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] :=
  (by decide +kernel : ∀ t : Fin grid0.N, _)

/-! ## Rows out of tokens -/

section
variable {α : Type}
theorem cast_rows (x : S3x512x20480.Idx → α) (h : S3x512x20480.ShapeCasts S1536x20480) (r : Fin 1536) (j : Fin 20480) :
    shapeCast S1536x20480 x h (ix2 r j) = x (ix3 (⟨r.val / 512, by omega⟩ : Fin 3) (⟨r.val % 512, by omega⟩ : Fin 512) j) := by
  pointwise
theorem cast_rowsN (x : S3x512x160.Idx → α) (h : S3x512x160.ShapeCasts S1536x160) (r : Fin 1536) (j : Fin 160) :
    shapeCast S1536x160 x h (ix2 r j) = x (ix3 (⟨r.val / 512, by omega⟩ : Fin 3) (⟨r.val % 512, by omega⟩ : Fin 512) j) := by
  pointwise
theorem cast_rows1 (x : S3x512.Idx → α) (h : S3x512.ShapeCasts S1536x1) (r : Fin 1536) :
    shapeCast S1536x1 x h (ix2 r (0 : Fin 1)) = x (ix2 (⟨r.val / 512, by omega⟩ : Fin 3) (⟨r.val % 512, by omega⟩ : Fin 512)) := by
  pointwise
theorem cast_row (x : S20480.Idx → α) (h : S20480.ShapeCasts S1x20480) (j : Fin 20480) :
    shapeCast S1x20480 x h (ix2 (0 : Fin 1) j) = x (ix1 j) := by
  pointwise
end

/-! ## The windows' blocks -/

theorem tok_lt' (t : Fin cfg0.N) (r : Fin 32) : tok t r < 1536 := by
  have := t.isLt; have := r.isLt; have : cfg0.N = 48 := N_0
  unfold tok; omega

theorem iblk0 (c : Dev nD) (t : Fin cfg0.N) (r : Fin 32) (j : Fin 20480) :
    iblk m c 0 t (ix2 r j) = bitcastToFloat .fp8e4m3 (m ((c : Thread nD τ).loc main_arg0)) (ix3 (tb t r) (ts t r) j) := by
  have e : ((cfg0.win 0).blk t).view.emb (ix2 r j) = (ix2 (⟨tok t r, tok_lt' t r⟩ : Fin 1536) j : S1536x20480.Idx) := by
    blk_ext [idx t]
    show t.val * 32 + r.val = 32 * t.val + r.val
    omega
  show V m c main_v9 (((cfg0.win 0).blk t).view.emb (ix2 r j)) = _
  rw [V_v9, e]
  exact cast_rows _ _ ⟨tok t r, tok_lt' t r⟩ j

theorem iblk1 (c : Dev nD) (t : Fin cfg0.N) (r : Fin 32) (j : Fin 160) :
    iblk m c 1 t (ix2 r j) = m ((c : Thread nD τ).loc main_arg1) (ix3 (tb t r) (ts t r) j) := by
  have e : ((cfg0.win 1).blk t).view.emb (ix2 r j) = (ix2 (⟨tok t r, tok_lt' t r⟩ : Fin 1536) j : S1536x160.Idx) := by
    blk_ext [idx t]
    show t.val * 32 + r.val = 32 * t.val + r.val
    omega
  show V m c main_v10 (((cfg0.win 1).blk t).view.emb (ix2 r j)) = _
  rw [V_v10, e]
  exact cast_rowsN _ _ ⟨tok t r, tok_lt' t r⟩ j

theorem iblk2 (c : Dev nD) (t : Fin cfg0.N) (r : Fin 32) (j : Fin 20480) :
    iblk m c 2 t (ix2 r j) = bitcastToFloat .fp8e5m2 (m ((c : Thread nD τ).loc main_arg2)) (ix3 (tb t r) (ts t r) j) := by
  have e : ((cfg0.win 2).blk t).view.emb (ix2 r j) = (ix2 (⟨tok t r, tok_lt' t r⟩ : Fin 1536) j : S1536x20480.Idx) := by
    blk_ext [idx t]
    show t.val * 32 + r.val = 32 * t.val + r.val
    omega
  show V m c main_v11 (((cfg0.win 2).blk t).view.emb (ix2 r j)) = _
  rw [V_v11, e]
  exact cast_rows _ _ ⟨tok t r, tok_lt' t r⟩ j

theorem iblk3 (c : Dev nD) (t : Fin cfg0.N) (r : Fin 32) :
    iblk m c 3 t (ix2 r (0 : Fin 1)) = m ((c : Thread nD τ).loc main_arg3) (ix2 (tb t r) (ts t r)) := by
  have e : ((cfg0.win 3).blk t).view.emb (ix2 r (0 : Fin 1)) = (ix2 (⟨tok t r, tok_lt' t r⟩ : Fin 1536) (0 : Fin 1) : S1536x1.Idx) := by
    blk_ext [idx t]
    show t.val * 32 + r.val = 32 * t.val + r.val
    omega
  show V m c main_v12 (((cfg0.win 3).blk t).view.emb (ix2 r (0 : Fin 1))) = _
  rw [V_v12, e]
  exact cast_rows1 _ _ ⟨tok t r, tok_lt' t r⟩

theorem iblk4 (c : Dev nD) (t : Fin cfg0.N) (r : Fin 32) :
    iblk m c 4 t (ix2 r (0 : Fin 1)) = m ((c : Thread nD τ).loc main_arg4) (ix2 (tb t r) (ts t r)) := by
  have e : ((cfg0.win 4).blk t).view.emb (ix2 r (0 : Fin 1)) = (ix2 (⟨tok t r, tok_lt' t r⟩ : Fin 1536) (0 : Fin 1) : S1536x1.Idx) := by
    blk_ext [idx t]
    show t.val * 32 + r.val = 32 * t.val + r.val
    omega
  show V m c main_v13 (((cfg0.win 4).blk t).view.emb (ix2 r (0 : Fin 1))) = _
  rw [V_v13, e]
  exact cast_rows1 _ _ ⟨tok t r, tok_lt' t r⟩

theorem iblk5 (c : Dev nD) (t : Fin cfg0.N) (j : Fin 20480) :
    iblk m c 5 t (ix2 (0 : Fin 1) j) = m ((c : Thread nD τ).loc main_arg5) (ix1 j) := by
  have e : ((cfg0.win 5).blk t).view.emb (ix2 (0 : Fin 1) j) = (ix2 (0 : Fin 1) j : S1x20480.Idx) := by
    blk_ext [idx t]
  show V m c main_v14 (((cfg0.win 5).blk t).view.emb (ix2 (0 : Fin 1) j)) = _
  rw [V_v14, e]
  exact cast_row _ _ j

theorem iblk7 (c : Dev nD) (t : Fin cfg0.N) (j : Fin 20480) :
    iblk m c 7 t (ix2 (0 : Fin 1) j) = m ((c : Thread nD τ).loc main_arg6) (ix1 j) := by
  have e : ((cfg0.win 7).blk t).view.emb (ix2 (0 : Fin 1) j) = (ix2 (0 : Fin 1) j : S1x20480.Idx) := by
    blk_ext [idx t]
  show V m c main_v18 (((cfg0.win 7).blk t).view.emb (ix2 (0 : Fin 1) j)) = _
  rw [V_v18, e]
  exact cast_row _ _ j

/-- The gain, kept away from zero. -/
def gc (x : Vec F S20480 .f32) : Vec F S20480 .f32 :=
  select (cmpf .oge x (broadcastInDim S20480 ![] bcast_S_S20480 (constant S_ .f32 0x00000000#32)))
    (maximumf x (broadcastInDim S20480 ![] bcast_S_S20480 (constant S_ .f32 0x3C23D70A#32)))
    (minimumf x (broadcastInDim S20480 ![] bcast_S_S20480 (constant S_ .f32 0xBC23D70A#32)))

theorem iblk6 (c : Dev nD) (t : Fin cfg0.N) (j : Fin 20480) (x : Vec F S20480 .f32) (hx : m ((c : Thread nD τ).loc main_arg5) = x) :
    iblk m c 6 t (ix2 (0 : Fin 1) j) = Host.divf (broadcastInDim S20480 ![] bcast_S_S20480 (constant S_ .f32 0x3F800000#32)) (gc x) (ix1 j) := by
  have e : ((cfg0.win 6).blk t).view.emb (ix2 (0 : Fin 1) j) = (ix2 (0 : Fin 1) j : S1x20480.Idx) := by
    blk_ext [idx t]
  show V m c main_v17 (((cfg0.win 6).blk t).view.emb (ix2 (0 : Fin 1) j)) = _
  rw [V_v17 m c x hx, e]
  exact cast_row _ _ j

end Cert.KernelIdeal.Entry

end
-- ==== Proof.KernelIdealHand.Sums.lean ====
/- The two accumulators over the extended reals, element by element: each of the eight rows holds the sum of a term over
   every eighth token. -/
module

public import proofs.«01_k».proof.Proof.KernelIdealHand.Acc
public import proofs.«01_k».proof.Proof.KernelIdealHand.Entry
public import Idealize.ShloMosaic.PureOps.Ideal
public import Idealize.ShloMosaic.Lib.Pointwise

@[expose] public section

set_option maxRecDepth 16384

noncomputable section

namespace Cert.KernelIdeal.Sums

open Cert.KernelIdeal Cert.KernelIdeal.Gen Idealize.ShloMosaic Idealize.ShloMosaic.TcCoe Idealize.SL.Sem
open Cert.KernelIdeal.Body Cert.KernelIdeal.Acc Cert.KernelIdeal.Entry
open Facts

/-! ## One block, at an index -/

/-- Row `8 k + r` of the 32. -/
abbrev row (k : Fin 4) (r : Fin 8) : Fin 32 := ⟨8 * k.val + r.val, by omega⟩

theorem emb_A (r : Fin 8) (j : Fin 20480) (hb : j.val / 128 < 160) :
    (rA (j.val / 128) hb).emb (ix2 r (⟨j.val % 128, Nat.mod_lt _ (by decide)⟩ : Fin 128)) = (ix2 r j : S8x20480.Idx) := by
  funext a
  apply Fin.ext
  match a with
  | ⟨0, _⟩ => show 0 + 1 * r.val = r.val; omega
  | ⟨1, _⟩ => show 128 * (j.val / 128) + 1 * (j.val % 128) = j.val; omega

theorem emb_C (r : Fin 32) (j : Fin 20480) (hb : j.val / 128 < 160) :
    (rC (j.val / 128) hb).emb (ix2 r (⟨j.val % 128, Nat.mod_lt _ (by decide)⟩ : Fin 128)) = (ix2 r j : S32x20480.Idx) := by
  funext a
  apply Fin.ext
  match a with
  | ⟨0, _⟩ => show 0 + 1 * r.val = r.val; omega
  | ⟨1, _⟩ => show 128 * (j.val / 128) + 1 * (j.val % 128) = j.val; omega

theorem emb_R (j : Fin 20480) (hb : j.val / 128 < 160) :
    (rR (j.val / 128) hb).emb (ix2 (0 : Fin 1) (⟨j.val % 128, Nat.mod_lt _ (by decide)⟩ : Fin 128)) = (ix2 (0 : Fin 1) j : S1x20480.Idx) := by
  funext a
  apply Fin.ext
  match a with
  | ⟨0, _⟩ => rfl
  | ⟨1, _⟩ => show 128 * (j.val / 128) + 1 * (j.val % 128) = j.val; omega

/-- 32 rows folded to 8: row `r` is the sum of rows `r`, `8 + r`, `16 + r`, `24 + r`. -/
theorem fold_at (x : FVec Ideal S32x128 .f32) (r : Fin 8) (l : Fin 128) :
    (fold x (ix2 r l) : EReal) = ∑ k : Fin 4, (x (ix2 (row k r) l) : EReal) := by
  unfold fold
  rw [Fin.sum_univ_four, show row 0 r = (⟨r.val, by omega⟩ : Fin 32) from Fin.ext (by simp)]
  pointwise
  rfl

theorem tokv_at (x : FVec Ideal S32x1 .f32) (r : Fin 32) (l : Fin 128) : tokv x (ix2 r l) = x (ix2 r (0 : Fin 1)) := by
  unfold tokv
  pointwise

theorem v6_at (x3 : Vec Ideal S32x1 .f32) (r : Fin 32) (l : Fin 128) : v6 x3 (ix2 r l) = x3 (ix2 r (0 : Fin 1)) := by
  unfold v6
  rw [tokv_at, shapeCast_self, shapeCast_self]

theorem qv_at (x : Vec Ideal S32x128 .fp8e5m2) (r : Fin 32) (l : Fin 128) : (qv x (ix2 r l) : EReal) = x (ix2 r l) := by
  unfold qv
  rw [shapeCast_self]
  rfl

theorem rowv_at (x : Vec Ideal S1x128 .f32) (r : Fin 32) (l : Fin 128) : rowv x (ix2 r l) = x (ix2 (0 : Fin 1) l) := by
  unfold rowv
  rw [shapeCast_self]
  pointwise

theorem colv_at (x : FVec Ideal S32x160 .f32) (b : ℕ) (hb : b < 160) (r : Fin 32) (l : Fin 128) : colv x b hb (ix2 r l) = x (ix2 r (⟨b, hb⟩ : Fin 160)) := by
  unfold colv
  pointwise

theorem xh_at (v : FVec Ideal S32x160 .f32) (b : ℕ) (hb : b < 160) (y : Vec Ideal S32x128 .fp8e4m3) (be a : Vec Ideal S1x128 .f32) (r : Fin 32) (l : Fin 128) :
    (xh v b hb y be a (ix2 r l) : EReal) = ((y (ix2 r l) : EReal) * v (ix2 r (⟨b, hb⟩ : Fin 160)) - be (ix2 (0 : Fin 1) l)) * a (ix2 (0 : Fin 1) l) := by
  unfold xh
  show ((shapeCast S32x128 y shapeCasts_S32x128_S32x128 (ix2 r l) : EReal) * colv v b hb (ix2 r l) - rowv be (ix2 r l)) * rowv a (ix2 r l) = _
  rw [shapeCast_self, colv_at, rowv_at, rowv_at]

/-! ## The accumulators' step -/

variable (x0 : Vec Ideal S32x20480 .fp8e4m3) (x1 : Vec Ideal S32x160 .f32) (x2 : Vec Ideal S32x20480 .fp8e5m2) (x3 : Vec Ideal S32x1 .f32)
  (x6 x7 : Vec Ideal S1x20480 .f32)

/-- Column `j`'s block. -/
abbrev blk (j : Fin 20480) : Fin 160 := ⟨j.val / 128, by omega⟩

/-- A gradient. -/
def dyB (r : Fin 32) (j : Fin 20480) : EReal := (x2 (ix2 r j) : EReal) * x3 (ix2 r (0 : Fin 1))
/-- A normalised activation. -/
def xhB (r : Fin 32) (j : Fin 20480) : EReal :=
  ((x0 (ix2 r j) : EReal) * x1 (ix2 r (blk j)) - x7 (ix2 (0 : Fin 1) j)) * x6 (ix2 (0 : Fin 1) j)

theorem newB_at (old : Vec Ideal S8x20480 .f32) (r : Fin 8) (j : Fin 20480) :
    (newB x2 x3 old (ix2 r j) : EReal) = old (ix2 r j) + ∑ k : Fin 4, dyB x2 x3 (row k r) j := by
  have hb : j.val / 128 < 160 := by omega
  conv_lhs => rw [← emb_A r j hb]
  rw [newB_emb, shapeCast_self]
  show (old ((rA (j.val / 128) hb).emb _) : EReal) + (fold (F := Ideal) _ (ix2 r _) : EReal) = _
  rw [emb_A, fold_at]
  refine congrArg _ (Finset.sum_congr rfl fun k _ => ?_)
  show (qv (bC x2 (j.val / 128) hb) (ix2 (row k r) _) : EReal) * v6 x3 (ix2 (row k r) _) = _
  rw [qv_at, v6_at]
  show (x2 ((rC (j.val / 128) hb).emb _) : EReal) * _ = _
  rw [emb_C]
  rfl

theorem xhb_at (r : Fin 32) (j : Fin 20480) (hb : j.val / 128 < 160) :
    (xhb x0 x1 x6 x7 (j.val / 128) hb (ix2 r (⟨j.val % 128, Nat.mod_lt _ (by decide)⟩ : Fin 128)) : EReal) = xhB x0 x1 x6 x7 r j := by
  unfold xhb v8
  rw [xh_at, shapeCast_self]
  show ((x0 ((rC (j.val / 128) hb).emb _) : EReal) * _ - x7 ((rR (j.val / 128) hb).emb _)) * x6 ((rR (j.val / 128) hb).emb _) = _
  rw [emb_C, emb_R]
  rfl

theorem newA_at (old : Vec Ideal S8x20480 .f32) (r : Fin 8) (j : Fin 20480) :
    (newA x0 x1 x2 x3 x6 x7 old (ix2 r j) : EReal) = old (ix2 r j) + ∑ k : Fin 4, dyB x2 x3 (row k r) j * xhB x0 x1 x6 x7 (row k r) j := by
  have hb : j.val / 128 < 160 := by omega
  conv_lhs => rw [← emb_A r j hb]
  rw [newA_emb, shapeCast_self]
  show (old ((rA (j.val / 128) hb).emb _) : EReal) + (fold (F := Ideal) _ (ix2 r _) : EReal) = _
  rw [emb_A, fold_at]
  refine congrArg _ (Finset.sum_congr rfl fun k _ => ?_)
  show ((qv (bC x2 (j.val / 128) hb) (ix2 (row k r) _) : EReal) * v6 x3 (ix2 (row k r) _)) * xhb x0 x1 x6 x7 (j.val / 128) hb (ix2 (row k r) _) = _
  rw [qv_at, v6_at, xhb_at]
  show ((x2 ((rC (j.val / 128) hb).emb _) : EReal) * _) * _ = _
  rw [emb_C]
  rfl

theorem zero8_at (r : Fin 8) (j : Fin 20480) : (zero8 (F := Ideal) (ix2 r j) : EReal) = 0 := by
  unfold zero8
  rw [shapeCast_self]
  show (Scalar.ofBits (F := Ideal) .f32 0x00000000#32 : EReal) = 0
  simp [Scalar.ofBits]

theorem last_at (x : Vec Ideal S8x20480 .f32) (j : Fin 20480) : (last x (ix2 (0 : Fin 1) j) : EReal) = ∑ r : Fin 8, (x (ix2 r j) : EReal) := by
  unfold last
  rw [cast_row]
  pointwise

/-! ## All the points -/

/-- A sum over `a · b` numbers, by blocks of `b`. -/
theorem sum_range_mul {M : Type*} [AddCommMonoid M] (f : ℕ → M) (b : ℕ) : ∀ a : ℕ,
    ∑ n ∈ Finset.range (b * a), f n = ∑ i ∈ Finset.range a, ∑ k ∈ Finset.range b, f (b * i + k)
  | 0 => by simp
  | a + 1 => by rw [Nat.mul_succ, Finset.sum_range_add, sum_range_mul f b a, Finset.sum_range_succ]

/-- The 48 points, the four slices of each and the eight rows of a slice are the 1536 tokens. -/
theorem sum_tokens {M : Type*} [AddCommMonoid M] (f : ℕ → M) :
    ∑ r : Fin 8, ∑ i ∈ Finset.range 48, ∑ k : Fin 4, f (32 * i + (8 * k.val + r.val)) = ∑ b : Fin 3, ∑ s : Fin 512, f (512 * b.val + s.val) := by
  have h1 : ∑ b : Fin 3, ∑ s : Fin 512, f (512 * b.val + s.val) = ∑ n ∈ Finset.range (512 * 3), f n := by
    rw [sum_range_mul, Finset.sum_range]
    exact Finset.sum_congr rfl fun b _ => by rw [Finset.sum_range]
  have h2 : ∀ i : ℕ, ∑ k : Fin 4, ∑ r : Fin 8, f (32 * i + (8 * k.val + r.val)) = ∑ n ∈ Finset.range 32, f (32 * i + n) := fun i => by
    rw [show (32 : ℕ) = 8 * 4 from rfl, sum_range_mul (fun n => f (8 * 4 * i + n)) 8 4, Finset.sum_range]
    exact Finset.sum_congr rfl fun b _ => by rw [Finset.sum_range]
  rw [h1, show 512 * 3 = 32 * 48 from rfl, sum_range_mul f 32 48, Finset.sum_comm]
  refine Finset.sum_congr rfl fun i _ => ?_
  rw [Finset.sum_comm, h2]

variable (m : (ℓ : Loc nD τ sig) → Buf (Elt Ideal) ℓ) (c : Dev nD)

/-- Token `n`'s batch and position. -/
abbrev nb (n : ℕ) : Fin 3 := ⟨n / 512 % 3, Nat.mod_lt _ (by decide)⟩
abbrev ns (n : ℕ) : Fin 512 := ⟨n % 512, Nat.mod_lt _ (by decide)⟩

/-- A gradient, by token. -/
def dy (a2 : Vec Ideal S3x512x20480 .fp8e5m2) (a3 : Vec Ideal S3x512 .f32) (b : Fin 3) (s : Fin 512) (j : Fin 20480) : EReal :=
  (a2 (ix3 b s j) : EReal) * a3 (ix2 b s)
/-- A normalised activation, by token. -/
def xhat (a0 : Vec Ideal S3x512x20480 .fp8e4m3) (a1 : Vec Ideal S3x512x160 .f32) (a5 a6 : Vec Ideal S20480 .f32) (b : Fin 3) (s : Fin 512) (j : Fin 20480) : EReal :=
  ((a0 (ix3 b s j) : EReal) * a1 (ix3 b s (blk j)) - a6 (ix1 j))
    * Host.divf (broadcastInDim S20480 ![] bcast_S_S20480 (constant S_ .f32 0x3F800000#32)) (gc a5) (ix1 j)

theorem tb_nb (t : Fin cfg0.N) (r : Fin 32) : tb t r = nb (32 * t.val + r.val) := Fin.ext (by
  have := tok_lt t r
  show tok t r / 512 = tok t r / 512 % 3
  omega)
theorem ts_ns (t : Fin cfg0.N) (r : Fin 32) : ts t r = ns (32 * t.val + r.val) := rfl

variable (a0 : Vec Ideal S3x512x20480 .fp8e4m3) (a1 : Vec Ideal S3x512x160 .f32) (a2 : Vec Ideal S3x512x20480 .fp8e5m2) (a3 : Vec Ideal S3x512 .f32)
  (a5 a6 : Vec Ideal S20480 .f32)
variable (h0 : bitcastToFloat (F := Ideal) .fp8e4m3 (m ((c : Thread nD τ).loc main_arg0)) = a0) (h1 : m ((c : Thread nD τ).loc main_arg1) = a1) (h2 : bitcastToFloat (F := Ideal) .fp8e5m2 (m ((c : Thread nD τ).loc main_arg2)) = a2)
  (h3 : m ((c : Thread nD τ).loc main_arg3) = a3) (h5 : m ((c : Thread nD τ).loc main_arg5) = a5) (h6 : m ((c : Thread nD τ).loc main_arg6) = a6)

include h2 h3 in
theorem dyB_blk (t : Fin cfg0.N) (r : Fin 32) (j : Fin 20480) :
    dyB (iblk m c 2 t) (iblk m c 3 t) r j = dy a2 a3 (nb (32 * t.val + r.val)) (ns (32 * t.val + r.val)) j := by
  unfold dyB dy
  rw [iblk2, iblk3, h2, h3, tb_nb]

include h0 h1 h5 h6 in
theorem xhB_blk (t : Fin cfg0.N) (r : Fin 32) (j : Fin 20480) :
    xhB (iblk m c 0 t) (iblk m c 1 t) (iblk m c 6 t) (iblk m c 7 t) r j = xhat a0 a1 a5 a6 (nb (32 * t.val + r.val)) (ns (32 * t.val + r.val)) j := by
  unfold xhB xhat
  rw [iblk0, iblk1, iblk7, iblk6 m c t j a5 h5, h0, h1, h6, tb_nb]

include h2 h3 in
theorem accB_at (r : Fin 8) (j : Fin 20480) : ∀ (n : ℕ) (h : n < cfg0.N), (accB m c n h (ix2 r j) : EReal)
    = ∑ i ∈ Finset.range (n + 1), ∑ k : Fin 4, dy a2 a3 (nb (32 * i + (8 * k.val + r.val))) (ns (32 * i + (8 * k.val + r.val))) j
  | 0, h => by
    rw [accB, newB_at, zero8_at, zero_add, Finset.sum_range_one]
    exact Finset.sum_congr rfl fun k _ => dyB_blk m c a2 a3 h2 h3 _ _ _
  | n + 1, h => by
    rw [accB, newB_at, accB_at r j n (Nat.lt_of_succ_lt h), Finset.sum_range_succ _ (n + 1)]
    exact congrArg _ (Finset.sum_congr rfl fun k _ => dyB_blk m c a2 a3 h2 h3 _ _ _)

include h0 h1 h2 h3 h5 h6 in
theorem accA_at (r : Fin 8) (j : Fin 20480) : ∀ (n : ℕ) (h : n < cfg0.N), (accA m c n h (ix2 r j) : EReal)
    = ∑ i ∈ Finset.range (n + 1), ∑ k : Fin 4, dy a2 a3 (nb (32 * i + (8 * k.val + r.val))) (ns (32 * i + (8 * k.val + r.val))) j
        * xhat a0 a1 a5 a6 (nb (32 * i + (8 * k.val + r.val))) (ns (32 * i + (8 * k.val + r.val))) j
  | 0, h => by
    rw [accA, newA_at, zero8_at, zero_add, Finset.sum_range_one]
    exact Finset.sum_congr rfl fun k _ => by
      rw [dyB_blk m c a2 a3 h2 h3, xhB_blk m c a0 a1 a5 a6 h0 h1 h5 h6]
  | n + 1, h => by
    rw [accA, newA_at, accA_at r j n (Nat.lt_of_succ_lt h), Finset.sum_range_succ _ (n + 1)]
    exact congrArg _ (Finset.sum_congr rfl fun k _ => by
      rw [dyB_blk m c a2 a3 h2 h3, xhB_blk m c a0 a1 a5 a6 h0 h1 h5 h6])

theorem nb_at (b : Fin 3) (s : Fin 512) : nb (512 * b.val + s.val) = b := Fin.ext (by
  show (512 * b.val + s.val) / 512 % 3 = b.val
  omega)
theorem ns_at (b : Fin 3) (s : Fin 512) : ns (512 * b.val + s.val) = s := Fin.ext (by
  show (512 * b.val + s.val) % 512 = s.val
  omega)

include h0 h1 h2 h3 h5 h6 in
/-- The kernel's first result: the gradients times the normalised activations, summed over the tokens. -/
theorem dgamma_at (j : Fin 20480) : (Value.G8 m c (ix2 (0 : Fin 1) j) : EReal) = ∑ b : Fin 3, ∑ s : Fin 512, dy a2 a3 b s j * xhat a0 a1 a5 a6 b s j := by
  rw [G8_acc, last_at]
  rw [Finset.sum_congr rfl fun r _ => accA_at m c a0 a1 a2 a3 a5 a6 h0 h1 h2 h3 h5 h6 r j 47 lt47]
  rw [sum_tokens (fun n => dy a2 a3 (nb n) (ns n) j * xhat a0 a1 a5 a6 (nb n) (ns n) j)]
  simp only [nb_at, ns_at]

include h2 h3 in
/-- The kernel's second result: the gradients summed over the tokens. -/
theorem dbeta_at (j : Fin 20480) : (Value.G9 m c (ix2 (0 : Fin 1) j) : EReal) = ∑ b : Fin 3, ∑ s : Fin 512, dy a2 a3 b s j := by
  rw [G9_acc, last_at]
  rw [Finset.sum_congr rfl fun r _ => accB_at m c a2 a3 h2 h3 r j 47 lt47]
  rw [sum_tokens (fun n => dy a2 a3 (nb n) (ns n) j)]
  simp only [nb_at, ns_at]

end Cert.KernelIdeal.Sums

end
-- ==== Proof.ReferenceIdealHand.Sums.lean ====
/- The reference's first two results over the extended reals, element by element. -/
module

public import proofs.«01_k».proof.Proof.Gen.ReferenceIdeal.Frame
public import Idealize.ShloMosaic.PureOps.Ideal
public import Idealize.ShloMosaic.Lib.Pointwise

@[expose] public section

set_option maxRecDepth 16384

noncomputable section

namespace Cert.ReferenceIdeal.Sums

open Cert.ReferenceIdeal Cert.ReferenceIdeal.Gen Idealize.ShloMosaic Idealize.ShloMosaic.TcCoe
open Facts

/-- Column `j`'s block. -/
abbrev blk (j : Fin 20480) : Fin 160 := ⟨j.val / 128, by omega⟩

/-- The gain, kept away from zero. -/
def gc (x : FVec Ideal S20480 .f32) : FVec Ideal S20480 .f32 :=
  select (cmpf .oge x (broadcast S20480 (Scalar.ofBits .f32 0x00000000#32))) (maximumf x (broadcast S20480 (Scalar.ofBits .f32 0x3C23D70A#32)))
    (minimumf x (broadcast S20480 (Scalar.ofBits .f32 0xBC23D70A#32)))

theorem pay3_at (q : Vec Ideal S3x512x20480 .fp8e5m2) (s : Vec Ideal S3x512 .f32) (b : Fin 3) (t : Fin 512) (j : Fin 20480) :
    (k0_pay3 q s (ix3 b t j) : EReal) = (q (ix3 b t j) : EReal) * s (ix2 b t) := by
  unfold k0_pay3
  pointwise

theorem cast_blocks {α : Type} (x : S3x512x160x128.Idx → α) (h : S3x512x160x128.ShapeCasts S3x512x20480) (b : Fin 3) (t : Fin 512) (j : Fin 20480) :
    shapeCast S3x512x20480 x h (ix3 b t j) = x (ix4 b t (blk j) (⟨j.val % 128, Nat.mod_lt _ (by decide)⟩ : Fin 128)) := by
  pointwise

theorem cast_flat {α : Type} (x : S3x512x20480.Idx → α) (h : S3x512x20480.ShapeCasts S3x512x160x128) (b : Fin 3) (t : Fin 512) (k : Fin 160) (l : Fin 128) :
    shapeCast S3x512x160x128 x h (ix4 b t k l) = x (ix3 b t (⟨k.val * 128 + l.val, by omega⟩ : Fin 20480)) := by
  pointwise

theorem cast_same {α : Type} (x : S3x512x20480.Idx → α) (h : S3x512x20480.ShapeCasts S3x512x20480) (b : Fin 3) (t : Fin 512) (j : Fin 20480) :
    shapeCast S3x512x20480 x h (ix3 b t j) = x (ix3 b t j) := by
  pointwise

theorem scales_at {α : Type} (x : S3x512x160.Idx → α) (h : S3x512x160.ShapeCasts S3x512x160x1) (h' : S3x512x160x1.Broadcasts S3x512x160x128)
    (b : Fin 3) (t : Fin 512) (k : Fin 160) (l : Fin 128) : broadcastTo S3x512x160x128 (shapeCast S3x512x160x1 x h) h' (ix4 b t k l) = x (ix3 b t k) := by
  pointwise

theorem row_at {α : Type} (x : S20480.Idx → α) (h : S20480.ShapeCasts S1x1x20480) (h' : S1x1x20480.Broadcasts S3x512x20480)
    (b : Fin 3) (t : Fin 512) (j : Fin 20480) : broadcastTo S3x512x20480 (shapeCast S1x1x20480 x h) h' (ix3 b t j) = x (ix1 j) := by
  pointwise

theorem pay4_at (y : Vec Ideal S3x512x20480 .fp8e4m3) (ys : Vec Ideal S3x512x160 .f32) (ga be : Vec Ideal S20480 .f32) (b : Fin 3) (t : Fin 512) (j : Fin 20480) :
    (k0_pay4 y ys ga be (ix3 b t j) : EReal) = Ideal.div ((y (ix3 b t j) : EReal) * ys (ix3 b t (blk j)) - be (ix1 j)) (gc ga (ix1 j)) := by
  have e : (⟨(blk j).val * 128 + j.val % 128, by omega⟩ : Fin 20480) = j := Fin.ext (by show j.val / 128 * 128 + j.val % 128 = j.val; omega)
  unfold k0_pay4
  show Ideal.div ((shapeCast S3x512x20480 _ _ (ix3 b t j) : EReal) - broadcastTo S3x512x20480 _ _ (ix3 b t j)) (broadcastTo S3x512x20480 _ _ (ix3 b t j)) = _
  rw [row_at, row_at, cast_blocks]
  show Ideal.div ((shapeCast S3x512x160x128 _ _ (ix4 b t (blk j) _) : EReal) * broadcastTo S3x512x160x128 _ _ (ix4 b t (blk j) _) - _) _ = _
  rw [cast_flat, scales_at, e]
  show Ideal.div ((shapeCast S3x512x20480 y _ (ix3 b t j) : EReal) * _ - _) _ = _
  rw [cast_same]
  rfl

/-- The tokens of a column. -/
theorem fiber (h : S3x512x20480.Reduces [0, 1] S20480) (j : Fin 20480) (i : S3x512x20480.Idx) :
    h.drop i = ix1 j ↔ ∃ p : Fin 3 × Fin 512, ix3 p.1 p.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e (0 : Fin 1))).symm
  · rintro ⟨p, rfl⟩
    funext b
    apply Fin.ext
    match b with
    | ⟨0, _⟩ => rfl

/-- A sum over the tokens of a column. -/
theorem reduce_at (h : S3x512x20480.Reduces [0, 1] S20480) (v : S3x512x20480.Idx → EReal) (j : Fin 20480) :
    Ideal.reduceAdd h v (ix1 j) = ∑ b : Fin 3, ∑ t : Fin 512, v (ix3 b t j) := by
  rw [← Fintype.sum_prod_type' (f := fun (b : Fin 3) (t : Fin 512) => v (ix3 b t j))]
  exact Finset.sum_filter_eq_sum_of_fiber _ (fun p : Fin 3 × Fin 512 => ix3 p.1 p.2 j)
    (fun p q e => Prod.ext (congrFun e 0) (congrFun e 1)) (fiber h j) v

theorem pay8_at (v w : FVec Ideal S3x512x20480 .f32) (j : Fin 20480) :
    (k0_pay8 v w (ix2 (0 : Fin 1) j) : EReal) = ∑ b : Fin 3, ∑ t : Fin 512, (v (ix3 b t j) : EReal) * w (ix3 b t j) := by
  unfold k0_pay8
  pointwise
  exact reduce_at _ _ j

theorem pay9_at (v : FVec Ideal S3x512x20480 .f32) (j : Fin 20480) :
    (k0_pay9 v (ix2 (0 : Fin 1) j) : EReal) = ∑ b : Fin 3, ∑ t : Fin 512, (v (ix3 b t j) : EReal) := by
  unfold k0_pay9
  pointwise
  exact reduce_at _ _ j

end Cert.ReferenceIdeal.Sums

end
-- ==== Proof.ReferenceIdealHand.Value.lean ====
/- The reference's result arrays after the run, each as one function of the argument arrays: the kernel call has one grid
   point, and every window's block is its whole array. The two arrays of codes reach the call as the numbers their bytes
   store. Adapted from the generated value module. -/
module

public import proofs.«01_k».proof.Proof.Gen.ReferenceIdeal.Frame
public import Idealize.ShloMosaic.Lib.Pipeline.Value
public import Idealize.ShloMosaic.Lib.StableHlo.ReadAt

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1x20480.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1x20480.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S1536x20480.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1536x160.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v2_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v2_3) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 7 cfg0.N
      ∧ r.2.mem ((c : Thread nD τ).loc main_v2_1) = (dats m 0 c).arrAt 8 cfg0.N
      ∧ r.2.mem ((c : Thread nD τ).loc main_v2_2) = (dats m 0 c).arrAt 9 cfg0.N
      ∧ r.2.mem ((c : Thread nD τ).loc main_v2_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Closed form at one grid point: every window's block is its array -/

/-- The call finds the numbers the bytes of the first argument store. -/
theorem V_v0 (c : Dev nD) : V m c main_v0 = bitcastToFloat .fp8e4m3 (m ((c : Thread nD τ).loc main_arg0)) := by
  unfold V
  after_reads_simp

/-- The call finds the numbers the bytes of the third argument store. -/
theorem V_v1 (c : Dev nD) : V m c main_v1 = bitcastToFloat .fp8e5m2 (m ((c : Thread nD τ).loc main_arg2)) := by
  unfold V
  after_reads_simp

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x512x20480.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 512 + 1 * (j 1).val = (j 1).val; omega
  | ⟨2, _⟩ => show win0_0.index t (2 : Fin 3) * 20480 + 1 * (j 2).val = (j 2).val; omega

/-- Input window 0's block at the point is its array as the region finds it. -/
theorem iblk0_eq (c : Dev nD) (t : Fin cfg0.N) : iblk m c 0 t = V m c main_v0 := by
  funext j; show V m c main_v0 (((cfg0.win 0).blk t).view.emb j) = V m c main_v0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S3x512x160.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 512 + 1 * (j 1).val = (j 1).val; omega
  | ⟨2, _⟩ => show win0_1.index t (2 : Fin 3) * 160 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S3x512x20480.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 512 + 1 * (j 1).val = (j 1).val; omega
  | ⟨2, _⟩ => show win0_2.index t (2 : Fin 3) * 20480 + 1 * (j 2).val = (j 2).val; omega

/-- Input window 2's block at the point is its array as the region finds it. -/
theorem iblk2_eq (c : Dev nD) (t : Fin cfg0.N) : iblk m c 2 t = V m c main_v1 := by
  funext j; show V m c main_v1 (((cfg0.win 2).blk t).view.emb j) = V m c main_v1 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3x512.Idx) : ((cfg0.win 3).blk t).view.emb j = j := by
  obtain ⟨e0, e1⟩ := idx_zero3 t
  funext a; apply Fin.ext
  match a with
  | ⟨0, _⟩ => show win0_3.index t (0 : Fin 2) * 3 + 1 * (j 0).val = (j 0).val; omega
  | ⟨1, _⟩ => show win0_3.index t (1 : Fin 2) * 512 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3x512.Idx) : ((cfg0.win 4).blk t).view.emb j = j := by
  obtain ⟨e0, e1⟩ := idx_zero4 t
  funext a; apply Fin.ext
  match a with
  | ⟨0, _⟩ => show win0_4.index t (0 : Fin 2) * 3 + 1 * (j 0).val = (j 0).val; omega
  | ⟨1, _⟩ => show win0_4.index t (1 : Fin 2) * 512 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S20480.Idx) : ((cfg0.win 5).blk t).view.emb j = j := by
  have e0 := idx_zero5 t
  funext a; apply Fin.ext
  match a with
  | ⟨0, _⟩ => show win0_5.index t (0 : Fin 1) * 20480 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S20480.Idx) : ((cfg0.win 6).blk t).view.emb j = j := by
  have e0 := idx_zero6 t
  funext a; apply Fin.ext
  match a with
  | ⟨0, _⟩ => show win0_6.index t (0 : Fin 1) * 20480 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x20480.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 20480 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1x20480.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 20480 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S1536x20480.Idx) : ((cfg0.win 9).blk t).view.emb j = j := by
  obtain ⟨e0, e1⟩ := idx_zero9 t
  funext a; apply Fin.ext
  match a with
  | ⟨0, _⟩ => show win0_9.index t (0 : Fin 2) * 1536 + 1 * (j 0).val = (j 0).val; omega
  | ⟨1, _⟩ => show win0_9.index t (1 : Fin 2) * 20480 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1536x160.Idx) : ((cfg0.win 10).blk t).view.emb j = j := by
  obtain ⟨e0, e1⟩ := idx_zero10 t
  funext a; apply Fin.ext
  match a with
  | ⟨0, _⟩ => show win0_10.index t (0 : Fin 2) * 1536 + 1 * (j 0).val = (j 0).val; omega
  | ⟨1, _⟩ => show win0_10.index t (1 : Fin 2) * 160 + 1 * (j 1).val = (j 1).val; omega

/-! ### Output window 7: the array after the run -/

/-- What the window's array ends holding: `out0_7` applied to the argument arrays in place of the input blocks (a value that the
    frame states apart, `kK_payN a…`, keeps its loads inside its own definition). -/
abbrev G7 (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : Vec F S1x20480 .f32 :=
  k0_pay8 (k0_pay13 a0 a1 a2 a3 a4 a5 a6) (k0_pay14 a0 a1 a2 a3 a4 a5 a6)

/-- The one store through the whole rectangle leaves its payload. -/
theorem out7_eq (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : out0_7 (F := F) a0 a1 a2 a3 a4 a5 a6 = G7 a0 a1 a2 a3 a4 a5 a6 := by
  unfold out0_7
  rw [View.canon_unit_zero hz7]

/-- Cutting the point's block out of `X` and reading `X` through the block's view give the same. -/
theorem cut7_eq (t : Fin cfg0.N) (X : Vec F S1x20480 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_v0) (V m c main_arg1) (V m c main_v1) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S1x20480.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_v0) (V m c main_arg1) (V m c main_v1) (V m c main_arg3) (V m c main_arg4) (V m c main_arg5) (V m c main_arg6)) (fun t _ => flushed7_eq m c t) covered7).trans (by rw [V_v0, V_main_arg1, V_v1, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : Vec F S1x20480 .f32 :=
  k0_pay9 (k0_pay13 a0 a1 a2 a3 a4 a5 a6)

/-- The one store through the whole rectangle leaves its payload. -/
theorem out8_eq (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S1x20480 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_v0) (V m c main_arg1) (V m c main_v1) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S1x20480.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_v0) (V m c main_arg1) (V m c main_v1) (V m c main_arg3) (V m c main_arg4) (V m c main_arg5) (V m c main_arg6)) (fun t _ => flushed8_eq m c t) covered8).trans (by rw [V_v0, V_main_arg1, V_v1, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : Vec F S1536x20480 .fp8e5m2 :=
  k0_pay1 (k0_pay10 (k0_pay14 a0 a1 a2 a3 a4 a5 a6) (k0_pay15 a0 a1 a2 a3 a4 a5 a6) (k0_pay16 a0 a1 a2 a3 a4 a5 a6) (k0_pay17 a0 a1 a2 a3 a4 a5 a6) a4) (k0_pay11 (k0_pay14 a0 a1 a2 a3 a4 a5 a6) (k0_pay15 a0 a1 a2 a3 a4 a5 a6) (k0_pay16 a0 a1 a2 a3 a4 a5 a6) (k0_pay17 a0 a1 a2 a3 a4 a5 a6) a4) 0#32

/-- A load of the whole of a block reads the block, and the one store through the whole rectangle leaves its payload. -/
theorem out9_eq (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : out0_9 (F := F) a0 a1 a2 a3 a4 a5 a6 = G9 a0 a1 a2 a3 a4 a5 a6 := by
  unfold out0_9
  rw [View.canon_unit_zero hz9, View.ld_unit_zero (S := S3x512) hz4 _ a4]

/-- Cutting the point's block out of `X` and reading `X` through the block's view give the same. -/
theorem cut9_eq (t : Fin cfg0.N) (X : Vec F S1536x20480 .fp8e5m2) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_v0) (V m c main_arg1) (V m c main_v1) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S1536x20480.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_v0) (V m c main_arg1) (V m c main_v1) (V m c main_arg3) (V m c main_arg4) (V m c main_arg5) (V m c main_arg6)) (fun t _ => flushed9_eq m c t) covered9).trans (by rw [V_v0, V_main_arg1, V_v1, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : Vec F S1536x160 .f32 :=
  k0_pay2 (k0_pay12 (k0_pay14 a0 a1 a2 a3 a4 a5 a6) (k0_pay15 a0 a1 a2 a3 a4 a5 a6) (k0_pay16 a0 a1 a2 a3 a4 a5 a6) (k0_pay17 a0 a1 a2 a3 a4 a5 a6) a4)

/-- A load of the whole of a block reads the block, and the one store through the whole rectangle leaves its payload. -/
theorem out10_eq (a0 : Vec F S3x512x20480 .fp8e4m3) (a1 : Vec F S3x512x160 .f32) (a2 : Vec F S3x512x20480 .fp8e5m2) (a3 : Vec F S3x512 .f32) (a4 : Vec F S3x512 .f32) (a5 : Vec F S20480 .f32) (a6 : Vec F S20480 .f32) : out0_10 (F := F) a0 a1 a2 a3 a4 a5 a6 = G10 a0 a1 a2 a3 a4 a5 a6 := by
  unfold out0_10
  rw [View.canon_unit_zero hz10, View.ld_unit_zero (S := S3x512) hz4 _ a4]

/-- Cutting the point's block out of `X` and reading `X` through the block's view give the same. -/
theorem cut10_eq (t : Fin cfg0.N) (X : Vec F S1536x160 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_v0) (V m c main_arg1) (V m c main_v1) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S1536x160.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_v0) (V m c main_arg1) (V m c main_v1) (V m c main_arg3) (V m c main_arg4) (V m c main_arg5) (V m c main_arg6)) (fun t _ => flushed10_eq m c t) covered10).trans (by rw [V_v0, V_main_arg1, V_v1, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v2_0) = G7 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6))
      ∧ r.2.mem ((c : Thread nD τ).loc main_v2_1) = G8 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6))
      ∧ r.2.mem ((c : Thread nD τ).loc main_v2_2) = G9 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6))
      ∧ r.2.mem ((c : Thread nD τ).loc main_v2_3) = G10 (bitcastToFloat .fp8e4m3 (m ((c : Thread nD τ).loc main_arg0))) (m ((c : Thread nD τ).loc main_arg1)) (bitcastToFloat .fp8e5m2 (m ((c : Thread nD τ).loc main_arg2))) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Value

end
-- ==== Proof.Agree.lean ====
/- The two programs' dgamma and dbeta are one function of the arguments over the extended reals: the kernel multiplies by
   the reciprocal of the clamped gain where the reference divides by it, and the clamped gain is never zero. -/
module

public import proofs.«01_k».proof.Proof.KernelIdealHand.Sums
public import proofs.«01_k».proof.Proof.ReferenceIdealHand.Sums
public import proofs.«01_k».proof.Proof.ReferenceIdealHand.Value

@[expose] public section

set_option maxRecDepth 16384

noncomputable section

namespace Cert.Agree

open Idealize.ShloMosaic Idealize.ShloMosaic.TcCoe Idealize.SL.Sem

theorem eps_pos : (0 : EReal) < Ideal.ofBits .f32 0x3C23D70A#32 := by
  have : Ideal.ofBits .f32 0x3C23D70A#32 = ((10737418 / 2 ^ 30 : ℝ) : EReal) := by
    simp [Ideal.ofBits, Ideal.ieee, -EReal.coe_mul]; norm_num
  rw [this]
  exact_mod_cast (by norm_num : (0 : ℝ) < 10737418 / 2 ^ 30)
theorem eps_neg : Ideal.ofBits .f32 0xBC23D70A#32 < (0 : EReal) := by
  have : Ideal.ofBits .f32 0xBC23D70A#32 = ((-(10737418 / 2 ^ 30) : ℝ) : EReal) := by
    simp [Ideal.ofBits, Ideal.ieee, -EReal.coe_mul]; norm_num
  rw [this]
  exact_mod_cast (by norm_num : (-(10737418 / 2 ^ 30) : ℝ) < 0)
theorem one_bits : Ideal.ofBits .f32 0x3F800000#32 = 1 := by
  simp [Ideal.ofBits, Ideal.ieee, -EReal.coe_mul]; norm_num

/-- The clamped gain of one column. -/
def gcl (x : EReal) : EReal := if 0 ≤ x then max x (Ideal.ofBits .f32 0x3C23D70A#32) else min x (Ideal.ofBits .f32 0xBC23D70A#32)

theorem gcl_ne (x : EReal) : gcl x ≠ 0 := by
  unfold gcl
  split
  · exact (lt_of_lt_of_le eps_pos (le_max_right _ _)).ne'
  · exact (lt_of_le_of_lt (min_le_right _ _) eps_neg).ne

theorem gcR_at (x : FVec Ideal Cert.ReferenceIdeal.S20480 .f32) (j : Fin 20480) : (Cert.ReferenceIdeal.Sums.gc x (ix1 j) : EReal) = gcl (x (ix1 j)) := by
  show Scalar.select (Ideal.cmp .oge (x (ix1 j)) (Ideal.ofBits .f32 0x00000000#32)) (max (x (ix1 j) : EReal) (Ideal.ofBits .f32 0x3C23D70A#32)) (min (x (ix1 j) : EReal) (Ideal.ofBits .f32 0xBC23D70A#32)) = _
  rw [Ideal.ofBits_zero_f32]
  unfold gcl
  by_cases h : (0 : EReal) ≤ x (ix1 j) <;> simp [Scalar.select, Ideal.cmp, h]

theorem gcK_at (x : FVec Ideal Cert.KernelIdeal.S20480 .f32) (j : Fin 20480) : (Cert.KernelIdeal.Entry.gc (F := Ideal) x (ix1 j) : EReal) = gcl (x (ix1 j)) := by
  show Scalar.select (Ideal.cmp .oge (x (ix1 j)) (Ideal.ofBits .f32 0x00000000#32)) (max (x (ix1 j) : EReal) (Ideal.ofBits .f32 0x3C23D70A#32)) (min (x (ix1 j) : EReal) (Ideal.ofBits .f32 0xBC23D70A#32)) = _
  rw [Ideal.ofBits_zero_f32]
  unfold gcl
  by_cases h : (0 : EReal) ≤ x (ix1 j) <;> simp [Scalar.select, Ideal.cmp, h]

theorem div_eq_mul (a y : EReal) (h : y ≠ 0) : a * Ideal.div 1 y = Ideal.div a y := by
  unfold Ideal.div
  rw [if_neg h, if_neg h, one_mul]

variable (a0 : Vec Ideal Cert.KernelIdeal.S3x512x20480 .fp8e4m3) (a1 : Vec Ideal Cert.KernelIdeal.S3x512x160 .f32)
  (a2 : Vec Ideal Cert.KernelIdeal.S3x512x20480 .fp8e5m2) (a3 a4 : Vec Ideal Cert.KernelIdeal.S3x512 .f32)
  (a5 a6 : Vec Ideal Cert.KernelIdeal.S20480 .f32)

/-- One normalised activation, in both programs. -/
theorem xhat_eq (b : Fin 3) (s : Fin 512) (j : Fin 20480) :
    Cert.KernelIdeal.Sums.xhat a0 a1 a5 a6 b s j = (Cert.ReferenceIdeal.Gen.k0_pay4 (F := Ideal) a0 a1 a5 a6 (ix3 b s j) : EReal) := by
  rw [Cert.ReferenceIdeal.Sums.pay4_at, gcR_at]
  unfold Cert.KernelIdeal.Sums.xhat
  show _ * Ideal.div (Ideal.ofBits .f32 0x3F800000#32) (Cert.KernelIdeal.Entry.gc (F := Ideal) a5 (ix1 j)) = _
  rw [gcK_at, one_bits, div_eq_mul _ _ (gcl_ne _)]

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

theorem pay13_eq : Cert.ReferenceIdeal.Gen.k0_pay13 (F := Ideal) a0 a1 a2 a3 a4 a5 a6 = Cert.ReferenceIdeal.Gen.k0_pay3 a2 a3 := by
  unfold Cert.ReferenceIdeal.Gen.k0_pay13
  rw [View.ld_unit_zero (S := Cert.ReferenceIdeal.S3x512x20480) z3, View.ld_unit_zero (S := Cert.ReferenceIdeal.S3x512) z2]

theorem pay14_eq : Cert.ReferenceIdeal.Gen.k0_pay14 (F := Ideal) a0 a1 a2 a3 a4 a5 a6 = Cert.ReferenceIdeal.Gen.k0_pay4 a0 a1 a5 a6 := by
  unfold Cert.ReferenceIdeal.Gen.k0_pay14
  rw [View.ld_unit_zero (S := Cert.ReferenceIdeal.S3x512x20480) z3, View.ld_unit_zero (S := Cert.ReferenceIdeal.S3x512x160) z3,
    View.ld_unit_zero (S := Cert.ReferenceIdeal.S20480) z1, View.ld_unit_zero (S := Cert.ReferenceIdeal.S20480) z1]

/-- The reference's dgamma. -/
theorem dgammaR (j : Fin 20480) : (Cert.ReferenceIdeal.Value.G7 (F := Ideal) a0 a1 a2 a3 a4 a5 a6 (ix2 (0 : Fin 1) j) : EReal)
    = ∑ b : Fin 3, ∑ s : Fin 512, Cert.KernelIdeal.Sums.dy a2 a3 b s j * Cert.KernelIdeal.Sums.xhat a0 a1 a5 a6 b s j := by
  show (Cert.ReferenceIdeal.Gen.k0_pay8 (F := Ideal) _ _ (ix2 (0 : Fin 1) j) : EReal) = _
  rw [pay13_eq, pay14_eq, Cert.ReferenceIdeal.Sums.pay8_at]
  refine Finset.sum_congr rfl fun b _ => Finset.sum_congr rfl fun s _ => ?_
  rw [Cert.ReferenceIdeal.Sums.pay3_at, xhat_eq]
  rfl

/-- The reference's dbeta. -/
theorem dbetaR (j : Fin 20480) : (Cert.ReferenceIdeal.Value.G8 (F := Ideal) a0 a1 a2 a3 a4 a5 a6 (ix2 (0 : Fin 1) j) : EReal)
    = ∑ b : Fin 3, ∑ s : Fin 512, Cert.KernelIdeal.Sums.dy a2 a3 b s j := by
  show (Cert.ReferenceIdeal.Gen.k0_pay9 (F := Ideal) _ (ix2 (0 : Fin 1) j) : EReal) = _
  rw [pay13_eq, Cert.ReferenceIdeal.Sums.pay9_at]
  refine Finset.sum_congr rfl fun b _ => Finset.sum_congr rfl fun s _ => ?_
  rw [Cert.ReferenceIdeal.Sums.pay3_at]
  rfl

theorem idx_row (i : Cert.KernelIdeal.S1x20480.Idx) : i = ix2 (0 : Fin 1) (i 1) := by
  funext a
  match a with
  | ⟨0, _⟩ => exact Subsingleton.elim (α := Fin 1) _ _
  | ⟨1, _⟩ => rfl

variable (m : (ℓ : Loc Cert.KernelIdeal.nD Cert.KernelIdeal.τ Cert.KernelIdeal.sig) → Buf (Elt Ideal) ℓ) (c : Dev Cert.KernelIdeal.nD)
  (h0 : bitcastToFloat (F := Ideal) .fp8e4m3 (m ((c.tc : Thread Cert.KernelIdeal.nD Cert.KernelIdeal.τ).loc Cert.KernelIdeal.main_arg0)) = a0)
  (h1 : m ((c.tc : Thread Cert.KernelIdeal.nD Cert.KernelIdeal.τ).loc Cert.KernelIdeal.main_arg1) = a1)
  (h2 : bitcastToFloat (F := Ideal) .fp8e5m2 (m ((c.tc : Thread Cert.KernelIdeal.nD Cert.KernelIdeal.τ).loc Cert.KernelIdeal.main_arg2)) = a2)
  (h3 : m ((c.tc : Thread Cert.KernelIdeal.nD Cert.KernelIdeal.τ).loc Cert.KernelIdeal.main_arg3) = a3)
  (h5 : m ((c.tc : Thread Cert.KernelIdeal.nD Cert.KernelIdeal.τ).loc Cert.KernelIdeal.main_arg5) = a5)
  (h6 : m ((c.tc : Thread Cert.KernelIdeal.nD Cert.KernelIdeal.τ).loc Cert.KernelIdeal.main_arg6) = a6)

include h0 h1 h2 h3 h5 h6 in
/-- The two programs' dgamma. -/
theorem dgamma_eq : Cert.ReferenceIdeal.Value.G7 (F := Ideal) a0 a1 a2 a3 a4 a5 a6 = Cert.KernelIdeal.Value.G8 m c := by
  funext i
  rw [idx_row i]
  exact (dgammaR a0 a1 a2 a3 a4 a5 a6 (i 1)).trans (Cert.KernelIdeal.Sums.dgamma_at m c a0 a1 a2 a3 a5 a6 h0 h1 h2 h3 h5 h6 (i 1)).symm

include h2 h3 in
/-- The two programs' dbeta. -/
theorem dbeta_eq : Cert.ReferenceIdeal.Value.G8 (F := Ideal) a0 a1 a2 a3 a4 a5 a6 = Cert.KernelIdeal.Value.G9 m c := by
  funext i
  rw [idx_row i]
  exact (dbetaR a0 a1 a2 a3 a4 a5 a6 (i 1)).trans (Cert.KernelIdeal.Sums.dbeta_at m c a2 a3 h2 h3 (i 1)).symm

end Cert.Agree

end
-- ==== Proof.Scale.lean ====
/- Powers of two as bit patterns, and the exponent of a number found in two ways: by a search for the exponent field, and by
   counting the powers of two below the number. The two agree, and the scale and its reciprocal built from the exponent's
   bits are the powers of two they stand for. -/
module

public import Idealize.ShloMosaic.PureOps.Ideal

@[expose] public section

noncomputable section

namespace Cert.Scale

open Idealize.ShloMosaic

/-- The number with exponent field `n` and no fraction. -/
def pw (n : ℕ) : EReal := Ideal.ofBits .f32 (BitVec.ofNat 32 n <<< 23)

theorem fields : ∀ n : Fin 256, (BitVec.ofNat 32 n.val <<< 23).extractLsb' 31 1 = 0#1
    ∧ ((BitVec.ofNat 32 n.val <<< 23).extractLsb' 23 8).toNat = n.val ∧ ((BitVec.ofNat 32 n.val <<< 23).extractLsb' 0 23).toNat = 0 := by
  decide +kernel

theorem zpow_split (n : ℤ) : (2 : ℝ) ^ (n - 127) = (2 : ℝ) ^ (23 : ℕ) * (2 : ℝ) ^ (n - 127 - 23) := by
  rw [← zpow_natCast, ← zpow_add₀ (by norm_num)]
  congr 1
  push_cast
  ring

theorem pw_normal (n : ℕ) (h1 : 1 ≤ n) (h2 : n ≤ 254) : pw n = (((2 : ℝ) ^ ((n : ℤ) - 127) : ℝ) : EReal) := by
  have hn0 : n ≠ 0 := by omega
  have hn1 : n ≠ 2 ^ 8 - 1 := by omega
  obtain ⟨e1, e2, e3⟩ := fields ⟨n, by omega⟩
  dsimp only at e1 e2 e3
  rw [zpow_split]
  unfold pw
  simp only [Ideal.ofBits, Ideal.ieee, Nat.reduceAdd, e1, e2, e3]
  rw [if_neg hn1, if_neg hn0]
  norm_num

theorem pw_top : pw 255 = ⊤ := by
  obtain ⟨e1, e2, e3⟩ := fields ⟨255, by omega⟩
  dsimp only at e1 e2 e3
  unfold pw
  simp only [Ideal.ofBits, Ideal.ieee, Nat.reduceAdd, e1, e2, e3]
  norm_num

theorem pw_mono {a b : ℕ} (h1 : 1 ≤ a) (hab : a ≤ b) (h2 : b ≤ 255) : pw a ≤ pw b := by
  rcases Nat.lt_or_ge b 255 with hb | hb
  · rw [pw_normal a h1 (by omega), pw_normal b (by omega) (by omega)]
    exact EReal.coe_le_coe_iff.2 (zpow_le_zpow_right₀ (by norm_num : (1 : ℝ) ≤ 2) (by omega))
  · obtain rfl : b = 255 := by omega
    rw [pw_top]
    exact le_top

open Classical in
/-- The exponent field of `t`: the greatest whose power of two is at most `t`. -/
def fieldOf (t : EReal) : ℕ := Nat.findGreatest (fun n => n = 0 ∨ pw n ≤ t) 255

theorem fieldOf_le (t : EReal) : fieldOf t ≤ 255 := Nat.findGreatest_le _

theorem field_iff (t : EReal) (n : ℕ) (h1 : 1 ≤ n) (h2 : n ≤ 255) : pw n ≤ t ↔ n ≤ fieldOf t := by
  classical
  constructor
  · intro h
    exact Nat.le_findGreatest h2 (Or.inr h)
  · intro h
    have : fieldOf t = 0 ∨ pw (fieldOf t) ≤ t := Nat.findGreatest_spec (P := fun n => n = 0 ∨ pw n ≤ t) (Nat.zero_le _) (Or.inl rfl)
    rcases this with h0 | h0
    · omega
    · exact (pw_mono h1 h (fieldOf_le t)).trans h0

theorem fieldOf_lt (t : EReal) (h : t < (((2 : ℝ) ^ (126 : ℤ) : ℝ) : EReal)) : fieldOf t ≤ 252 := by
  by_contra hc
  have := (field_iff t 253 (by omega) (by omega)).2 (by omega)
  rw [pw_normal 253 (by omega) (by omega)] at this
  exact absurd (lt_of_le_of_lt this h) (by norm_num)

/-! ## The search -/

/-- One step: `f + k` where that field's power is at most `t`. -/
def step (t : EReal) (k f : BitVec 32) : BitVec 32 :=
  Scalar.select (Ideal.cmp .oge t (Ideal.ofBits .f32 ((f + k) <<< 23))) (f + k) f

theorem step_eq (t : EReal) (k f : ℕ) (hk : 1 ≤ k) (h : f + k ≤ 255) :
    step t (BitVec.ofNat 32 k) (BitVec.ofNat 32 f) = BitVec.ofNat 32 (if f + k ≤ fieldOf t then f + k else f) := by
  unfold step
  rw [← BitVec.ofNat_add]
  show Scalar.select (Ideal.cmp .oge t (pw (f + k))) _ _ = _
  have := field_iff t (f + k) (by omega) h
  by_cases hc : f + k ≤ fieldOf t
  · rw [if_pos hc]
    simp [Scalar.select, Ideal.cmp, this.2 hc]
  · rw [if_neg hc]
    have hn : ¬pw (f + k) ≤ t := fun h => hc (this.1 h)
    simp [Scalar.select, Ideal.cmp, hn]

/-- Eight steps, from the widest. -/
def search (t : EReal) : BitVec 32 :=
  step t 1#32 (step t 2#32 (step t 4#32 (step t 8#32 (step t 16#32 (step t 32#32 (step t 64#32 (step t 128#32 0#32)))))))

/-- A step on numbers. -/
def stepN (N k f : ℕ) : ℕ := if f + k ≤ N then f + k else f
theorem stepN_le (N k f b : ℕ) (h : f ≤ b) : stepN N k f ≤ b + k := by unfold stepN; split <;> omega

theorem search_all : ∀ N : Fin 256, stepN N 1 (stepN N 2 (stepN N 4 (stepN N 8 (stepN N 16 (stepN N 32 (stepN N 64 (stepN N 128 0))))))) = N.val := by
  decide +kernel

/-- The search finds the exponent field. -/
theorem search_eq (t : EReal) : search t = BitVec.ofNat 32 (fieldOf t) := by
  have h := search_all ⟨fieldOf t, by have := fieldOf_le t; omega⟩
  dsimp only at h
  unfold search
  have b1 := stepN_le (fieldOf t) 128 0 0 le_rfl
  have b2 := stepN_le (fieldOf t) 64 _ _ b1
  have b3 := stepN_le (fieldOf t) 32 _ _ b2
  have b4 := stepN_le (fieldOf t) 16 _ _ b3
  have b5 := stepN_le (fieldOf t) 8 _ _ b4
  have b6 := stepN_le (fieldOf t) 4 _ _ b5
  have b7 := stepN_le (fieldOf t) 2 _ _ b6
  have e (k f : ℕ) (hk : 1 ≤ k) (h : f + k ≤ 255) : step t (BitVec.ofNat 32 k) (BitVec.ofNat 32 f) = BitVec.ofNat 32 (stepN (fieldOf t) k f) := step_eq t k f hk h
  rw [e 128 0 (by omega) (by omega), e 64 _ (by omega) (by omega), e 32 _ (by omega) (by omega), e 16 _ (by omega) (by omega),
    e 8 _ (by omega) (by omega), e 4 _ (by omega) (by omega), e 2 _ (by omega) (by omega), e 1 _ (by omega) (by omega), h]

/-! ## The count -/

/-- Whether `t` is at least the power `2^(j − 126)`. -/
def bit (t : EReal) (j : ℕ) : BitVec 1 := Ideal.cmp .oge t (Ideal.exp2 ((((BitVec.ofNat 32 j - 126#32).toInt : ℤ) : ℝ) : EReal))

theorem toInt_sub : ∀ j : Fin 254, (BitVec.ofNat 32 j.val - 126#32).toInt = (j.val : ℤ) - 126 := by decide +kernel

theorem exp2_int (e : ℤ) : Ideal.exp2 ((e : ℝ) : EReal) = (((2 : ℝ) ^ e : ℝ) : EReal) := by
  rw [Ideal.exp2_coe]
  congr 1
  exact Real.rpow_intCast 2 e

theorem bit_eq (t : EReal) (j : Fin 254) : ((bit t j.val).zeroExtend 32).toNat = if j.val < fieldOf t then 1 else 0 := by
  unfold bit
  rw [toInt_sub j, exp2_int]
  have h := field_iff t (j.val + 1) (by omega) (by omega)
  rw [pw_normal _ (by omega) (by omega), show ((j.val + 1 : ℕ) : ℤ) - 127 = (j.val : ℤ) - 126 by push_cast; ring] at h
  by_cases hc : j.val < fieldOf t
  · rw [if_pos hc]
    simp [Ideal.cmp, h.2 hc]
  · rw [if_neg hc]
    have hn : ¬(((2 : ℝ) ^ ((j.val : ℤ) - 126) : ℝ) : EReal) ≤ t := fun hh => hc (h.1 hh)
    simp [Ideal.cmp, hn]

/-- The count is the exponent field, while that is less than 255. -/
theorem count_eq (t : EReal) (h : fieldOf t ≤ 254) : ∑ j : Fin 254, ((bit t j.val).zeroExtend 32).toNat = fieldOf t := by
  simp only [bit_eq]
  rw [Finset.sum_boole, Fin.card_filter_val_lt]
  simp only [Nat.cast_id]
  omega

/-! ## The exponent -/

/-- The exponent's word, from the exponent field. -/
def expW (t : EReal) (f : BitVec 32) : BitVec 32 := Scalar.select (Ideal.cmp .oeq t 0) 0#32 (f - 126#32)

theorem words : ∀ n : Fin 253, (BitVec.ofNat 32 n.val - 126#32).toInt = (n.val : ℤ) - 126 ∧ (0#32 - (BitVec.ofNat 32 n.val - 126#32)).toInt = 126 - (n.val : ℤ)
    ∧ BitVec.ofNat 32 n.val - 126#32 + 127#32 = BitVec.ofNat 32 (n.val + 1) ∧ 127#32 - (BitVec.ofNat 32 n.val - 126#32) = BitVec.ofNat 32 (253 - n.val) := by
  decide +kernel

/-- Below `2^126` the exponent is a number from −126 to 126; the word shifted into the exponent field, and its negative, are the
    powers of two that the word's number names. -/
theorem expW_spec (t : EReal) (h : t < (((2 : ℝ) ^ (126 : ℤ) : ℝ) : EReal)) : ∃ e : ℤ, -126 ≤ e ∧ e ≤ 126
    ∧ Ideal.exp2 (((expW t (BitVec.ofNat 32 (fieldOf t))).toInt : ℝ) : EReal) = (((2 : ℝ) ^ e : ℝ) : EReal)
    ∧ Ideal.exp2 (((0#32 - expW t (BitVec.ofNat 32 (fieldOf t))).toInt : ℝ) : EReal) = (((2 : ℝ) ^ (-e) : ℝ) : EReal)
    ∧ Ideal.ofBits .f32 ((expW t (BitVec.ofNat 32 (fieldOf t)) + 127#32) <<< 23) = (((2 : ℝ) ^ e : ℝ) : EReal)
    ∧ Ideal.ofBits .f32 ((127#32 - expW t (BitVec.ofNat 32 (fieldOf t))) <<< 23) = (((2 : ℝ) ^ (-e) : ℝ) : EReal) := by
  have key : ∀ n : Fin 253, expW t (BitVec.ofNat 32 (fieldOf t)) = BitVec.ofNat 32 n.val - 126#32 → _ := fun n hn =>
    (⟨(n.val : ℤ) - 126, by omega, by omega, by rw [hn, (words n).1, exp2_int],
      by rw [hn, (words n).2.1, exp2_int, show -((n.val : ℤ) - 126) = 126 - (n.val : ℤ) by ring],
      by rw [hn, (words n).2.2.1]; exact (pw_normal _ (by omega) (by omega)).trans (by rw [show ((n.val + 1 : ℕ) : ℤ) - 127 = (n.val : ℤ) - 126 by push_cast; ring]),
      by rw [hn, (words n).2.2.2]; exact (pw_normal _ (by omega) (by omega)).trans (by rw [show ((253 - n.val : ℕ) : ℤ) - 127 = -((n.val : ℤ) - 126) by omega])⟩ : ∃ e : ℤ, -126 ≤ e ∧ e ≤ 126
    ∧ Ideal.exp2 (((expW t (BitVec.ofNat 32 (fieldOf t))).toInt : ℝ) : EReal) = (((2 : ℝ) ^ e : ℝ) : EReal)
    ∧ Ideal.exp2 (((0#32 - expW t (BitVec.ofNat 32 (fieldOf t))).toInt : ℝ) : EReal) = (((2 : ℝ) ^ (-e) : ℝ) : EReal)
    ∧ Ideal.ofBits .f32 ((expW t (BitVec.ofNat 32 (fieldOf t)) + 127#32) <<< 23) = (((2 : ℝ) ^ e : ℝ) : EReal)
    ∧ Ideal.ofBits .f32 ((127#32 - expW t (BitVec.ofNat 32 (fieldOf t))) <<< 23) = (((2 : ℝ) ^ (-e) : ℝ) : EReal))
  by_cases h0 : t = 0
  · exact key ⟨126, by omega⟩ (by simp [expW, Scalar.select, Ideal.cmp, h0])
  · exact key ⟨fieldOf t, by have := fieldOf_lt t h; omega⟩ (by simp [expW, Scalar.select, Ideal.cmp, h0])

end Cert.Scale

end
-- ==== Proof.Token.lean ====
/- One token's gradient, in real numbers: the kernel's form (the unscaled gradient times one factor) and the reference's form
   are one real number, its size is bounded, and so the largest scaled magnitudes, the scales and the codes agree. -/
module

public import proofs.«01_k».proof.Proof.Scale

@[expose] public section

noncomputable section

namespace Cert.Token

open Idealize.ShloMosaic Finset

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- A magnitude. -/
def mag (x : EReal) : EReal := max x (-x)

theorem mag_coe (a : ℝ) : mag (a : EReal) = ((|a| : ℝ) : EReal) := by
  unfold mag
  rw [← EReal.coe_neg]
  exact (EReal.coe_strictMono.monotone.map_max (a := a) (b := -a)).symm

variable {n : ℕ} (Q X G : Fin n → ℝ) (S R : ℝ)

/-- The unscaled gradient. -/
def zr (j : Fin n) : ℝ := Q j * G j - (∑ k, Q k * G k) * (1 / 20480) - X j * ((∑ k, Q k * G k * X k) * (1 / 20480))

/-- The kernel's form. -/
theorem z_form (j : Fin n) :
    ((Q j : EReal) * G j - (∑ k, (Q k : EReal) * G k) * ((1 / 20480 : ℝ) : EReal)) - (X j : EReal) * ((∑ k, (Q k : EReal) * G k * X k) * ((1 / 20480 : ℝ) : EReal))
      = ((zr Q X G j : ℝ) : EReal) := by
  unfold zr
  simp only [EReal.coe_sub, EReal.coe_mul, coe_sum]

/-- The reference's form. -/
theorem dx_form (j : Fin n) :
    (R : EReal) * (((Q j : EReal) * S * G j - Ideal.div (∑ k, (Q k : EReal) * S * G k) ((20480 : ℝ) : EReal))
        - (X j : EReal) * Ideal.div (∑ k, (Q k : EReal) * S * G k * X k) ((20480 : ℝ) : EReal))
      = ((S * R * zr Q X G j : ℝ) : EReal) := by
  have e1 : ∑ k, (Q k : EReal) * S * G k = ((S * ∑ k, Q k * G k : ℝ) : EReal) := by
    rw [Finset.mul_sum, coe_sum]
    exact Finset.sum_congr rfl fun k _ => by rw [← EReal.coe_mul, ← EReal.coe_mul]; congr 1; ring
  have e2 : ∑ k, (Q k : EReal) * S * G k * X k = ((S * ∑ k, Q k * G k * X k : ℝ) : EReal) := by
    rw [Finset.mul_sum, coe_sum]
    exact Finset.sum_congr rfl fun k _ => by rw [← EReal.coe_mul, ← EReal.coe_mul, ← EReal.coe_mul]; congr 1; ring
  rw [e1, e2, div_coe _ _ (by norm_num), div_coe _ _ (by norm_num), ← EReal.coe_mul, ← EReal.coe_mul, ← EReal.coe_sub, ← EReal.coe_mul, ← EReal.coe_sub, ← EReal.coe_mul]
  congr 1
  unfold zr
  ring

/-- Its size. -/
theorem zr_le (Q X G : Fin 20480 → ℝ) (hQ : ∀ j, |Q j| ≤ 2 ^ 16) (hX : ∀ j, |X j| ≤ 2 ^ 36) (hG : ∀ j, |G j| ≤ 2 ^ 20) (j : Fin 20480) : |zr Q X G j| ≤ 2 ^ 109 := by
  have u (k : Fin 20480) : |Q k * G k| ≤ 2 ^ 36 := by
    rw [abs_mul, show (2 : ℝ) ^ 36 = 2 ^ 16 * 2 ^ 20 by norm_num]
    exact mul_le_mul (hQ k) (hG k) (abs_nonneg _) (by positivity)
  have ux (k : Fin 20480) : |Q k * G k * X k| ≤ 2 ^ 72 := by
    rw [abs_mul, show (2 : ℝ) ^ 72 = 2 ^ 36 * 2 ^ 36 by norm_num]
    exact mul_le_mul (u k) (hX k) (abs_nonneg _) (by positivity)
  have sum (f : Fin 20480 → ℝ) (b : ℝ) (h : ∀ k, |f k| ≤ b) : |(∑ k, f k) * (1 / 20480)| ≤ b := by
    rw [abs_mul]
    have h1 : |∑ k, f k| ≤ 20480 * b := (Finset.abs_sum_le_sum_abs _ _).trans ((Finset.sum_le_sum fun k _ => h k).trans (by simp))
    rw [abs_of_pos (by norm_num : (0 : ℝ) < 1 / 20480)]
    linarith
  have m := sum _ _ u
  have nn := sum _ _ ux
  have xn : |X j * ((∑ k, Q k * G k * X k) * (1 / 20480))| ≤ 2 ^ 108 := by
    rw [abs_mul, show (2 : ℝ) ^ 108 = 2 ^ 36 * 2 ^ 72 by norm_num]
    exact mul_le_mul (hX j) nn (abs_nonneg _) (by positivity)
  unfold zr
  have a1 := abs_sub (Q j * G j - (∑ k, Q k * G k) * (1 / 20480)) (X j * ((∑ k, Q k * G k * X k) * (1 / 20480)))
  have a2 := abs_sub (Q j * G j) ((∑ k, Q k * G k) * (1 / 20480))
  have := u j
  have h : (2 : ℝ) ^ 36 + 2 ^ 36 + 2 ^ 108 ≤ 2 ^ 109 := by norm_num
  linarith

/-! ## A block's largest magnitude -/

/-- The largest of the numbers `f`, from the least of all. -/
def big (f : Fin 128 → EReal) : EReal := (univ : Finset (Fin 128)).fold max ⊥ f

theorem big_attained (f : Fin 128 → EReal) : ∃ l, big f = f l ∧ ∀ k, f k ≤ f l := by
  obtain ⟨l, _, hl⟩ := Finset.exists_max_image (univ : Finset (Fin 128)) f ⟨0, mem_univ _⟩
  refine ⟨l, le_antisymm ?_ ?_, fun k => hl k (mem_univ _)⟩
  · exact (Finset.fold_max_le _).2 ⟨bot_le, fun k _ => hl k (mem_univ _)⟩
  · exact (Finset.le_fold_max _).2 (Or.inr ⟨l, mem_univ _, le_rfl⟩)

theorem big_eq (f : Fin 128 → EReal) (l : Fin 128) (h : ∀ k, f k ≤ f l) : big f = f l := by
  obtain ⟨l', e, h'⟩ := big_attained f
  rw [e]
  exact le_antisymm (h l') (h' l)

theorem c_bits : Ideal.ofBits .f32 0x37924925#32 = ((9586981 / 2 ^ 39 : ℝ) : EReal) := by
  simp [Ideal.ofBits, Ideal.ieee, -EReal.coe_mul]; norm_num

/-- The scaled largest magnitudes of a block: the factor taken out, as in the kernel, or left in, as in the reference. -/
theorem big_scaled (Z : Fin 128 → ℝ) (S R : ℝ) (hZ : ∀ l, |Z l| ≤ 2 ^ 109) (h : |S * R| ≤ 2) :
    (big (fun l => mag (Z l : EReal)) * mag ((S : EReal) * R)) * Ideal.ofBits .f32 0x37924925#32
        = big (fun l => mag ((S * R * Z l : ℝ) : EReal)) * Ideal.ofBits .f32 0x37924925#32
      ∧ big (fun l => mag ((S * R * Z l : ℝ) : EReal)) * Ideal.ofBits .f32 0x37924925#32 < (((2 : ℝ) ^ (126 : ℤ) : ℝ) : EReal) := by
  obtain ⟨l, e, hl⟩ := big_attained fun l => mag (Z l : EReal)
  have e' : big (fun l => mag ((S * R * Z l : ℝ) : EReal)) = mag ((S * R * Z l : ℝ) : EReal) := big_eq _ l fun k => by
    have := hl k
    simp only [mag_coe, EReal.coe_le_coe_iff, abs_mul (S * R)] at this ⊢
    exact mul_le_mul_of_nonneg_left this (abs_nonneg _)
  rw [e, e', c_bits, ← EReal.coe_mul, mag_coe, mag_coe, mag_coe, ← EReal.coe_mul, ← EReal.coe_mul, ← EReal.coe_mul, EReal.coe_lt_coe_iff]
  refine ⟨?_, ?_⟩
  · rw [abs_mul (S * R), mul_comm |S * R|]
  · rw [abs_mul (S * R)]
    have : |S * R| * |Z l| ≤ 2 * 2 ^ 109 := mul_le_mul h (hZ l) (abs_nonneg _) (by norm_num)
    have h2 : (2 : ℝ) * 2 ^ 109 * (9586981 / 2 ^ 39) < 2 ^ (126 : ℤ) := by norm_num
    nlinarith

/-! ## A code -/

theorem p_bits : Ideal.ofBits .f32 0x7F000000#32 = (((2 : ℝ) ^ (127 : ℤ) : ℝ) : EReal) := by
  rw [show (2 : ℝ) ^ (127 : ℤ) = 170141183460469231731687303715884105728 by norm_num]
  simp [Ideal.ofBits, Ideal.ieee, -EReal.coe_mul]; norm_num
theorem m_bits : Ideal.ofBits .f32 0xFF000000#32 = ((-(2 : ℝ) ^ (127 : ℤ) : ℝ) : EReal) := by
  simp [Ideal.ofBits, Ideal.ieee, -EReal.coe_mul, -EReal.coe_neg]; norm_num

/-- The kernel's product by the factor clipped to `±2^127` is the reference's product by the power of two. -/
theorem code_arg (Z S R : ℝ) (e : ℤ) (he : -126 ≤ e) (h : |S * R| ≤ 2) :
    (Z : EReal) * min (Ideal.ofBits .f32 0x7F000000#32) (max (Ideal.ofBits .f32 0xFF000000#32) ((((2 : ℝ) ^ (-e) : ℝ) : EReal) * ((S : EReal) * R)))
      = ((S * R * Z : ℝ) : EReal) * (((2 : ℝ) ^ (-e) : ℝ) : EReal) := by
  have h1 : (2 : ℝ) ^ (-e) ≤ 2 ^ (126 : ℤ) := zpow_le_zpow_right₀ (by norm_num) (by omega)
  have h0 : (0 : ℝ) < (2 : ℝ) ^ (-e) := by positivity
  have hb : |(2 : ℝ) ^ (-e) * (S * R)| ≤ 2 ^ (127 : ℤ) := by
    rw [abs_mul, abs_of_pos h0, show (2 : ℝ) ^ (127 : ℤ) = 2 ^ (126 : ℤ) * 2 by norm_num]
    exact mul_le_mul h1 h (abs_nonneg _) (by positivity)
  obtain ⟨hl, hu⟩ := abs_le.1 hb
  rw [p_bits, m_bits, ← EReal.coe_mul, ← EReal.coe_mul, max_eq_right (EReal.coe_le_coe_iff.2 hl), min_eq_right (EReal.coe_le_coe_iff.2 hu),
    ← EReal.coe_mul, ← EReal.coe_mul]
  congr 1
  ring

end Cert.Token

end
-- ==== Proof.KernelIdealHand.Codes.lean ====
/- A point's codes and scales over the extended reals, element by element. -/
module

public import proofs.«01_k».proof.Proof.KernelIdealHand.Sums
public import proofs.«01_k».proof.Proof.Token

@[expose] public section

set_option maxRecDepth 16384

noncomputable section

namespace Cert.KernelIdeal.Codes

open Cert.KernelIdeal Cert.KernelIdeal.Gen Idealize.ShloMosaic Idealize.ShloMosaic.TcCoe Idealize.SL.Sem
open Cert.KernelIdeal.Body Cert.KernelIdeal.Acc Cert.KernelIdeal.Entry Cert.KernelIdeal.Sums
open Cert.Token
open Facts

/-- Column `l` of block `b`. -/
abbrev col (b : Fin 160) (l : Fin 128) : Fin 20480 := ⟨128 * b.val + l.val, by omega⟩

theorem emb_col (r : Fin 32) (b : ℕ) (hb : b < 160) (l : Fin 128) : (rC b hb).emb (ix2 r l) = (ix2 r (col ⟨b, hb⟩ l) : S32x20480.Idx) := by
  funext a
  apply Fin.ext
  match a with
  | ⟨0, _⟩ => show 0 + 1 * r.val = r.val; omega
  | ⟨1, _⟩ => show 128 * b + 1 * l.val = 128 * b + l.val; omega

theorem emb_colR (b : ℕ) (hb : b < 160) (l : Fin 128) : (rR b hb).emb (ix2 (0 : Fin 1) l) = (ix2 (0 : Fin 1) (col ⟨b, hb⟩ l) : S1x20480.Idx) := by
  funext a
  apply Fin.ext
  match a with
  | ⟨0, _⟩ => rfl
  | ⟨1, _⟩ => show 128 * b + 1 * l.val = 128 * b + l.val; omega

theorem emb_num (r : Fin 32) (b : Fin 160) : (rN b.val b.isLt).emb (ix2 r (0 : Fin 1)) = (ix2 r b : S32x160.Idx) := by
  funext a
  apply Fin.ext
  match a with
  | ⟨0, _⟩ => show 0 + 1 * r.val = r.val; omega
  | ⟨1, _⟩ => show b.val + 1 * 0 = b.val; omega

/-- A sum over the columns, by blocks. -/
theorem sum_cols (f : Fin 20480 → EReal) : ∑ l : Fin 128, ∑ b : Fin 160, f (col b l) = ∑ j : Fin 20480, f j := by
  rw [Finset.sum_comm]
  have e := sum_range_mul (fun k => if h : k < 20480 then f ⟨k, h⟩ else 0) 128 160
  rw [show 128 * 160 = 20480 from rfl, Finset.sum_range, Finset.sum_range] at e
  refine Eq.trans ?_ (e.symm.trans (Finset.sum_congr rfl fun j _ => dif_pos j.isLt))
  refine Finset.sum_congr rfl fun b _ => ?_
  rw [Finset.sum_range]
  refine Finset.sum_congr rfl fun l _ => ?_
  have hl : 128 * b.val + l.val < 20480 := (col b l).isLt
  rw [dif_pos hl]

theorem mean_at (x : FVec Ideal S32x128 .f32) (r : Fin 32) :
    (mean x (ix2 r (0 : Fin 1)) : EReal) = (∑ l : Fin 128, (x (ix2 r l) : EReal)) * ((1 / 20480 : ℝ) : EReal) := by
  unfold mean
  pointwise
  rfl

theorem rmax_at (x : FVec Ideal S32x128 .f32) (r : Fin 32) : (rmax x (ix2 r (0 : Fin 1)) : EReal) = big fun l => mag (x (ix2 r l)) := by
  unfold rmax
  pointwise
  rfl

theorem tokm_at (x : FVec Ideal S32x1 .f32) (r : Fin 32) (b : Fin 160) (h : S32x1.Broadcasts S32x160) : broadcastTo S32x160 x h (ix2 r b) = x (ix2 r (0 : Fin 1)) := by
  pointwise

variable (x0 : Vec Ideal S32x20480 .fp8e4m3) (x1 : Vec Ideal S32x160 .f32) (x2 : Vec Ideal S32x20480 .fp8e5m2) (x3 x4 : Vec Ideal S32x1 .f32)
  (x5 x6 x7 : Vec Ideal S1x20480 .f32)

/-- A code times its gain. -/
def uB (r : Fin 32) (j : Fin 20480) : EReal := (x2 (ix2 r j) : EReal) * x5 (ix2 (0 : Fin 1) j)
/-- The unscaled gradient. -/
def zB (r : Fin 32) (j : Fin 20480) : EReal :=
  (uB x2 x5 r j - (∑ k, uB x2 x5 r k) * ((1 / 20480 : ℝ) : EReal))
    - xhB x0 x1 x6 x7 r j * ((∑ k, uB x2 x5 r k * xhB x0 x1 x6 x7 r k) * ((1 / 20480 : ℝ) : EReal))

theorem q_at (r : Fin 32) (b : ℕ) (hb : b < 160) (l : Fin 128) : (qv (bC x2 b hb) (ix2 r l) : EReal) * rowv (bR x5 b hb) (ix2 r l) = uB x2 x5 r (col ⟨b, hb⟩ l) := by
  rw [qv_at, rowv_at]
  show (x2 ((rC b hb).emb _) : EReal) * x5 ((rR b hb).emb _) = _
  rw [emb_col, emb_colR]
  rfl

theorem xc_at (r : Fin 32) (b : ℕ) (hb : b < 160) (l : Fin 128) : (xhb x0 x1 x6 x7 b hb (ix2 r l) : EReal) = xhB x0 x1 x6 x7 r (col ⟨b, hb⟩ l) := by
  have hk : blk (col ⟨b, hb⟩ l) = ⟨b, hb⟩ := Fin.ext (by show (128 * b + l.val) / 128 = b; omega)
  unfold xhb v8 xhB
  rw [xh_at, shapeCast_self, hk]
  show ((x0 ((rC b hb).emb _) : EReal) * _ - x7 ((rR b hb).emb _)) * x6 ((rR b hb).emb _) = _
  rw [emb_col, emb_colR]

theorem cg_at (r : Fin 32) (l : Fin 128) : ∀ (n : ℕ) (h : n ≤ 160), (cgAt x2 x5 n (ix2 r l) : EReal)
    = ∑ b : Fin n, uB x2 x5 r (col ⟨b.val, by omega⟩ l)
  | 0, _ => by
    show (Scalar.ofBits (F := Ideal) .f32 0x00000000#32 : EReal) = _
    simp [Scalar.ofBits]
  | n + 1, h => by
    rw [cgAt, dif_pos (by omega : n < 160), Fin.sum_univ_castSucc]
    show (cgAt x2 x5 n (ix2 r l) : EReal) + (qv (bC x2 n _) (ix2 r l) : EReal) * rowv (bR x5 n _) (ix2 r l) = _
    rw [cg_at r l n (by omega), q_at]
    rfl

theorem cgx_at (r : Fin 32) (l : Fin 128) : ∀ (n : ℕ) (h : n ≤ 160), (cgxAt x0 x1 x2 x5 x6 x7 n (ix2 r l) : EReal)
    = ∑ b : Fin n, uB x2 x5 r (col ⟨b.val, by omega⟩ l) * xhB x0 x1 x6 x7 r (col ⟨b.val, by omega⟩ l)
  | 0, _ => by
    show (Scalar.ofBits (F := Ideal) .f32 0x00000000#32 : EReal) = _
    simp [Scalar.ofBits]
  | n + 1, h => by
    rw [cgxAt, dif_pos (by omega : n < 160), Fin.sum_univ_castSucc]
    show (cgxAt x0 x1 x2 x5 x6 x7 n (ix2 r l) : EReal) + ((qv (bC x2 n _) (ix2 r l) : EReal) * rowv (bR x5 n _) (ix2 r l)) * xhb x0 x1 x6 x7 n _ (ix2 r l) = _
    rw [cgx_at r l n (by omega), q_at, xc_at]
    rfl

theorem zb_at (r : Fin 32) (b : ℕ) (hb : b < 160) (l : Fin 128) : (zb x0 x1 x2 x5 x6 x7 b hb (ix2 r l) : EReal) = zB x0 x1 x2 x5 x6 x7 r (col ⟨b, hb⟩ l) := by
  unfold zb zv zB
  show ((qv (bC x2 b hb) (ix2 r l) : EReal) * rowv (bR x5 b hb) (ix2 r l) - tokv (mean (cgAt x2 x5 160)) (ix2 r l))
    - (xhb x0 x1 x6 x7 b hb (ix2 r l) : EReal) * tokv (mean (cgxAt x0 x1 x2 x5 x6 x7 160)) (ix2 r l) = _
  rw [q_at, xc_at, tokv_at, tokv_at, mean_at, mean_at]
  rw [Finset.sum_congr rfl fun l _ => cg_at x2 x5 r l 160 le_rfl, Finset.sum_congr rfl fun l _ => cgx_at x0 x1 x2 x5 x6 x7 r l 160 le_rfl]
  rw [← sum_cols (uB x2 x5 r), ← sum_cols fun k => uB x2 x5 r k * xhB x0 x1 x6 x7 r k]

theorem z_at (r : Fin 32) (b : Fin 160) (l : Fin 128) : (zArr x0 x1 x2 x5 x6 x7 (ix2 r (col b l)) : EReal) = zB x0 x1 x2 x5 x6 x7 r (col b l) := by
  rw [show (ix2 r (col b l) : S32x20480.Idx) = (rC b.val b.isLt).emb (ix2 r l) from (emb_col r b.val b.isLt l).symm, zArr_emb, shapeCast_self]
  exact zb_at x0 x1 x2 x5 x6 x7 r b.val b.isLt l

theorem am_at (r : Fin 32) (b : Fin 160) : (amArr x0 x1 x2 x5 x6 x7 (ix2 r b) : EReal) = big fun l => mag (zB x0 x1 x2 x5 x6 x7 r (col b l)) := by
  rw [← emb_num, amArr_emb, shapeCast_self, rmax_at]
  exact congrArg big (funext fun l => congrArg mag (zb_at x0 x1 x2 x5 x6 x7 r b.val b.isLt l))

/-- A block's scaled largest magnitude. -/
def tB (r : Fin 32) (b : Fin 160) : EReal :=
  (big (fun l => mag (zB x0 x1 x2 x5 x6 x7 r (col b l))) * mag ((x3 (ix2 r (0 : Fin 1)) : EReal) * x4 (ix2 r (0 : Fin 1)))) * Ideal.ofBits .f32 0x37924925#32

theorem g_at (r : Fin 32) : (gTok x3 x4 (ix2 r (0 : Fin 1)) : EReal) = (x3 (ix2 r (0 : Fin 1)) : EReal) * x4 (ix2 r (0 : Fin 1)) := by
  unfold gTok
  rw [shapeCast_self, shapeCast_self]
  rfl

theorem t_at (r : Fin 32) (b : Fin 160) : (tv (gTok x3 x4) (amArr x0 x1 x2 x5 x6 x7) (ix2 r b) : EReal) = tB x0 x1 x2 x3 x4 x5 x6 x7 r b := by
  unfold tv tB
  show ((amArr x0 x1 x2 x5 x6 x7 (ix2 r b) : EReal) * broadcastTo S32x160 (absf (gTok x3 x4)) _ (ix2 r b)) * _ = _
  rw [tokm_at, am_at]
  show (_ * mag (gTok x3 x4 (ix2 r (0 : Fin 1)))) * _ = _
  rw [g_at]
  rfl

/-- A block's exponent. -/
def eB (r : Fin 32) (b : Fin 160) : BitVec 32 :=
  Scale.expW (tB x0 x1 x2 x3 x4 x5 x6 x7 r b) (BitVec.ofNat 32 (Scale.fieldOf (tB x0 x1 x2 x3 x4 x5 x6 x7 r b)))

theorem probe_at (t : FVec Ideal S32x160 .f32) (k : BitVec 32) (f : IVec S32x160 32) (i : S32x160.Idx) :
    probe t k f i = Scale.step (t i) k (f i) := rfl

theorem expo_at (t : FVec Ideal S32x160 .f32) (i : S32x160.Idx) : expo t i = Scale.expW (t i) (BitVec.ofNat 32 (Scale.fieldOf (t i))) := by
  unfold expo
  show Scalar.select (Ideal.cmp .oeq (t i) (Ideal.ofBits .f32 0x00000000#32)) 0#32 (field t i - 126#32) = _
  rw [Ideal.ofBits_zero_f32]
  refine congrArg (fun w => Scalar.select (Ideal.cmp .oeq (t i) 0) 0#32 (w - 126#32)) ?_
  rw [← Scale.search_eq]
  unfold field Scale.search
  simp only [probe_at]
  rfl

theorem e_at (r : Fin 32) (b : Fin 160) : eArr x0 x1 x2 x3 x4 x5 x6 x7 (ix2 r b) = eB x0 x1 x2 x3 x4 x5 x6 x7 r b := by
  unfold eArr eB
  rw [expo_at, t_at]

theorem sc_at (r : Fin 32) (b : Fin 160) : (scArr x0 x1 x2 x3 x4 x5 x6 x7 (ix2 r b) : EReal) = Ideal.ofBits .f32 ((eB x0 x1 x2 x3 x4 x5 x6 x7 r b + 127#32) <<< 23) := by
  unfold scArr
  show Ideal.ofBits .f32 ((eArr x0 x1 x2 x3 x4 x5 x6 x7 (ix2 r b) + 127#32) <<< 23) = _
  rw [e_at]

theorem co_at (r : Fin 32) (b : Fin 160) (l : Fin 128) : (coArr x0 x1 x2 x3 x4 x5 x6 x7 (ix2 r (col b l)) : EReal)
    = min (Ideal.ofBits .f32 0x47600000#32) (max (Ideal.ofBits .f32 0xC7600000#32) (zB x0 x1 x2 x5 x6 x7 r (col b l)
      * min (Ideal.ofBits .f32 0x7F000000#32) (max (Ideal.ofBits .f32 0xFF000000#32)
        (Ideal.ofBits .f32 ((127#32 - eB x0 x1 x2 x3 x4 x5 x6 x7 r b) <<< 23) * ((x3 (ix2 r (0 : Fin 1)) : EReal) * x4 (ix2 r (0 : Fin 1))))))) := by
  conv_lhs => rw [show (ix2 r (col b l) : S32x20480.Idx) = (rC b.val b.isLt).emb (ix2 r l) from (emb_col r b.val b.isLt l).symm]
  rw [coArr_emb]
  unfold code
  show min (Ideal.ofBits .f32 0x47600000#32) (max (Ideal.ofBits .f32 0xC7600000#32)
    ((zArr x0 x1 x2 x5 x6 x7 ((rC b.val b.isLt).emb (ix2 r l)) : EReal) * colv (fac (gTok x3 x4) (eArr x0 x1 x2 x3 x4 x5 x6 x7)) b.val b.isLt (ix2 r l))) = _
  rw [emb_col, colv_at]
  show min _ (max _ ((zArr x0 x1 x2 x5 x6 x7 (ix2 r (col b l)) : EReal) * min (Ideal.ofBits .f32 0x7F000000#32) (max (Ideal.ofBits .f32 0xFF000000#32)
    (Ideal.ofBits .f32 ((127#32 - eArr x0 x1 x2 x3 x4 x5 x6 x7 (ix2 r b)) <<< 23) * (broadcastTo S32x160 (gTok x3 x4) _ (ix2 r b) : EReal))))) = _
  rw [z_at, e_at, tokm_at, g_at]

end Cert.KernelIdeal.Codes

end
-- ==== Proof.ReferenceIdealHand.Codes.lean ====
/- The reference's codes and scales over the extended reals, element by element. -/
module

public import proofs.«01_k».proof.Proof.ReferenceIdealHand.Sums
public import proofs.«01_k».proof.Proof.Token
public import Idealize.ShloMosaic.Lib.WordSum

@[expose] public section

set_option maxRecDepth 16384

noncomputable section

namespace Cert.ReferenceIdeal.Codes

open Cert.ReferenceIdeal Cert.ReferenceIdeal.Gen Idealize.ShloMosaic Idealize.ShloMosaic.TcCoe
open Cert.ReferenceIdeal.Sums Cert.Token
open Facts

/-- Column `l` of block `k`. -/
abbrev col (k : Fin 160) (l : Fin 128) : Fin 20480 := ⟨128 * k.val + l.val, by omega⟩

section
variable {α : Type}
theorem col_at (x : S3x512.Idx → α) (h : S3x512.ShapeCasts S3x512x1) (b : Fin 3) (t : Fin 512) : shapeCast S3x512x1 x h (ix3 b t (0 : Fin 1)) = x (ix2 b t) := by
  pointwise

theorem spread_at (x : S3x512x1.Idx → α) (h : S3x512x1.Broadcasts S3x512x20480) (b : Fin 3) (t : Fin 512) (j : Fin 20480) :
    broadcastTo S3x512x20480 x h (ix3 b t j) = x (ix3 b t (0 : Fin 1)) := by
  pointwise

theorem flat_at (x : S3x512x20480.Idx → α) (h : S3x512x20480.ShapeCasts S3x512x160x128) (b : Fin 3) (t : Fin 512) (k : Fin 160) (l : Fin 128) :
    shapeCast S3x512x160x128 x h (ix4 b t k l) = x (ix3 b t (col k l)) := by
  rw [cast_flat]
  exact congrArg (fun j => x (ix3 b t j)) (Fin.ext (by show k.val * 128 + l.val = 128 * k.val + l.val; omega))

theorem tiers_at (x : S3x512x160.Idx → α) (h : S3x512x160.ShapeCasts S3x512x160x1) (h' : S3x512x160x1.Broadcasts S3x512x160x254)
    (b : Fin 3) (t : Fin 512) (k : Fin 160) (l : Fin 254) : broadcastTo S3x512x160x254 (shapeCast S3x512x160x1 x h) h' (ix4 b t k l) = x (ix3 b t k) := by
  pointwise

/-- Token `512 b + t`, column `l` of block `k`. -/
theorem rows_at (x : S3x512x160x128.Idx → α) (h : S3x512x160x128.ShapeCasts S1536x20480) (b : Fin 3) (t : Fin 512) (k : Fin 160) (l : Fin 128) :
    shapeCast S1536x20480 x h (ix2 (⟨512 * b.val + t.val, by omega⟩ : Fin 1536) (col k l)) = x (ix4 b t k l) := by
  pointwise
  congr 1
  funext a
  apply Fin.ext
  match a with
  | ⟨0, _⟩ => simp
  | ⟨1, _⟩ => simp
  | ⟨2, _⟩ => simp; omega
  | ⟨3, _⟩ => simp

theorem rowsN_at (x : S3x512x160.Idx → α) (h : S3x512x160.ShapeCasts S1536x160) (b : Fin 3) (t : Fin 512) (k : Fin 160) :
    shapeCast S1536x160 x h (ix2 (⟨512 * b.val + t.val, by omega⟩ : Fin 1536) k) = x (ix3 b t k) := by
  pointwise
end

theorem sum_at (v : FVec Ideal S3x512x20480 .f32) (b : Fin 3) (t : Fin 512) (h h' h'') :
    (multiReduction .add [2] S3x512 v 0x00000000#32 h h' h'' (ix2 b t) : EReal) = ∑ j : Fin 20480, (v (ix3 b t j) : EReal) := by
  pointwise

/-- The blocks' largest magnitudes. -/
def rmx (v : FVec Ideal S3x512x160x128 .f32) : FVec Ideal S3x512x160 .f32 :=
  multiReduction .maximumf [3] S3x512x160 (absf v) 0xFF800000#32 reduces_S3x512x160x128_S3x512x160 (.inl rfl) rfl

theorem rmx_at (v : FVec Ideal S3x512x160x128 .f32) (b : Fin 3) (t : Fin 512) (k : Fin 160) :
    (rmx v (ix3 b t k) : EReal) = big fun l : Fin 128 => mag (v (ix4 b t k l)) := by
  unfold rmx
  pointwise
  rfl

/-- A fold of word addition from zero over few words is the word of the sum of their values. -/
theorem fold_add {n : ℕ} (g : Fin n → BitVec 32) (N : ℕ) (hN : N < 2 ^ 32) (h : ∑ j, (g j).toNat = N) :
    (Finset.univ : Finset (Fin n)).fold IKind.add.op 0#32 g = BitVec.ofNat 32 N := by
  have e : (Finset.univ : Finset (Fin n)).fold IKind.add.op 0#32 g = ∑ j, g j := rfl
  rw [e]
  apply BitVec.eq_of_toNat_eq
  rw [WordSum.toNat_sum _ _ (by rw [h]; exact hN), h, BitVec.toNat_ofNat, Nat.mod_eq_of_lt hN]

/-- The sums of words over the last axis. -/
def cnt (v : IVec S3x512x160x254 32) : IVec S3x512x160 32 := multiReductionI .add [3] S3x512x160 v 0#32 reduces_S3x512x160x254_S3x512x160 rfl

theorem cnt_at (v : IVec S3x512x160x254 32) (b : Fin 3) (t : Fin 512) (k : Fin 160) :
    cnt v (ix3 b t k) = (Finset.univ : Finset (Fin 254)).fold IKind.add.op 0#32 fun l => v (ix4 b t k l) := by
  unfold cnt
  pointwise

theorem steps_at (b : Fin 3) (t : Fin 512) (k : Fin 160) (l : Fin 254) :
    iota .tc S3x512x160x254 32 [3] iota_S3x512x160x254_d3_w32 (ix4 b t k l) = BitVec.ofNat 32 l.val := by
  pointwise

variable (q : Vec Ideal S3x512x20480 .fp8e5m2) (s r : Vec Ideal S3x512 .f32) (ga be : Vec Ideal S20480 .f32)
  (y : Vec Ideal S3x512x20480 .fp8e4m3) (ys : Vec Ideal S3x512x160 .f32) (b : Fin 3) (t : Fin 512)

/-- The gradient of one normalised activation. -/
abbrev uR (j : Fin 20480) : EReal := (q (ix3 b t j) : EReal) * s (ix2 b t) * ga (ix1 j)
/-- One normalised activation. -/
abbrev xhR (j : Fin 20480) : EReal := k0_pay4 y ys ga be (ix3 b t j)
/-- The number of columns. -/
abbrev dBits : EReal := Ideal.ofBits .f32 0x46A00000#32
/-- One element of dx. -/
def dxR (j : Fin 20480) : EReal :=
  r (ix2 b t) * ((uR q s ga b t j - Ideal.div (∑ i, uR q s ga b t i) dBits) - xhR ga be y ys b t j * Ideal.div (∑ i, uR q s ga b t i * xhR ga be y ys b t i) dBits)

theorem pay5_at (j : Fin 20480) : (k0_pay5 q s ga (ix3 b t j) : EReal) = uR q s ga b t j := by
  unfold k0_pay5
  show (k0_pay3 q s (ix3 b t j) : EReal) * broadcastTo S3x512x20480 _ _ (ix3 b t j) = _
  rw [pay3_at, row_at]

theorem pay6_at : (k0_pay6 q s ga (ix3 b t (0 : Fin 1)) : EReal) = Ideal.div (∑ i, uR q s ga b t i) dBits := by
  unfold k0_pay6
  show Ideal.div (shapeCast S3x512x1 _ _ (ix3 b t (0 : Fin 1))) _ = _
  rw [col_at]
  refine (congrArg (fun v => Ideal.div v dBits) (sum_at (k0_pay5 q s ga) b t _ _ _)).trans ?_
  simp only [pay5_at]

theorem pay7_at : (k0_pay7 y ys q s ga be (ix3 b t (0 : Fin 1)) : EReal) = ∑ i, uR q s ga b t i * xhR ga be y ys b t i := by
  unfold k0_pay7
  rw [col_at]
  refine (sum_at _ b t _ _ _).trans (Finset.sum_congr rfl fun j _ => ?_)
  show (k0_pay5 q s ga (ix3 b t j) : EReal) * _ = _
  rw [pay5_at]

theorem pay10_at (k : Fin 160) (l : Fin 128) :
    (k0_pay10 (k0_pay4 y ys ga be) (k0_pay5 q s ga) (k0_pay6 q s ga) (k0_pay7 y ys q s ga be) r (ix4 b t k l) : EReal) = dxR q s r ga be y ys b t (col k l) := by
  unfold k0_pay10
  rw [flat_at]
  show (broadcastTo S3x512x20480 _ _ (ix3 b t (col k l)) : EReal) * (((k0_pay5 q s ga (ix3 b t (col k l)) : EReal) - broadcastTo S3x512x20480 _ _ (ix3 b t (col k l)))
    - (k0_pay4 y ys ga be (ix3 b t (col k l)) : EReal) * broadcastTo S3x512x20480 _ _ (ix3 b t (col k l))) = _
  rw [spread_at, spread_at, spread_at, col_at, pay5_at, pay6_at]
  show _ * (_ - _ * Ideal.div (k0_pay7 y ys q s ga be (ix3 b t (0 : Fin 1)) : EReal) dBits) = _
  rw [pay7_at]
  rfl

/-- A block's largest magnitude, scaled. -/
def tR (k : Fin 160) : EReal := (big fun l : Fin 128 => mag (dxR q s r ga be y ys b t (col k l))) * Ideal.ofBits .f32 0x37924925#32
/-- The exponent of a block's scale. -/
def eR (k : Fin 160) : BitVec 32 := Scale.expW (tR q s r ga be y ys b t k) (BitVec.ofNat 32 (Scale.fieldOf (tR q s r ga be y ys b t k)))

theorem scaled_at (x : FVec Ideal S3x512x160 .f32) (i : S3x512x160.Idx) :
    (mulf x (broadcast S3x512x160 (Scalar.ofBits .f32 0x37924925#32)) i : EReal) = (x i : EReal) * Ideal.ofBits .f32 0x37924925#32 := rfl

/-- The largest magnitudes, scaled. -/
def tiers (v : FVec Ideal S3x512x160x128 .f32) : FVec Ideal S3x512x160 .f32 := mulf (rmx v) (broadcast S3x512x160 (Scalar.ofBits .f32 0x37924925#32))

theorem tiers_eq (v : FVec Ideal S3x512x160x128 .f32) (k : Fin 160) :
    (tiers v (ix3 b t k) : EReal) = (big fun l : Fin 128 => mag (v (ix4 b t k l))) * Ideal.ofBits .f32 0x37924925#32 := by
  unfold tiers
  rw [scaled_at, rmx_at]

/-- Which powers of two each scaled magnitude reaches. -/
def reached (T : FVec Ideal S3x512x160 .f32) : IVec S3x512x160x254 32 :=
  extui 32 (cmpf .oge (broadcastTo S3x512x160x254 (shapeCast S3x512x160x1 T shapeCasts_S3x512x160_S3x512x160x1) broadcasts_S3x512x160x1_S3x512x160x254)
    (exp2 (sitofp .f32 (subi (iota .tc S3x512x160x254 32 [3] iota_S3x512x160x254_d3_w32) (broadcast S3x512x160x254 126#32))))) natLt_1_32

theorem reached_at (T : FVec Ideal S3x512x160 .f32) (k : Fin 160) (l : Fin 254) :
    reached T (ix4 b t k l) = (Scale.bit (T (ix3 b t k)) l.val).zeroExtend 32 := by
  show (Ideal.cmp .oge (broadcastTo S3x512x160x254 _ _ (ix4 b t k l) : EReal)
    (Ideal.exp2 (((iota .tc S3x512x160x254 32 [3] iota_S3x512x160x254_d3_w32 (ix4 b t k l) - 126#32).toInt : ℝ) : EReal))).zeroExtend 32 = _
  rw [tiers_at, steps_at]
  rfl

/-- The exponents of the blocks' scales. -/
def expo (T : FVec Ideal S3x512x160 .f32) : IVec S3x512x160 32 :=
  select (cmpf .oeq T (broadcast S3x512x160 (Scalar.ofBits .f32 0x00000000#32))) (broadcast S3x512x160 0#32)
    (subi (cnt (reached T)) (broadcast S3x512x160 126#32))

theorem expo_at (T : FVec Ideal S3x512x160 .f32) (k : Fin 160) (x : EReal) (hx : (T (ix3 b t k) : EReal) = x) (hk : Scale.fieldOf x ≤ 254) :
    expo T (ix3 b t k) = Scale.expW x (BitVec.ofNat 32 (Scale.fieldOf x)) := by
  have hc : cnt (reached T) (ix3 b t k) = BitVec.ofNat 32 (Scale.fieldOf x) := by
    rw [cnt_at]
    refine fold_add _ _ (by omega) ?_
    rw [← Scale.count_eq _ hk]
    refine Finset.sum_congr rfl fun l _ => ?_
    rw [reached_at, hx]
  show Scalar.select (Ideal.cmp .oeq (T (ix3 b t k) : EReal) (Ideal.ofBits .f32 0x00000000#32)) 0#32
    (cnt (reached T) (ix3 b t k) - 126#32) = _
  rw [hc, hx, Ideal.ofBits_zero_f32]
  rfl

theorem pay11_eq (x u : FVec Ideal S3x512x20480 .f32) (v w : FVec Ideal S3x512x1 .f32) (z : Vec Ideal S3x512 .f32) :
    k0_pay11 x u v w z = expo (tiers (k0_pay10 x u v w z)) := by
  unfold k0_pay11 expo tiers reached rmx cnt
  rfl

theorem pay11_at (k : Fin 160) (hk : Scale.fieldOf (tR q s r ga be y ys b t k) ≤ 254) :
    k0_pay11 (k0_pay4 y ys ga be) (k0_pay5 q s ga) (k0_pay6 q s ga) (k0_pay7 y ys q s ga be) r (ix3 b t k) = eR q s r ga be y ys b t k := by
  rw [pay11_eq]
  refine expo_at b t (tiers (k0_pay10 (k0_pay4 y ys ga be) (k0_pay5 q s ga) (k0_pay6 q s ga) (k0_pay7 y ys q s ga be) r)) k _ ?_ hk
  rw [tiers_eq]
  simp only [pay10_at]
  rfl

/-- A block's scale. -/
theorem scale_at (k : Fin 160) (hk : Scale.fieldOf (tR q s r ga be y ys b t k) ≤ 254) :
    (k0_pay2 (k0_pay12 (k0_pay4 y ys ga be) (k0_pay5 q s ga) (k0_pay6 q s ga) (k0_pay7 y ys q s ga be) r) (ix2 (⟨512 * b.val + t.val, by omega⟩ : Fin 1536) k) : EReal)
      = Ideal.exp2 (((eR q s r ga be y ys b t k).toInt : ℝ) : EReal) := by
  unfold k0_pay2
  rw [rowsN_at]
  unfold k0_pay12
  show Ideal.exp2 (((k0_pay11 (k0_pay4 y ys ga be) (k0_pay5 q s ga) (k0_pay6 q s ga) (k0_pay7 y ys q s ga be) r (ix3 b t k)).toInt : ℝ) : EReal) = _
  rw [pay11_at q s r ga be y ys b t k hk]

/-- A code. -/
theorem code_at (k : Fin 160) (l : Fin 128) (hk : Scale.fieldOf (tR q s r ga be y ys b t k) ≤ 254) :
    (k0_pay1 (k0_pay10 (k0_pay4 y ys ga be) (k0_pay5 q s ga) (k0_pay6 q s ga) (k0_pay7 y ys q s ga be) r)
        (k0_pay11 (k0_pay4 y ys ga be) (k0_pay5 q s ga) (k0_pay6 q s ga) (k0_pay7 y ys q s ga be) r) 0#32 (ix2 (⟨512 * b.val + t.val, by omega⟩ : Fin 1536) (col k l)) : EReal)
      = min (Ideal.ofBits .f32 0x47600000#32) (max (Ideal.ofBits .f32 0xC7600000#32)
          (dxR q s r ga be y ys b t (col k l) * Ideal.exp2 (((0#32 - eR q s r ga be y ys b t k).toInt : ℝ) : EReal))) := by
  unfold k0_pay1
  rw [rows_at]
  show min (Ideal.ofBits .f32 0x47600000#32) (max (Ideal.ofBits .f32 0xC7600000#32) ((k0_pay10 (k0_pay4 y ys ga be) (k0_pay5 q s ga) (k0_pay6 q s ga) (k0_pay7 y ys q s ga be) r (ix4 b t k l) : EReal) * broadcastTo S3x512x160x128 _ _ (ix4 b t k l))) = _
  rw [pay10_at, scales_at]
  show min _ (max _ (_ * Ideal.exp2 (((0#32 - k0_pay11 (k0_pay4 y ys ga be) (k0_pay5 q s ga) (k0_pay6 q s ga) (k0_pay7 y ys q s ga be) r (ix3 b t k)).toInt : ℝ) : EReal))) = _
  rw [pay11_at q s r ga be y ys b t k hk]

end Cert.ReferenceIdeal.Codes

end
-- ==== Proof.Tokens.lean ====
/- One token whose data are ordinary numbers: its codes and scales in the two programs. -/
module

public import proofs.«01_k».proof.Proof.KernelIdealHand.Codes
public import proofs.«01_k».proof.Proof.ReferenceIdealHand.Codes

@[expose] public section

set_option maxRecDepth 16384

noncomputable section

namespace Cert.Tokens

open Idealize.ShloMosaic Idealize.ShloMosaic.TcCoe
open Cert.Token
open Cert.KernelIdeal.Sums (xhB)
open Cert.KernelIdeal.Body (scArr coArr)
open Cert.KernelIdeal.Codes (col uB zB tB eB)
open Cert.ReferenceIdeal.Codes (dxR tR eR)
open Cert.ReferenceIdeal.Gen (k0_pay1 k0_pay2 k0_pay4 k0_pay5 k0_pay6 k0_pay7 k0_pay10 k0_pay11 k0_pay12)

-- The reference's arguments.
variable (y : Vec Ideal Cert.ReferenceIdeal.S3x512x20480 .fp8e4m3) (ys : Vec Ideal Cert.ReferenceIdeal.S3x512x160 .f32)
  (q : Vec Ideal Cert.ReferenceIdeal.S3x512x20480 .fp8e5m2) (s r : Vec Ideal Cert.ReferenceIdeal.S3x512 .f32)
  (ga be : Vec Ideal Cert.ReferenceIdeal.S20480 .f32) (b : Fin 3) (t : Fin 512)

-- A point's blocks.
variable (x0 : Vec Ideal Cert.KernelIdeal.S32x20480 .fp8e4m3) (x1 : Vec Ideal Cert.KernelIdeal.S32x160 .f32) (x2 : Vec Ideal Cert.KernelIdeal.S32x20480 .fp8e5m2)
  (x3 x4 : Vec Ideal Cert.KernelIdeal.S32x1 .f32) (x5 x6 x7 : Vec Ideal Cert.KernelIdeal.S1x20480 .f32) (p : Fin 32)

/-- Both programs see the token's data, which are ordinary numbers: the codes `Q`, the normalised activations `X`, the gains
    `G` and the two factors `S` and `R`. -/
structure Ordinary (Q X G : Fin 20480 → ℝ) (S R : ℝ) : Prop where
  q_eq : ∀ j, (q (ix3 b t j) : EReal) = (Q j : EReal)
  x_eq : ∀ j, (k0_pay4 (F := Ideal) y ys ga be (ix3 b t j) : EReal) = (X j : EReal)
  g_eq : ∀ j, (ga (ix1 j) : EReal) = (G j : EReal)
  s_eq : (s (ix2 b t) : EReal) = (S : EReal)
  r_eq : (r (ix2 b t) : EReal) = (R : EReal)
  q_le : ∀ j, |Q j| ≤ 2 ^ 16
  x_le : ∀ j, |X j| ≤ 2 ^ 36
  g_le : ∀ j, |G j| ≤ 2 ^ 20
  sr_le : |S * R| ≤ 2
  kq : ∀ j, (x2 (ix2 p j) : EReal) = q (ix3 b t j)
  kx : ∀ j, xhB x0 x1 x6 x7 p j = (k0_pay4 (F := Ideal) y ys ga be (ix3 b t j) : EReal)
  kg : ∀ j, (x5 (ix2 (0 : Fin 1) j) : EReal) = ga (ix1 j)
  ks : (x3 (ix2 p (0 : Fin 1)) : EReal) = s (ix2 b t)
  kr : (x4 (ix2 p (0 : Fin 1)) : EReal) = r (ix2 b t)

theorem d_bits : Ideal.ofBits .f32 0x46A00000#32 = ((20480 : ℝ) : EReal) := by
  simp [Ideal.ofBits, Ideal.ieee, -EReal.coe_mul]; norm_num

variable {y ys q s r ga be b t x0 x1 x2 x3 x4 x5 x6 x7 p} {Q X G : Fin 20480 → ℝ} {S R : ℝ} (h : Ordinary y ys q s r ga be b t x0 x1 x2 x3 x4 x5 x6 x7 p Q X G S R)

include h in
theorem z_eq (j : Fin 20480) : zB x0 x1 x2 x5 x6 x7 p j = ((zr Q X G j : ℝ) : EReal) := by
  unfold zB uB
  simp only [h.kq, h.kx, h.kg, h.q_eq, h.x_eq, h.g_eq]
  exact z_form Q X G j

include h in
theorem dx_eq (j : Fin 20480) : dxR q s r ga be y ys b t j = ((S * R * zr Q X G j : ℝ) : EReal) := by
  unfold dxR
  simp only [Cert.ReferenceIdeal.Codes.uR, Cert.ReferenceIdeal.Codes.xhR, Cert.ReferenceIdeal.Codes.dBits, h.q_eq, h.x_eq, h.g_eq, h.s_eq, h.r_eq, d_bits]
  exact dx_form Q X G S R j

include h in
theorem t_eq (k : Fin 160) : tB x0 x1 x2 x3 x4 x5 x6 x7 p k = tR q s r ga be y ys b t k ∧ tR q s r ga be y ys b t k < (((2 : ℝ) ^ (126 : ℤ) : ℝ) : EReal) := by
  unfold tB tR
  simp only [z_eq h, dx_eq h, h.ks, h.kr, h.s_eq, h.r_eq]
  exact big_scaled (fun l => zr Q X G (col k l)) S R (fun l => zr_le Q X G h.q_le h.x_le h.g_le _) h.sr_le

include h in
theorem e_eq (k : Fin 160) : eB x0 x1 x2 x3 x4 x5 x6 x7 p k = eR q s r ga be y ys b t k := by
  unfold eB eR
  rw [(t_eq h k).1]

include h in
/-- The scales of the two programs. -/
theorem scale_eq (k : Fin 160) : (k0_pay2 (k0_pay12 (k0_pay4 y ys ga be) (k0_pay5 q s ga) (k0_pay6 q s ga) (k0_pay7 y ys q s ga be) r) (ix2 (⟨512 * b.val + t.val, by omega⟩ : Fin 1536) k) : EReal)
    = scArr x0 x1 x2 x3 x4 x5 x6 x7 (ix2 p k) := by
  obtain ⟨e, h1, h2, h3, h4, h5, h6⟩ := Scale.expW_spec _ (t_eq h k).2
  rw [Cert.ReferenceIdeal.Codes.scale_at q s r ga be y ys b t k ((Scale.fieldOf_lt _ (t_eq h k).2).trans (by omega)), Cert.KernelIdeal.Codes.sc_at, e_eq h]
  exact h3.trans h5.symm

include h in
/-- The codes of the two programs. -/
theorem code_eq (k : Fin 160) (l : Fin 128) :
    (k0_pay1 (k0_pay10 (k0_pay4 y ys ga be) (k0_pay5 q s ga) (k0_pay6 q s ga) (k0_pay7 y ys q s ga be) r)
        (k0_pay11 (k0_pay4 y ys ga be) (k0_pay5 q s ga) (k0_pay6 q s ga) (k0_pay7 y ys q s ga be) r) 0#32 (ix2 (⟨512 * b.val + t.val, by omega⟩ : Fin 1536) (col k l)) : EReal)
    = coArr x0 x1 x2 x3 x4 x5 x6 x7 (ix2 p (col k l)) := by
  obtain ⟨e, h1, h2, h3, h4, h5, h6⟩ := Scale.expW_spec _ (t_eq h k).2
  refine (Cert.ReferenceIdeal.Codes.code_at q s r ga be y ys b t k l ((Scale.fieldOf_lt _ (t_eq h k).2).trans (by omega))).trans ?_
  rw [Cert.KernelIdeal.Codes.co_at, e_eq h, z_eq h, h.ks, h.kr, h.s_eq, h.r_eq]
  refine congrArg (fun w => min (Ideal.ofBits .f32 0x47600000#32) (max (Ideal.ofBits .f32 0xC7600000#32) w)) ?_
  unfold eR
  rw [h6, code_arg _ S R e h1 h.sr_le, h4]
  exact congrArg (fun w => w * _) (dx_eq h (col k l))

end Cert.Tokens

end
-- ==== Proof.Mask.lean ====
/- What the condition on a token says: every code is a number, every factor is at most `2^20` in magnitude, and the
   token's two factors multiply to at most `2`. -/
module

public import proofs.«01_k».proof.On_ordinary
public import proofs.«01_k».proof.Proof.Token
public import Idealize.ShloMosaic.PureOps.Ideal
public import Idealize.ShloMosaic.Lib.Pointwise

@[expose] public section

set_option maxRecDepth 16384

noncomputable section

namespace Cert.Mask

open Cert.On_ordinary Idealize.ShloMosaic Idealize.ShloMosaic.TcCoe
open Cert.Token

/-- A number between `-a` and `a`. -/
def Within (x : EReal) (a : ℝ) : Prop := ∃ r : ℝ, x = (r : EReal) ∧ |r| ≤ a

theorem within_of_mag (x : EReal) (a : ℝ) (h : mag x ≤ (a : EReal)) : Within x a := by
  induction x with
  | bot => exact absurd (le_trans (le_max_right _ _) h) (by simp)
  | top => exact absurd (le_trans (le_max_left _ _) h) (by simp)
  | coe r => exact ⟨r, rfl, by rw [mag_coe] at h; exact_mod_cast h⟩

/-! ## The codes -/

theorem small4 (x : BitVec 8) (h : IntOp.cmpi .sle (x.signExtend 32 &&& 127#32) 126#32 = 1#1) :
    ¬((BitVec.extractLsb' 3 4 x).toNat = 15 ∧ (BitVec.extractLsb' 0 3 x).toNat = 7) := by
  revert h
  revert x
  decide +kernel

theorem small5 (x : BitVec 8) (h : IntOp.cmpi .sle (x.signExtend 32 &&& 127#32) 123#32 = 1#1) : (BitVec.extractLsb' 2 5 x).toNat ≤ 30 := by
  revert h
  revert x
  decide +kernel

theorem val_le (p : Bool) (n N : ℕ) (e k : ℤ) (hn : n ≤ N) (he : e ≤ k) : |(if p then -1 else 1 : ℝ) * (n : ℝ) * (2 : ℝ) ^ e| ≤ N * (2 : ℝ) ^ k := by
  have h1 : |(if p then -1 else 1 : ℝ)| = 1 := by split <;> simp
  have h2 : (2 : ℝ) ^ e ≤ 2 ^ k := zpow_le_zpow_right₀ (by norm_num) he
  have h3 : (0 : ℝ) < (2 : ℝ) ^ e := by positivity
  rw [abs_mul, abs_mul, h1, one_mul, abs_of_pos h3, abs_of_nonneg (Nat.cast_nonneg n)]
  exact mul_le_mul (by exact_mod_cast hn) h2 h3.le (Nat.cast_nonneg N)

theorem e4m3_within (x : BitVec 8) (h : IntOp.cmpi .sle (x.signExtend 32 &&& 127#32) 126#32 = 1#1) : Within (Ideal.ofBits .fp8e4m3 x) 480 := by
  have hs := small4 x h
  have he : (BitVec.extractLsb' 3 4 x).toNat < 2 ^ 4 := BitVec.isLt _
  have hf : (BitVec.extractLsb' 0 3 x).toNat < 2 ^ 3 := BitVec.isLt _
  show Within (Ideal.e4m3fn x) 480
  unfold Ideal.e4m3fn
  simp only
  rw [if_neg hs]
  split
  · exact ⟨_, rfl, (val_le _ _ 7 (-9) (-9) (by omega) le_rfl).trans (by norm_num)⟩
  · exact ⟨_, rfl, (val_le _ _ 15 _ 5 (by omega) (by omega)).trans (by norm_num)⟩

theorem e5m2_within (x : BitVec 8) (h : IntOp.cmpi .sle (x.signExtend 32 &&& 127#32) 123#32 = 1#1) : Within (Ideal.ofBits .fp8e5m2 x) (2 ^ 16) := by
  have hs := small5 x h
  have he : (BitVec.extractLsb' 2 5 x).toNat < 2 ^ 5 := BitVec.isLt _
  have hf : (BitVec.extractLsb' 0 2 x).toNat < 2 ^ 2 := BitVec.isLt _
  show Within (Ideal.ieee 5 2 x) (2 ^ 16)
  unfold Ideal.ieee
  simp only
  rw [if_neg (by omega)]
  split
  · exact ⟨_, rfl, (val_le _ _ 3 _ 0 (by omega) (by norm_num)).trans (by norm_num)⟩
  · exact ⟨_, rfl, (val_le _ _ 7 _ 13 (by omega) (by have := hs; norm_num1; omega)).trans (by norm_num)⟩

/-! ## The condition -/

theorem and_one (x y : BitVec 1) (h : IntOp.andi x y = 1#1) : x = 1#1 ∧ y = 1#1 := by
  revert h; revert x y; decide

theorem fold_and {n : ℕ} (f : Fin n → BitVec 1) (h : (Finset.univ : Finset (Fin n)).fold IntOp.andi 1#1 f = 1#1) (k : Fin n) : f k = 1#1 := by
  have key : ∀ s : Finset (Fin n), s.fold IntOp.andi 1#1 f = 1#1 → ∀ k ∈ s, f k = 1#1 := by
    intro s
    induction s using Finset.induction_on with
    | empty => simp
    | insert a s ha ih =>
      intro h k hk
      rw [Finset.fold_insert ha] at h
      obtain ⟨h1, h2⟩ := and_one _ _ h
      rcases Finset.mem_insert.1 hk with rfl | hk
      · exact h1
      · exact ih h2 k hk
  exact key _ h k (Finset.mem_univ k)

theorem bits20 : Ideal.ofBits .f32 0x49800000#32 = ((1048576 : ℝ) : EReal) := by
  simp [Ideal.ofBits, Ideal.ieee, -EReal.coe_mul]; norm_num
theorem bits2 : Ideal.ofBits .f32 0x40000000#32 = ((2 : ℝ) : EReal) := by
  simp [Ideal.ofBits, Ideal.ieee, -EReal.coe_mul]; norm_num

theorem le_of_cmp (x y : EReal) (h : Ideal.cmp .ole x y = 1#1) : x ≤ y := by
  by_contra hc
  simp [Ideal.cmp, hc] at h

section
variable [Facts]
open Facts

theorem all_cols (v : IVec S3x512x20480 1) (b : Fin 3) (t : Fin 512) :
    Host.reduce IntOp.andi v (constantI S_ 1 1#1) reducesTo_S3x512x20480_S3x512_d2 h_S_ (ix2 b t) = (Finset.univ : Finset (Fin 20480)).fold IntOp.andi 1#1 fun j => v (ix3 b t j) := by
  pointwise

theorem all_blocks (v : IVec S3x512x160 1) (b : Fin 3) (t : Fin 512) :
    Host.reduce IntOp.andi v (constantI S_ 1 1#1) reducesTo_S3x512x160_S3x512_d2 h_S_ (ix2 b t) = (Finset.univ : Finset (Fin 160)).fold IntOp.andi 1#1 fun j => v (ix3 b t j) := by
  pointwise

theorem all_row (v : IVec S20480 1) (i : S_.Idx) :
    Host.reduce IntOp.andi v (constantI S_ 1 1#1) reducesTo_S20480_S_d0 h_S_ i = (Finset.univ : Finset (Fin 20480)).fold IntOp.andi 1#1 fun j => v (ix1 j) := by
  pointwise

theorem tok_rows (v : IVec S3x512 1) (b : Fin 3) (t : Fin 512) (j : Fin 20480) :
    broadcastInDim S1536x20480 ![0, 1] bcast_S1536x1_S1536x20480_0_1 (shapeCast S1536x1 v shapeCasts_S3x512_S1536x1) (ix2 (⟨512 * b.val + t.val, by omega⟩ : Fin 1536) j) = v (ix2 b t) := by
  pointwise

theorem tok_blocks (v : IVec S3x512 1) (b : Fin 3) (t : Fin 512) (k : Fin 160) :
    broadcastInDim S1536x160 ![0, 1] bcast_S1536x1_S1536x160_0_1 (shapeCast S1536x1 v shapeCasts_S3x512_S1536x1) (ix2 (⟨512 * b.val + t.val, by omega⟩ : Fin 1536) k) = v (ix2 b t) := by
  pointwise

theorem and_at (x y : IVec S3x512 1) (b : Fin 3) (t : Fin 512) : andi x y (ix2 b t) = IntOp.andi (x (ix2 b t)) (y (ix2 b t)) := rfl

theorem one_tok (v : IVec S_ 1) (b : Fin 3) (t : Fin 512) : broadcastInDim S3x512 ![] bcast_S_S3x512 v (ix2 b t) = v ix0 := by
  pointwise

variable (y : IVec S3x512x20480 8) (ys : FVec Ideal S3x512x160 .f32) (q : IVec S3x512x20480 8) (s r : FVec Ideal S3x512 .f32) (ga be : FVec Ideal S20480 .f32)

/-- What the condition says of a token. -/
structure Says (b : Fin 3) (t : Fin 512) : Prop where
  y_in : ∀ j, Within (Ideal.ofBits .fp8e4m3 (y (ix3 b t j))) 480
  q_in : ∀ j, Within (Ideal.ofBits .fp8e5m2 (q (ix3 b t j))) (2 ^ 16)
  ys_in : ∀ k, Within (ys (ix3 b t k)) 1048576
  s_in : Within (s (ix2 b t)) 1048576
  r_in : Within (r (ix2 b t)) 1048576
  sr_in : mag ((s (ix2 b t) : EReal) * r (ix2 b t)) ≤ ((2 : ℝ) : EReal)
  ga_in : ∀ j, Within (ga (ix1 j)) 1048576
  be_in : ∀ j, Within (be (ix1 j)) 1048576

/-- The condition at a token, as the program computes it before laying it out by rows. -/
def tok (b : Fin 3) (t : Fin 512) : BitVec 1 :=
  let codes := fun j => IntOp.andi (IntOp.cmpi .sle ((y (ix3 b t j)).signExtend 32 &&& 127#32) 126#32) (IntOp.cmpi .sle ((q (ix3 b t j)).signExtend 32 &&& 127#32) 123#32)
  let scales := fun k => Ideal.cmp .ole (mag (ys (ix3 b t k))) (Ideal.ofBits .f32 0x49800000#32)
  let rows := fun j => IntOp.andi (Ideal.cmp .ole (mag (ga (ix1 j))) (Ideal.ofBits .f32 0x49800000#32)) (Ideal.cmp .ole (mag (be (ix1 j))) (Ideal.ofBits .f32 0x49800000#32))
  IntOp.andi (IntOp.andi (IntOp.andi (IntOp.andi (IntOp.andi
      ((Finset.univ : Finset (Fin 20480)).fold IntOp.andi 1#1 codes) ((Finset.univ : Finset (Fin 160)).fold IntOp.andi 1#1 scales))
      (Ideal.cmp .ole (mag (s (ix2 b t))) (Ideal.ofBits .f32 0x49800000#32)))
      (Ideal.cmp .ole (mag (r (ix2 b t))) (Ideal.ofBits .f32 0x49800000#32)))
      (Ideal.cmp .ole (mag ((s (ix2 b t) : EReal) * r (ix2 b t))) (Ideal.ofBits .f32 0x40000000#32)))
    ((Finset.univ : Finset (Fin 20480)).fold IntOp.andi 1#1 rows)

theorem says_of_tok (b : Fin 3) (t : Fin 512) (h : tok y ys q s r ga be b t = 1#1) : Says y ys q s r ga be b t := by
  obtain ⟨h, h7⟩ := and_one _ _ h
  obtain ⟨h, h6⟩ := and_one _ _ h
  obtain ⟨h, h5⟩ := and_one _ _ h
  obtain ⟨h, h4⟩ := and_one _ _ h
  obtain ⟨h1, h2⟩ := and_one _ _ h
  have in20 (x : EReal) (hx : Ideal.cmp .ole (mag x) (Ideal.ofBits .f32 0x49800000#32) = 1#1) : Within x 1048576 :=
    within_of_mag _ _ (by rw [← bits20]; exact le_of_cmp _ _ hx)
  exact ⟨fun j => e4m3_within _ (and_one _ _ (fold_and _ h1 j)).1, fun j => e5m2_within _ (and_one _ _ (fold_and _ h1 j)).2,
    fun k => in20 _ (fold_and _ h2 k), in20 _ h4, in20 _ h5, by rw [← bits2]; exact le_of_cmp _ _ h6,
    fun j => in20 _ (and_one _ _ (fold_and _ h7 j)).1, fun j => in20 _ (and_one _ _ (fold_and _ h7 j)).2⟩

/-- The condition on one code. -/
theorem codes_at (b : Fin 3) (t : Fin 512) (j : Fin 20480) : (fn (F := Ideal) y ys q s r ga be).2.2.1 (ix2 (⟨512 * b.val + t.val, by omega⟩ : Fin 1536) j) = tok y ys q s r ga be b t := by
  unfold fn fn_part1 fn_part2
  simp only
  rw [tok_rows]
  rw [and_at, and_at, and_at, and_at, and_at, all_cols, all_blocks, one_tok, all_row]
  rfl

/-- The condition on one scale. -/
theorem scales_at (b : Fin 3) (t : Fin 512) (k : Fin 160) : (fn (F := Ideal) y ys q s r ga be).2.2.2 (ix2 (⟨512 * b.val + t.val, by omega⟩ : Fin 1536) k) = tok y ys q s r ga be b t := by
  unfold fn fn_part1 fn_part2
  simp only
  rw [tok_blocks]
  rw [and_at, and_at, and_at, and_at, and_at, all_cols, all_blocks, one_tok, all_row]
  rfl

end

end Cert.Mask

end
-- ==== Proof.Rows.lean ====
/- A row of the codes and of the scales, in the two programs: where the condition says a token's data are ordinary numbers, the
   token's codes and scales are the same. -/
module

public import proofs.«01_k».proof.Proof.Agree
public import proofs.«01_k».proof.Proof.Tokens
public import proofs.«01_k».proof.Proof.Mask

@[expose] public section

set_option maxRecDepth 16384

noncomputable section

namespace Cert.Rows

open Cert.KernelIdeal Cert.KernelIdeal.Gen Idealize.ShloMosaic Idealize.ShloMosaic.TcCoe Idealize.SL.Sem
open Cert.KernelIdeal.Body Cert.KernelIdeal.Acc Cert.KernelIdeal.Entry Cert.KernelIdeal.Value
open Cert.KernelIdeal.Codes (col)
open Cert.KernelIdeal.Sums (xhB xhat)
open Cert.Agree Cert.Mask Cert.Tokens

/-! ## The normalised activations are ordinary numbers -/

/-- A clamped gain is at least `1/128` in magnitude. -/
theorem gcl_real (g : ℝ) : ∃ v : ℝ, gcl (g : EReal) = (v : EReal) ∧ 1 / 128 ≤ |v| := by
  have e1 : Ideal.ofBits .f32 0x3C23D70A#32 = ((10737418 / 2 ^ 30 : ℝ) : EReal) := by
    simp [Ideal.ofBits, Ideal.ieee, -EReal.coe_mul]; norm_num
  have e2 : Ideal.ofBits .f32 0xBC23D70A#32 = ((-(10737418 / 2 ^ 30) : ℝ) : EReal) := by
    simp [Ideal.ofBits, Ideal.ieee, -EReal.coe_mul]; norm_num
  unfold gcl
  rw [e1, e2]
  split
  · refine ⟨max g (10737418 / 2 ^ 30), (EReal.coe_strictMono.monotone.map_max).symm, ?_⟩
    exact (le_trans (by norm_num) (le_max_right g (10737418 / 2 ^ 30))).trans (le_abs_self _)
  · refine ⟨min g (-(10737418 / 2 ^ 30)), (EReal.coe_strictMono.monotone.map_min).symm, ?_⟩
    exact (le_trans (by norm_num) (neg_le_neg (min_le_right g (-(10737418 / 2 ^ 30))))).trans (neg_le_abs _)

theorem xhat_within (y ys be g : EReal) (hy : Within y 480) (hs : Within ys 1048576) (hb : Within be 1048576) (hg : Within g 1048576) :
    Within (Ideal.div (y * ys - be) (gcl g)) (2 ^ 36) := by
  obtain ⟨y, rfl, hy⟩ := hy
  obtain ⟨ys, rfl, hs⟩ := hs
  obtain ⟨be, rfl, hb⟩ := hb
  obtain ⟨g, rfl, hg⟩ := hg
  obtain ⟨v, hv, hv'⟩ := gcl_real g
  have hne : (v : EReal) ≠ 0 := hv ▸ gcl_ne _
  refine ⟨(y * ys - be) * v⁻¹, ?_, ?_⟩
  · rw [hv]
    unfold Ideal.div
    rw [if_neg hne]
    push_cast
    rfl
  · have h1 : |y * ys| ≤ 480 * 1048576 := by
      rw [abs_mul]
      exact mul_le_mul hy hs (abs_nonneg _) (by norm_num)
    have h2 : |y * ys - be| ≤ 480 * 1048576 + 1048576 := (abs_sub _ _).trans (add_le_add h1 hb)
    have h3 : |v⁻¹| ≤ 128 := by
      rw [abs_inv]
      exact inv_le_of_inv_le₀ (by norm_num) (by rw [← one_div]; exact hv')
    rw [abs_mul]
    exact (mul_le_mul h2 h3 (abs_nonneg _) (by norm_num)).trans (by norm_num)

/-! ## The kernel's block of a point -/

variable (m : (ℓ : Loc nD τ sig) → Buf (Elt Ideal) ℓ) (c : Dev nD)

theorem row_lt (t : Fin cfg0.N) (p : Fin 32) : 32 * t.val + p.val < 1536 := by
  have := t.isLt; have := p.isLt; have : cfg0.N = 48 := N_0
  omega

/-- The kernel's codes of one token. -/
theorem codesK (t : Fin cfg0.N) (p : Fin 32) (j : Fin 20480) : G10 m c (ix2 (⟨32 * t.val + p.val, row_lt t p⟩ : Fin 1536) j)
    = coArr (iblk m c 0 t) (iblk m c 1 t) (iblk m c 2 t) (iblk m c 3 t) (iblk m c 4 t) (iblk m c 5 t) (iblk m c 6 t) (iblk m c 7 t) (ix2 p j) := by
  have hp : pt10Of (ix2 (⟨32 * t.val + p.val, row_lt t p⟩ : Fin 1536) j) = t.val := by
    show 1 * ((32 * t.val + p.val) / 32 - 0) + 1 * (j.val / 20480 - 0) = t.val
    omega
  have hl : loc10Of (ix2 (⟨32 * t.val + p.val, row_lt t p⟩ : Fin 1536) j) = ix2 p j := by
    funext a; apply Fin.ext
    match a with
    | ⟨0, _⟩ => show (32 * t.val + p.val) % 32 = p.val; omega
    | ⟨1, _⟩ => show j.val % 20480 = j.val; omega
  unfold G10
  rw [dif_pos (by rw [hp]; exact t.isLt), hl, fold0_congr m c _ _ _ (by have := t.isLt; omega) hp, ← codes_eq, outsAt0_sweep m c t.val t.isLt]

/-- The kernel's scales of one token. -/
theorem scalesK (t : Fin cfg0.N) (p : Fin 32) (j : Fin 160) : G11 m c (ix2 (⟨32 * t.val + p.val, row_lt t p⟩ : Fin 1536) j)
    = scArr (iblk m c 0 t) (iblk m c 1 t) (iblk m c 2 t) (iblk m c 3 t) (iblk m c 4 t) (iblk m c 5 t) (iblk m c 6 t) (iblk m c 7 t) (ix2 p j) := by
  have hp : pt11Of (ix2 (⟨32 * t.val + p.val, row_lt t p⟩ : Fin 1536) j) = t.val := by
    show 1 * ((32 * t.val + p.val) / 32 - 0) + 1 * (j.val / 160 - 0) = t.val
    omega
  have hl : loc11Of (ix2 (⟨32 * t.val + p.val, row_lt t p⟩ : Fin 1536) j) = ix2 p j := by
    funext a; apply Fin.ext
    match a with
    | ⟨0, _⟩ => show (32 * t.val + p.val) % 32 = p.val; omega
    | ⟨1, _⟩ => show j.val % 160 = j.val; omega
  unfold G11
  rw [dif_pos (by rw [hp]; exact t.isLt), hl, fold0_congr m c _ _ _ (by have := t.isLt; omega) hp, ← scales_eq, outsAt0_sweep m c t.val t.isLt]

/-! ## The two programs -/

variable (y : IVec S3x512x20480 8) (a1 : Vec Ideal S3x512x160 .f32) (q : IVec S3x512x20480 8) (a3 a4 : Vec Ideal S3x512 .f32) (a5 a6 : Vec Ideal S20480 .f32)
  (h0 : m ((c : Thread nD τ).loc main_arg0) = y) (h1 : m ((c : Thread nD τ).loc main_arg1) = a1) (h2 : m ((c : Thread nD τ).loc main_arg2) = q)
  (h3 : m ((c : Thread nD τ).loc main_arg3) = a3) (h4 : m ((c : Thread nD τ).loc main_arg4) = a4)
  (h5 : m ((c : Thread nD τ).loc main_arg5) = a5) (h6 : m ((c : Thread nD τ).loc main_arg6) = a6)

include h0 h1 h2 h3 h4 h5 h6 in
/-- A token the condition holds of has ordinary data in both programs. -/
theorem ordinary (t : Fin cfg0.N) (p : Fin 32) (hs : Says y a1 q a3 a4 a5 a6 (tb t p) (ts t p)) :
    ∃ (Q X G : Fin 20480 → ℝ) (S R : ℝ), Ordinary (bitcastToFloat (F := Ideal) .fp8e4m3 y) a1 (bitcastToFloat (F := Ideal) .fp8e5m2 q) a3 a4 a5 a6 (tb t p) (ts t p)
      (iblk m c 0 t) (iblk m c 1 t) (iblk m c 2 t) (iblk m c 3 t) (iblk m c 4 t) (iblk m c 5 t) (iblk m c 6 t) (iblk m c 7 t) p Q X G S R := by
  have hx : ∀ j, Within (Cert.ReferenceIdeal.Gen.k0_pay4 (F := Ideal) (bitcastToFloat (F := Ideal) .fp8e4m3 y) a1 a5 a6 (ix3 (tb t p) (ts t p) j)) (2 ^ 36) := fun j => by
    rw [Cert.ReferenceIdeal.Sums.pay4_at, gcR_at]
    exact xhat_within _ _ _ _ (hs.y_in j) (hs.ys_in _) (hs.be_in j) (hs.ga_in j)
  have hq : ∀ j, Within (bitcastToFloat (F := Ideal) .fp8e5m2 q (ix3 (tb t p) (ts t p) j)) (2 ^ 16) := hs.q_in
  choose Q q_eq q_le using hq
  choose X x_eq x_le using hx
  choose G g_eq g_le using hs.ga_in
  obtain ⟨S, s_eq, s_le⟩ := hs.s_in
  obtain ⟨R, r_eq, r_le⟩ := hs.r_in
  refine ⟨Q, X, G, S, R, q_eq, x_eq, g_eq, s_eq, r_eq, q_le, x_le, fun j => (g_le j).trans (by norm_num), ?_, fun j => ?_, fun j => ?_, fun j => ?_, ?_, ?_⟩
  · have h := hs.sr_in
    rw [s_eq, r_eq, ← EReal.coe_mul, Cert.Token.mag_coe] at h
    exact_mod_cast h
  · rw [iblk2, h2]
  · rw [← xhat_eq]
    unfold xhB xhat
    rw [iblk0, iblk1, iblk7, iblk6 m c t j a5 h5, h0, h1, h6]
  · rw [iblk5, h5]
  · rw [iblk3, h3]
  · rw [iblk4, h4]

theorem pay15_eq (a0 : Vec Ideal S3x512x20480 .fp8e4m3) (a2 : Vec Ideal S3x512x20480 .fp8e5m2) :
    Cert.ReferenceIdeal.Gen.k0_pay15 (F := Ideal) a0 a1 a2 a3 a4 a5 a6 = Cert.ReferenceIdeal.Gen.k0_pay5 a2 a3 a5 := by
  unfold Cert.ReferenceIdeal.Gen.k0_pay15
  rw [View.ld_unit_zero (S := Cert.ReferenceIdeal.S3x512x20480) z3, View.ld_unit_zero (S := Cert.ReferenceIdeal.S3x512) z2, View.ld_unit_zero (S := Cert.ReferenceIdeal.S20480) z1]

theorem pay16_eq (a0 : Vec Ideal S3x512x20480 .fp8e4m3) (a2 : Vec Ideal S3x512x20480 .fp8e5m2) :
    Cert.ReferenceIdeal.Gen.k0_pay16 (F := Ideal) a0 a1 a2 a3 a4 a5 a6 = Cert.ReferenceIdeal.Gen.k0_pay6 a2 a3 a5 := by
  unfold Cert.ReferenceIdeal.Gen.k0_pay16
  rw [View.ld_unit_zero (S := Cert.ReferenceIdeal.S3x512x20480) z3, View.ld_unit_zero (S := Cert.ReferenceIdeal.S3x512) z2, View.ld_unit_zero (S := Cert.ReferenceIdeal.S20480) z1]

theorem pay17_eq (a0 : Vec Ideal S3x512x20480 .fp8e4m3) (a2 : Vec Ideal S3x512x20480 .fp8e5m2) :
    Cert.ReferenceIdeal.Gen.k0_pay17 (F := Ideal) a0 a1 a2 a3 a4 a5 a6 = Cert.ReferenceIdeal.Gen.k0_pay7 a0 a1 a2 a3 a5 a6 := by
  unfold Cert.ReferenceIdeal.Gen.k0_pay17
  rw [View.ld_unit_zero (S := Cert.ReferenceIdeal.S3x512x20480) z3, View.ld_unit_zero (S := Cert.ReferenceIdeal.S3x512x160) z3,
    View.ld_unit_zero (S := Cert.ReferenceIdeal.S3x512x20480) z3, View.ld_unit_zero (S := Cert.ReferenceIdeal.S3x512) z2,
    View.ld_unit_zero (S := Cert.ReferenceIdeal.S20480) z1, View.ld_unit_zero (S := Cert.ReferenceIdeal.S20480) z1]

theorem row_eq (t : Fin cfg0.N) (p : Fin 32) : (⟨512 * (tb t p).val + (ts t p).val, by omega⟩ : Fin 1536) = ⟨32 * t.val + p.val, row_lt t p⟩ :=
  Fin.ext (by show 512 * ((32 * t.val + p.val) / 512) + (32 * t.val + p.val) % 512 = 32 * t.val + p.val; omega)

include h0 h1 h2 h3 h4 h5 h6 in
/-- The codes of one token. -/
theorem codes_row (t : Fin cfg0.N) (p : Fin 32) (hs : Says y a1 q a3 a4 a5 a6 (tb t p) (ts t p)) (k : Fin 160) (l : Fin 128) :
    Cert.ReferenceIdeal.Value.G9 (F := Ideal) (bitcastToFloat (F := Ideal) .fp8e4m3 y) a1 (bitcastToFloat (F := Ideal) .fp8e5m2 q) a3 a4 a5 a6 (ix2 (⟨32 * t.val + p.val, row_lt t p⟩ : Fin 1536) (col k l))
      = G10 m c (ix2 (⟨32 * t.val + p.val, row_lt t p⟩ : Fin 1536) (col k l)) := by
  obtain ⟨Q, X, G, S, R, h⟩ := ordinary m c y a1 q a3 a4 a5 a6 h0 h1 h2 h3 h4 h5 h6 t p hs
  rw [codesK, ← row_eq]
  refine Eq.trans ?_ (code_eq h k l)
  unfold Cert.ReferenceIdeal.Value.G9
  rw [pay14_eq, pay15_eq, pay16_eq, pay17_eq]

include h0 h1 h2 h3 h4 h5 h6 in
/-- The scales of one token. -/
theorem scales_row (t : Fin cfg0.N) (p : Fin 32) (hs : Says y a1 q a3 a4 a5 a6 (tb t p) (ts t p)) (k : Fin 160) :
    Cert.ReferenceIdeal.Value.G10 (F := Ideal) (bitcastToFloat (F := Ideal) .fp8e4m3 y) a1 (bitcastToFloat (F := Ideal) .fp8e5m2 q) a3 a4 a5 a6 (ix2 (⟨32 * t.val + p.val, row_lt t p⟩ : Fin 1536) k)
      = G11 m c (ix2 (⟨32 * t.val + p.val, row_lt t p⟩ : Fin 1536) k) := by
  obtain ⟨Q, X, G, S, R, h⟩ := ordinary m c y a1 q a3 a4 a5 a6 h0 h1 h2 h3 h4 h5 h6 t p hs
  rw [scalesK, ← row_eq]
  refine Eq.trans ?_ (scale_eq h k)
  unfold Cert.ReferenceIdeal.Value.G10
  rw [pay14_eq, pay15_eq, pay16_eq, pay17_eq]

/-! ## From any index -/

theorem pt_lt (i : Fin 1536) : i.val / 32 < cfg0.N := by
  have : cfg0.N = 48 := N_0
  omega
/-- The point that a row of the results belongs to, and the row's place in the point's block. -/
abbrev pt (i : Fin 1536) : Fin cfg0.N := ⟨i.val / 32, pt_lt i⟩
abbrev pl (i : Fin 1536) : Fin 32 := ⟨i.val % 32, Nat.mod_lt _ (by decide)⟩

theorem row_split (i : Fin 1536) : i = ⟨32 * (pt i).val + (pl i).val, row_lt (pt i) (pl i)⟩ :=
  Fin.ext (by show i.val = 32 * (i.val / 32) + i.val % 32; omega)

theorem col_split (j : Fin 20480) : j = col ⟨j.val / 128, by omega⟩ ⟨j.val % 128, Nat.mod_lt _ (by decide)⟩ :=
  Fin.ext (by show j.val = 128 * (j.val / 128) + j.val % 128; omega)

variable [Cert.On_ordinary.Facts]

include h0 h1 h2 h3 h4 h5 h6 in
/-- The codes of the two programs, wherever the condition holds. -/
theorem codes_eq_of (i : Fin 1536) (j : Fin 20480) (hi : (Cert.On_ordinary.fn (F := Ideal) y a1 q a3 a4 a5 a6).2.2.1 (ix2 i j) = 1#1) :
    Cert.ReferenceIdeal.Value.G9 (F := Ideal) (bitcastToFloat (F := Ideal) .fp8e4m3 y) a1 (bitcastToFloat (F := Ideal) .fp8e5m2 q) a3 a4 a5 a6 (ix2 i j) = G10 m c (ix2 i j) := by
  rw [row_split i, ← row_eq, Cert.Mask.codes_at] at hi
  rw [row_split i, col_split j]
  exact codes_row m c y a1 q a3 a4 a5 a6 h0 h1 h2 h3 h4 h5 h6 _ _ (says_of_tok _ _ _ _ _ _ _ _ _ hi) _ _

include h0 h1 h2 h3 h4 h5 h6 in
/-- The scales of the two programs, wherever the condition holds. -/
theorem scales_eq_of (i : Fin 1536) (k : Fin 160) (hi : (Cert.On_ordinary.fn (F := Ideal) y a1 q a3 a4 a5 a6).2.2.2 (ix2 i k) = 1#1) :
    Cert.ReferenceIdeal.Value.G10 (F := Ideal) (bitcastToFloat (F := Ideal) .fp8e4m3 y) a1 (bitcastToFloat (F := Ideal) .fp8e5m2 q) a3 a4 a5 a6 (ix2 i k) = G11 m c (ix2 i k) := by
  rw [row_split i, ← row_eq, Cert.Mask.scales_at] at hi
  rw [row_split i]
  exact scales_row m c y a1 q a3 a4 a5 a6 h0 h1 h2 h3 h4 h5 h6 _ _ (says_of_tok _ _ _ _ _ _ _ _ _ hi) _

end Cert.Rows

end
-- ==== Proof.Results.lean ====
/- The kernel's four results are the reference's over the extended reals: dgamma and dbeta from any arguments, the codes and
   the scales of a token wherever its data are ordinary numbers. -/
module

public import proofs.«01_k».proof.Defs
public import proofs.«01_k».proof.Proof.Rows

@[expose] public section

set_option maxRecDepth 16384

noncomputable section

namespace Cert.Results

open Idealize.ShloMosaic Idealize.ShloMosaic.TcCoe Idealize.SL.Sem

theorem facts : Cert.On_ordinary.Facts where
  natLt_8_32 := by decide
  bcast_S_S3x512x20480 := by decide
  reducesTo_S3x512x20480_S3x512_d2 := by decide
  h_S_ := by decide
  bcast_S_S3x512x160 := by decide
  reducesTo_S3x512x160_S3x512_d2 := by decide
  bcast_S_S3x512 := by decide
  bcast_S_S20480 := by decide
  reducesTo_S20480_S_d0 := by decide
  shapeCasts_S3x512_S1536x1 := by decide
  bcast_S_S1x20480 := by decide
  bcast_S1536x1_S1536x20480_0_1 := by decide
  bcast_S1536x1_S1536x160_0_1 := by decide

attribute [local instance] facts

theorem idx2 {a b : ℕ} (i : (⟨2, ![a, b]⟩ : Shape).Idx) : i = ix2 (i 0 : Fin a) (i 1 : Fin b) := by
  funext x
  match x with
  | ⟨0, _⟩ => rfl
  | ⟨1, _⟩ => rfl

theorem algebraic : Cert.algebraic_KernelIdeal_ReferenceIdeal_on_ordinary (hKernelIdeal := Cert.KernelIdeal.Gen.facts)
    (hReferenceIdeal := Cert.ReferenceIdeal.Gen.facts) (hOn_ordinary := facts) := by
  intro m ρ m' ρ' _ hagree
  refine ⟨fun c => Cert.KernelIdeal.Value.G8 m c, fun c => Cert.KernelIdeal.Value.G9 m c, fun c => Cert.KernelIdeal.Value.G10 m c,
    fun c => Cert.KernelIdeal.Value.G11 m c, ?_, ?_⟩
  · exact (θ_run Cert.KernelIdeal.defs _ _).mono
      (fun _ h c => ⟨fun i _ => congrFun (h c).1 i, fun i _ => congrFun (h c).2.1 i, fun i _ => congrFun (h c).2.2.1 i,
        fun i _ => congrFun (h c).2.2.2.1 i, (h c).2.2.2.2⟩) (Cert.KernelIdeal.Value.run (F := Ideal) m ρ)
  · refine (θ_run Cert.ReferenceIdeal.defs _ _).mono (fun _ h c => ?_) (Cert.ReferenceIdeal.Value.run (F := Ideal) m' ρ')
    obtain ⟨g0, g1, g2, g3, g4, g5, g6⟩ := hagree c
    refine ⟨fun i _ => congrFun ((h c).1.trans ?_) i, fun i _ => congrFun ((h c).2.1.trans ?_) i, fun i hi => (congrFun (h c).2.2.1 i).trans ?_,
      fun i hi => (congrFun (h c).2.2.2.1 i).trans ?_, (h c).2.2.2.2⟩
    · exact Cert.Agree.dgamma_eq _ _ _ _ _ _ _ m c (congrArg _ g0.symm) g1.symm (congrArg _ g2.symm) g3.symm g5.symm g6.symm
    · exact Cert.Agree.dbeta_eq _ _ _ _ _ _ _ m c (congrArg _ g2.symm) g3.symm
    · rw [idx2 i, ← g0, ← g1, ← g2, ← g3, ← g4, ← g5, ← g6] at hi
      rw [idx2 i]
      exact Cert.Rows.codes_eq_of m c _ _ _ _ _ _ _ g0.symm g1.symm g2.symm g3.symm g4.symm g5.symm g6.symm _ _ hi
    · rw [idx2 i, ← g0, ← g1, ← g2, ← g3, ← g4, ← g5, ← g6] at hi
      rw [idx2 i]
      exact Cert.Rows.scales_eq_of m c _ _ _ _ _ _ _ g0.symm g1.symm g2.symm g3.symm g4.symm g5.symm g6.symm _ _ hi

end Cert.Results

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelHand.Frame
public import proofs.«01_k».proof.Proof.KernelIdealHand.Frame
public import Idealize.ShloMosaic.Adequacy
public import proofs.«01_k».proof.Proof.Results
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Results.facts,
  fun m ρ _ => Cert.Kernel.Gen.frame m ρ, fun m ρ _ => Cert.KernelIdeal.Gen.frame m ρ,
  fun m ρ _ => Cert.ReferenceIdeal.Gen.frame m ρ,
  IdealRules.named_const.statement Cert.KernelIdeal.κ "inv_d" .f32 0x384CCCCD#32 ((1 / 20480 : ℝ) : EReal) rfl,
  Cert.Results.algebraic⟩

end Cert.Proof

end
